-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkc [hPre_finite_qkc : Cert.Pre_finite_qkc.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkc.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkc [hPre_finite_qkc : Cert.Pre_finite_qkc.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkc.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qkc [hKernelIdeal : Cert.KernelIdeal.Facts] [hPre_finite_qkc : Cert.Pre_finite_qkc.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkc m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qkc [hReferenceIdeal : Cert.ReferenceIdeal.Facts] [hPre_finite_qkc : Cert.Pre_finite_qkc.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkc m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite_qkc [hKernelIdeal : Cert.KernelIdeal.Facts] [hReferenceIdeal : Cert.ReferenceIdeal.Facts] [hPre_finite_qkc : Cert.Pre_finite_qkc.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkc m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v93_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v93_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v176) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_qkc : Cert.Pre_finite_qkc.Facts),
    quiescent_Kernel (hKernel := hKernel)
    ∧ quiescent_KernelIdeal (hKernelIdeal := hKernelIdeal)
    ∧ quiescent_KernelIdeal_pre_finite_qkc (hKernelIdeal := hKernelIdeal) (hPre_finite_qkc := hPre_finite_qkc)
    ∧ quiescent_ReferenceIdeal (hReferenceIdeal := hReferenceIdeal)
    ∧ quiescent_ReferenceIdeal_pre_finite_qkc (hReferenceIdeal := hReferenceIdeal) (hPre_finite_qkc := hPre_finite_qkc)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_qkc (hKernelIdeal := hKernelIdeal) (hReferenceIdeal := hReferenceIdeal) (hPre_finite_qkc := hPre_finite_qkc)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_qkc.lean ====
abbrev S8x4096x4x64 : Shape := ⟨4, ![8, 4096, 4, 64]⟩
abbrev S8x4x4096 : Shape := ⟨3, ![8, 4, 4096]⟩
abbrev S256 : Shape := ⟨1, ![256]⟩
abbrev S_ : Shape := ⟨0, ![]⟩

class Facts : Prop where
  bcast_S_S8x4096x4x64 : S_.BroadcastsInDim S8x4096x4x64 (![] : Fin 0 → Fin S8x4096x4x64.rank)
  reducesTo_S8x4096x4x64_S_d0_1_2_3 : S8x4096x4x64.ReducesTo [0, 1, 2, 3] S_
  h_S_ : 0 < S_.numel
  bcast_S_S8x4x4096 : S_.BroadcastsInDim S8x4x4096 (![] : Fin 0 → Fin S8x4x4096.rank)
  reducesTo_S8x4x4096_S_d0_1_2 : S8x4x4096.ReducesTo [0, 1, 2] S_

variable [Facts]

def fn {F : FTy → Type} [FloatOps F] (main_arg0 : FVec F S8x4096x4x64 .f32) (main_arg1 : FVec F S8x4096x4x64 .f32) (main_arg2 : FVec F S8x4096x4x64 .f32) (main_arg3 : FVec F S8x4x4096 .f32) (main_arg4 : FVec F S256 .f32) : IVec S_ 1 :=
  let main_v0 : FVec F S8x4096x4x64 .f32 := Host.absf main_arg0
  let main_cst : FVec F S_ .f32 := constant S_ .f32 0x7F800000#32
  let main_v1 : FVec F S8x4096x4x64 .f32 := broadcastInDim S8x4096x4x64 ![] bcast_S_S8x4096x4x64 main_cst
  let main_v2 : IVec S8x4096x4x64 1 := cmpf .olt main_v0 main_v1
  let main_c : IVec S_ 1 := constantI S_ 1 1#1
  let main_v3 : IVec S_ 1 := (fun x v => Host.reduce IntOp.andi x v reducesTo_S8x4096x4x64_S_d0_1_2_3 h_S_) main_v2 main_c
  let main_v4 : FVec F S8x4096x4x64 .f32 := Host.absf main_arg1
  let main_cst_0 : FVec F S_ .f32 := constant S_ .f32 0x7F800000#32
  let main_v5 : FVec F S8x4096x4x64 .f32 := broadcastInDim S8x4096x4x64 ![] bcast_S_S8x4096x4x64 main_cst_0
  let main_v6 : IVec S8x4096x4x64 1 := cmpf .olt main_v4 main_v5
  let main_c_1 : IVec S_ 1 := constantI S_ 1 1#1
  let main_v7 : IVec S_ 1 := (fun x v => Host.reduce IntOp.andi x v reducesTo_S8x4096x4x64_S_d0_1_2_3 h_S_) main_v6 main_c_1
  let main_v8 : IVec S_ 1 := andi main_v3 main_v7
  let main_v9 : FVec F S8x4x4096 .f32 := Host.absf main_arg3
  let main_cst_2 : FVec F S_ .f32 := constant S_ .f32 0x7F800000#32
  let main_v10 : FVec F S8x4x4096 .f32 := broadcastInDim S8x4x4096 ![] bcast_S_S8x4x4096 main_cst_2
  let main_v11 : IVec S8x4x4096 1 := cmpf .olt main_v9 main_v10
  let main_c_3 : IVec S_ 1 := constantI S_ 1 1#1
  let main_v12 : IVec S_ 1 := (fun x v => Host.reduce IntOp.andi x v reducesTo_S8x4x4096_S_d0_1_2 h_S_) main_v11 main_c_3
  let main_v13 : IVec S_ 1 := andi main_v8 main_v12
  main_v13
-- ==== Kernel.lean ====
abbrev S8x4096x4x64 : Shape := ⟨4, ![8, 4096, 4, 64]⟩
abbrev S8x4x4096 : Shape := ⟨3, ![8, 4, 4096]⟩
abbrev S256 : Shape := ⟨1, ![256]⟩
abbrev S_ : Shape := ⟨0, ![]⟩
abbrev S8x4x4096x64 : Shape := ⟨4, ![8, 4, 4096, 64]⟩
abbrev S8x4x4096x3 : Shape := ⟨4, ![8, 4, 4096, 3]⟩
abbrev S8x4x4096x61 : Shape := ⟨4, ![8, 4, 4096, 61]⟩
abbrev S8x4x4096x128 : Shape := ⟨4, ![8, 4, 4096, 128]⟩
abbrev S8x4x4096x1 : Shape := ⟨4, ![8, 4, 4096, 1]⟩
abbrev S1x256 : Shape := ⟨2, ![1, 256]⟩
abbrev S8x4096x256 : Shape := ⟨3, ![8, 4096, 256]⟩
abbrev S1x4x1024x128 : Shape := ⟨4, ![1, 4, 1024, 128]⟩
abbrev S1x4x4096x128 : Shape := ⟨4, ![1, 4, 4096, 128]⟩
abbrev S1x1024x256 : Shape := ⟨3, ![1, 1024, 256]⟩
abbrev S1024x1 : Shape := ⟨2, ![1024, 1]⟩
abbrev S1024x128 : Shape := ⟨2, ![1024, 128]⟩
abbrev S1x1x1024x128 : Shape := ⟨4, ![1, 1, 1024, 128]⟩
abbrev S1024x1024 : Shape := ⟨2, ![1024, 1024]⟩
abbrev S1024 : Shape := ⟨1, ![1024]⟩
abbrev S1024x256 : Shape := ⟨2, ![1024, 256]⟩

abbrev nBuf : Space → Nat
  | .hbm => 39
  | .vmem => 9
  | .smem => 0
  | _ => 0

abbrev bufTy : (tb : Table) → Fin (tcTables nBuf tb) → BufTy
  | .hbm, ⟨0, _⟩ => ⟨S8x4096x4x64, .f32⟩
  | .hbm, ⟨1, _⟩ => ⟨S8x4096x4x64, .f32⟩
  | .hbm, ⟨2, _⟩ => ⟨S8x4096x4x64, .f32⟩
  | .hbm, ⟨3, _⟩ => ⟨S8x4x4096, .f32⟩
  | .hbm, ⟨4, _⟩ => ⟨S256, .f32⟩
  | .hbm, ⟨5, _⟩ => ⟨S8x4x4096, .f32⟩
  | .hbm, ⟨6, _⟩ => ⟨S8x4x4096, .bf16⟩
  | .hbm, ⟨7, _⟩ => ⟨S8x4x4096, .f32⟩
  | .hbm, ⟨8, _⟩ => ⟨S8x4x4096, .f32⟩
  | .hbm, ⟨9, _⟩ => ⟨S8x4x4096, .bf16⟩
  | .hbm, ⟨10, _⟩ => ⟨S8x4x4096, .f32⟩
  | .hbm, ⟨11, _⟩ => ⟨S8x4x4096, .f32⟩
  | .hbm, ⟨12, _⟩ => ⟨S8x4x4096, .bf16⟩
  | .hbm, ⟨13, _⟩ => ⟨S8x4x4096, .f32⟩
  | .hbm, ⟨14, _⟩ => ⟨S_, .f32⟩
  | .hbm, ⟨15, _⟩ => ⟨S8x4096x4x64, .f32⟩
  | .hbm, ⟨16, _⟩ => ⟨S8x4096x4x64, .f32⟩
  | .hbm, ⟨17, _⟩ => ⟨S8x4x4096x64, .f32⟩
  | .hbm, ⟨18, _⟩ => ⟨S_, .f32⟩
  | .hbm, ⟨19, _⟩ => ⟨S8x4x4096x3, .f32⟩
  | .hbm, ⟨20, _⟩ => ⟨S_, .f32⟩
  | .hbm, ⟨21, _⟩ => ⟨S8x4x4096x61, .f32⟩
  | .hbm, ⟨22, _⟩ => ⟨S8x4x4096x128, .f32⟩
  | .hbm, ⟨23, _⟩ => ⟨S8x4x4096x64, .f32⟩
  | .hbm, ⟨24, _⟩ => ⟨S8x4x4096x1, .f32⟩
  | .hbm, ⟨25, _⟩ => ⟨S8x4x4096x1, .f32⟩
  | .hbm, ⟨26, _⟩ => ⟨S8x4x4096x1, .f32⟩
  | .hbm, ⟨27, _⟩ => ⟨S_, .f32⟩
  | .hbm, ⟨28, _⟩ => ⟨S8x4x4096x61, .f32⟩
  | .hbm, ⟨29, _⟩ => ⟨S8x4x4096x128, .f32⟩
  | .hbm, ⟨30, _⟩ => ⟨S8x4x4096x64, .f32⟩
  | .hbm, ⟨31, _⟩ => ⟨S_, .f32⟩
  | .hbm, ⟨32, _⟩ => ⟨S8x4x4096x64, .f32⟩
  | .hbm, ⟨33, _⟩ => ⟨S8x4x4096x128, .f32⟩
  | .hbm, ⟨34, _⟩ => ⟨S8x4x4096x128, .bf16⟩
  | .hbm, ⟨35, _⟩ => ⟨S8x4x4096x128, .bf16⟩
  | .hbm, ⟨36, _⟩ => ⟨S8x4x4096x128, .bf16⟩
  | .hbm, ⟨37, _⟩ => ⟨S1x256, .f32⟩
  | .hbm, ⟨38, _⟩ => ⟨S8x4096x256, .bf16⟩
  | .local _ .vmem, ⟨0, _⟩ => ⟨S1x4x1024x128, .bf16⟩
  | .local _ .vmem, ⟨1, _⟩ => ⟨S1x4x1024x128, .bf16⟩
  | .local _ .vmem, ⟨2, _⟩ => ⟨S1x4x4096x128, .bf16⟩
  | .local _ .vmem, ⟨3, _⟩ => ⟨S1x4x4096x128, .bf16⟩
  | .local _ .vmem, ⟨4, _⟩ => ⟨S1x4x4096x128, .bf16⟩
  | .local _ .vmem, ⟨5, _⟩ => ⟨S1x4x4096x128, .bf16⟩
  | .local _ .vmem, ⟨6, _⟩ => ⟨S1x256, .f32⟩
  | .local _ .vmem, ⟨7, _⟩ => ⟨S1x1024x256, .bf16⟩
  | .local _ .vmem, ⟨8, _⟩ => ⟨S1x1024x256, .bf16⟩
  | _, _ => ⟨S8x4096x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  ⟨c0_i32, v12, c1_i32_7⟩
def k0_mult1 (i : grid0.Coords) (k0_t1 : Fin (k0_t1_loop i).trips) : BitVec 32 :=
  let c0_i32 : BitVec 32 := 0#32
  let c1_i32_7 : BitVec 32 := 1#32
  let arg7 : BitVec 32 := Scf.iv c0_i32 c1_i32_7 k0_t1
  let c1024_i32_77 : BitVec 32 := 1024#32
  let v165 : BitVec 32 := Scalar.muli arg7 c1024_i32_77
  v165
def k0_off1 (i : grid0.Coords) (k0_t1 : Fin (k0_t1_loop i).trips) : Fin 4 → Nat :=
  let c0_82 : Index := 0#32
  let c0_83 : Index := 0#32
  let c0_i32 : BitVec 32 := 0#32
  let c1_i32_7 : BitVec 32 := 1#32
  let arg7 : BitVec 32 := Scf.iv c0_i32 c1_i32_7 k0_t1
  let c1024_i32_77 : BitVec 32 := 1024#32
  let v165 : BitVec 32 := Scalar.muli arg7 c1024_i32_77
  let v166 : BitVec 32 := v165
  let v169 : Index := Scalar.indexCast v166
  let c0_84 : Index := 0#32
  ![0, 0, v169.toNat, 0]
def k0_off2 (i : grid0.Coords) (k0_t1 : Fin (k0_t1_loop i).trips) : Fin 4 → Nat :=
  let c0_96 : Index := 0#32
  let c1_97 : Index := 1#32
  let c0_i32 : BitVec 32 := 0#32
  let c1_i32_7 : BitVec 32 := 1#32
  let arg7 : BitVec 32 := Scf.iv c0_i32 c1_i32_7 k0_t1
  let c1024_i32_77 : BitVec 32 := 1024#32
  let v165 : BitVec 32 := Scalar.muli arg7 c1024_i32_77
  let v166 : BitVec 32 := v165
  let v193 : Index := Scalar.indexCast v166
  let c0_98 : Index := 0#32
  ![0, 1, v193.toNat, 0]
def k0_off3 (i : grid0.Coords) (k0_t1 : Fin (k0_t1_loop i).trips) : Fin 4 → Nat :=
  let c0_110 : Index := 0#32
  let c2_111 : Index := 2#32
  let c0_i32 : BitVec 32 := 0#32
  let c1_i32_7 : BitVec 32 := 1#32
  let arg7 : BitVec 32 := Scf.iv c0_i32 c1_i32_7 k0_t1
  let c1024_i32_77 : BitVec 32 := 1024#32
  let v165 : BitVec 32 := Scalar.muli arg7 c1024_i32_77
  let v166 : BitVec 32 := v165
  let v217 : Index := Scalar.indexCast v166
  let c0_112 : Index := 0#32
  ![0, 2, v217.toNat, 0]
def k0_off4 (i : grid0.Coords) (k0_t1 : Fin (k0_t1_loop i).trips) : Fin 4 → Nat :=
  let c0_124 : Index := 0#32
  let c3_125 : Index := 3#32
  let c0_i32 : BitVec 32 := 0#32
  let c1_i32_7 : BitVec 32 := 1#32
  let arg7 : BitVec 32 := Scf.iv c0_i32 c1_i32_7 k0_t1
  let c1024_i32_77 : BitVec 32 := 1024#32
  let v165 : BitVec 32 := Scalar.muli arg7 c1024_i32_77
  let v166 : BitVec 32 := v165
  let v241 : Index := Scalar.indexCast v166
  let c0_126 : Index := 0#32
  ![0, 3, v241.toNat, 0]
@[reducible] def k0_t2_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_8 : BitVec 32 := 1#32
  ⟨v12, v9, c1_i32_8⟩
def k0_mult2 (i : grid0.Coords) (k0_t2 : Fin (k0_t2_loop i).trips) : BitVec 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c1024_i32_77 : BitVec 32 := 1024#32
  let v165 : BitVec 32 := Scalar.muli arg7 c1024_i32_77
  v165
def k0_off5 (i : grid0.Coords) (k0_t2 : Fin (k0_t2_loop i).trips) : Fin 4 → Nat :=
  let c0_82 : Index := 0#32
  let c0_83 : Index := 0#32
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c1024_i32_77 : BitVec 32 := 1024#32
  let v165 : BitVec 32 := Scalar.muli arg7 c1024_i32_77
  let v166 : BitVec 32 := v165
  let v169 : Index := Scalar.indexCast v166
  let c0_84 : Index := 0#32
  ![0, 0, v169.toNat, 0]
def k0_off6 (i : grid0.Coords) (k0_t2 : Fin (k0_t2_loop i).trips) : Fin 4 → Nat :=
  let c0_96 : Index := 0#32
  let c1_97 : Index := 1#32
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c1024_i32_77 : BitVec 32 := 1024#32
  let v165 : BitVec 32 := Scalar.muli arg7 c1024_i32_77
  let v166 : BitVec 32 := v165
  let v193 : Index := Scalar.indexCast v166
  let c0_98 : Index := 0#32
  ![0, 1, v193.toNat, 0]
def k0_off7 (i : grid0.Coords) (k0_t2 : Fin (k0_t2_loop i).trips) : Fin 4 → Nat :=
  let c0_110 : Index := 0#32
  let c2_111 : Index := 2#32
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c1024_i32_77 : BitVec 32 := 1024#32
  let v165 : BitVec 32 := Scalar.muli arg7 c1024_i32_77
  let v166 : BitVec 32 := v165
  let v217 : Index := Scalar.indexCast v166
  let c0_112 : Index := 0#32
  ![0, 2, v217.toNat, 0]
def k0_off8 (i : grid0.Coords) (k0_t2 : Fin (k0_t2_loop i).trips) : Fin 4 → Nat :=
  let c0_124 : Index := 0#32
  let c3_125 : Index := 3#32
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_8 : BitVec 32 := 1#32
  let arg7 : BitVec 32 := Scf.iv v12 c1_i32_8 k0_t2
  let c1024_i32_77 : BitVec 32 := 1024#32
  let v165 : BitVec 32 := Scalar.muli arg7 c1024_i32_77
  let v166 : BitVec 32 := v165
  let v241 : Index := Scalar.indexCast v166
  let c0_126 : Index := 0#32
  ![0, 3, v241.toNat, 0]
def k0_mult3 (i : grid0.Coords) : BitVec 32 :=
  let arg1 : BitVec 32 := BitVec.ofNat 32 (i 1).val
  let c1024_i32 : BitVec 32 := 1024#32
  let v15 : BitVec 32 := Scalar.muli arg1 c1024_i32
  v15
def k0_off9 (i : grid0.Coords) : Fin 4 → Nat :=
  let c0_12 : Index := 0#32
  let c0_13 : Index := 0#32
  let arg1 : BitVec 32 := BitVec.ofNat 32 (i 1).val
  let c1024_i32 : BitVec 32 := 1024#32
  let v15 : BitVec 32 := Scalar.muli arg1 c1024_i32
  let v16 : BitVec 32 := v15
  let v19 : Index := Scalar.indexCast v16
  let c0_14 : Index := 0#32
  ![0, 0, v19.toNat, 0]
def k0_off10 (i : grid0.Coords) : Fin 4 → Nat :=
  let c0_26 : Index := 0#32
  let c1_27 : Index := 1#32
  let arg1 : BitVec 32 := BitVec.ofNat 32 (i 1).val
  let c1024_i32 : BitVec 32 := 1024#32
  let v15 : BitVec 32 := Scalar.muli arg1 c1024_i32
  let v16 : BitVec 32 := v15
  let v48 : Index := Scalar.indexCast v16
  let c0_28 : Index := 0#32
  ![0, 1, v48.toNat, 0]
def k0_off11 (i : grid0.Coords) : Fin 4 → Nat :=
  let c0_40 : Index := 0#32
  let c2_41 : Index := 2#32
  let arg1 : BitVec 32 := BitVec.ofNat 32 (i 1).val
  let c1024_i32 : BitVec 32 := 1024#32
  let v15 : BitVec 32 := Scalar.muli arg1 c1024_i32
  let v16 : BitVec 32 := v15
  let v77 : Index := Scalar.indexCast v16
  let c0_42 : Index := 0#32
  ![0, 2, v77.toNat, 0]
def k0_off12 (i : grid0.Coords) : Fin 4 → Nat :=
  let c0_54 : Index := 0#32
  let c3_55 : Index := 3#32
  let arg1 : BitVec 32 := BitVec.ofNat 32 (i 1).val
  let c1024_i32 : BitVec 32 := 1024#32
  let v15 : BitVec 32 := Scalar.muli arg1 c1024_i32
  let v16 : BitVec 32 := v15
  let v106 : Index := Scalar.indexCast v16
  let c0_56 : Index := 0#32
  ![0, 3, v106.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x4096x4x64 : Shape := ⟨4, ![8, 4096, 4, 64]⟩
abbrev S8x4x4096 : Shape := ⟨3, ![8, 4, 4096]⟩
abbrev S256 : Shape := ⟨1, ![256]⟩
abbrev S4096 : Shape := ⟨1, ![4096]⟩
abbrev S8x4x4096x4096 : Shape := ⟨4, ![8, 4, 4096, 4096]⟩
abbrev S_ : Shape := ⟨0, ![]⟩
abbrev S8x4x4096x1 : Shape := ⟨4, ![8, 4, 4096, 1]⟩
abbrev S8x4x1x4096 : Shape := ⟨4, ![8, 4, 1, 4096]⟩
abbrev S1x4096 : Shape := ⟨2, ![1, 4096]⟩
abbrev S4096x1 : Shape := ⟨2, ![4096, 1]⟩
abbrev S4096x4096 : Shape := ⟨2, ![4096, 4096]⟩
abbrev S8x4x64x4096 : Shape := ⟨4, ![8, 4, 64, 4096]⟩
abbrev S8x4096x256 : Shape := ⟨3, ![8, 4096, 256]⟩
abbrev S8x4096 : Shape := ⟨2, ![8, 4096]⟩
abbrev S8x4096x1 : Shape := ⟨3, ![8, 4096, 1]⟩
abbrev S1x1x256 : Shape := ⟨3, ![1, 1, 256]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x4x64, .f32⟩
  | .hbm, ⟨1, _⟩ => ⟨S8x4096x4x64, .f32⟩
  | .hbm, ⟨2, _⟩ => ⟨S8x4096x4x64, .f32⟩
  | .hbm, ⟨3, _⟩ => ⟨S8x4x4096, .f32⟩
  | .hbm, ⟨4, _⟩ => ⟨S256, .f32⟩
  | .hbm, ⟨5, _⟩ => ⟨S4096, .i32⟩
  | .hbm, ⟨6, _⟩ => ⟨S8x4x4096x4096, .f32⟩
  | .hbm, ⟨7, _⟩ => ⟨S_, .f32⟩
  | .hbm, ⟨8, _⟩ => ⟨S8x4x4096x4096, .f32⟩
  | .hbm, ⟨9, _⟩ => ⟨S8x4x4096x4096, .f32⟩
  | .hbm, ⟨10, _⟩ => ⟨S8x4x4096x1, .f32⟩
  | .hbm, ⟨11, _⟩ => ⟨S8x4x1x4096, .f32⟩
  | .hbm, ⟨12, _⟩ => ⟨S8x4x4096x4096, .f32⟩
  | .hbm, ⟨13, _⟩ => ⟨S8x4x4096x4096, .f32⟩
  | .hbm, ⟨14, _⟩ => ⟨S8x4x4096x4096, .f32⟩
  | .hbm, ⟨15, _⟩ => ⟨S8x4x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S_, .f32⟩
  | .hbm, ⟨23, _⟩ => ⟨S8x4x4096x4096, .i1⟩
  | .hbm, ⟨24, _⟩ => ⟨S8x4x4096x4096, .f32⟩
  | .hbm, ⟨25, _⟩ => ⟨S8x4x4096x4096, .f32⟩
  | .hbm, ⟨26, _⟩ => ⟨S_, .f32⟩
  | .hbm, ⟨27, _⟩ => ⟨S8x4x4096, .f32⟩
  | .hbm, ⟨28, _⟩ => ⟨S_, .f32⟩
  | .hbm, ⟨29, _⟩ => ⟨S8x4x4096, .f32⟩
  | .hbm, ⟨30, _⟩ => ⟨S8x4x4096, .f32⟩
  | .hbm, ⟨31, _⟩ => ⟨S8x4x4096x1, .f32⟩
  | .hbm, ⟨32, _⟩ => ⟨S8x4x4096x4096, .f32⟩
  | .hbm, ⟨33, _⟩ => ⟨S8x4x4096x4096, .f32⟩
  | .hbm, ⟨34, _⟩ => ⟨S8x4x4096x4096, .f32⟩
  | .hbm, ⟨35, _⟩ => ⟨S_, .f32⟩
  | .hbm, ⟨36, _⟩ => ⟨S8x4x4096, .f32⟩
  | .hbm, ⟨37, _⟩ => ⟨S8x4x4096x1, .f32⟩
  | .hbm, ⟨38, _⟩ => ⟨S8x4x4096x4096, .f32⟩
  | .hbm, ⟨39, _⟩ => ⟨S8x4x4096x4096, .f32⟩
  | .hbm, ⟨40, _⟩ => ⟨S_, .f32⟩
  | .hbm, ⟨41, _⟩ => ⟨S_, .f32⟩
  | .hbm, ⟨42, _⟩ => ⟨S8x4x4096x4096, .i1⟩
  | .hbm, ⟨43, _⟩ => ⟨S8x4x4096x4096, .f32⟩
  | .hbm, ⟨44, _⟩ => ⟨S8x4x4096x4096, .f32⟩
  | .hbm, ⟨45, _⟩ => ⟨S8x4x64x4096, .f32⟩
  | .hbm, ⟨46, _⟩ => ⟨S8x4096x4x64, .f32⟩
  | .hbm, ⟨47, _⟩ => ⟨S8x4096x256, .f32⟩
  | .hbm, ⟨48, _⟩ => ⟨S8x4096x256, .f32⟩
  | .hbm, ⟨49, _⟩ => ⟨S_, .f32⟩
  | .hbm, ⟨50, _⟩ => ⟨S8x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S8x4096x1, .f32⟩
  | .hbm, ⟨59, _⟩ => ⟨S8x4096x256, .f32⟩
  | .hbm, ⟨60, _⟩ => ⟨S8x4096x256, .f32⟩
  | .hbm, ⟨61, _⟩ => ⟨S1x1x256, .f32⟩
  | .hbm, ⟨62, _⟩ => ⟨S8x4096x256, .f32⟩
  | .hbm, ⟨63, _⟩ => ⟨S8x4096x256, .f32⟩
  | .hbm, ⟨64, _⟩ => ⟨S8x4096x256, .bf16⟩
  | _, _ => ⟨S8x4096x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S32768x512 : Shape := ⟨2, ![32768, 512]⟩
abbrev S32768x256 : Shape := ⟨2, ![32768, 256]⟩
abbrev S1x1024 : Shape := ⟨2, ![1, 1024]⟩
abbrev S1024x512 : Shape := ⟨2, ![1024, 512]⟩
abbrev S1024x256 : Shape := ⟨2, ![1024, 256]⟩
abbrev S512x1024 : Shape := ⟨2, ![512, 1024]⟩
abbrev S256x1024 : Shape := ⟨2, ![256, 1024]⟩
abbrev S1024x1 : Shape := ⟨2, ![1024, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x256, .bf16⟩
  | .hbm, ⟨3, _⟩ => ⟨S8x4096x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S32768x1024, .f32⟩
  | .hbm, ⟨9, _⟩ => ⟨S32768x512, .bf16⟩
  | .hbm, ⟨10, _⟩ => ⟨S32768x256, .bf16⟩
  | .hbm, ⟨11, _⟩ => ⟨S32768x256, .bf16⟩
  | .hbm, ⟨12, _⟩ => ⟨S1024x1024, .bf16⟩
  | .hbm, ⟨13, _⟩ => ⟨S1x1024, .f32⟩
  | .hbm, ⟨14, _⟩ => ⟨S1024x5632, .bf16⟩
  | .hbm, ⟨15, _⟩ => ⟨S2816x1024, .bf16⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S2816x1024, .bf16⟩
  | .local _ .vmem, ⟨12, _⟩ => ⟨S1024x1024, .f32⟩
  | .local _ .vmem, ⟨13, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x4096x1024 : Shape := ⟨3, ![8, 4096, 1024]⟩
abbrev S8x4096x512 : Shape := ⟨3, ![8, 4096, 512]⟩
abbrev S8x4096x256 : Shape := ⟨3, ![8, 4096, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x256, .bf16⟩
  | .hbm, ⟨3, _⟩ => ⟨S8x4096x256, .bf16⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S8x4096x1024, .bf16⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x4096x5632, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S_, .f32⟩
  | .hbm, ⟨33, _⟩ => ⟨S8x4096x2816, .f32⟩
  | .hbm, ⟨34, _⟩ => ⟨S8x4096x2816, .f32⟩
  | .hbm, ⟨35, _⟩ => ⟨S_, .f32⟩
  | .hbm, ⟨36, _⟩ => ⟨S8x4096x2816, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x1024, .f32⟩
  | .hbm, ⟨42, _⟩ => ⟨S8x4096x1024, .f32⟩
  | .hbm, ⟨43, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2704 : Shape := ⟨2, ![1024, 2704]⟩
abbrev S4x256 : Shape := ⟨2, ![4, 256]⟩
abbrev S256 : Shape := ⟨1, ![256]⟩
abbrev S2x4x64x64 : Shape := ⟨4, ![2, 4, 64, 64]⟩
abbrev S2x256 : Shape := ⟨2, ![2, 256]⟩
abbrev S3x256 : Shape := ⟨2, ![3, 256]⟩
abbrev S4 : Shape := ⟨1, ![4]⟩
abbrev S2x64 : Shape := ⟨2, ![2, 64]⟩
abbrev S4x64 : Shape := ⟨2, ![4, 64]⟩
abbrev S12 : Shape := ⟨1, ![12]⟩
abbrev S_ : Shape := ⟨0, ![]⟩
abbrev S1024x128 : Shape := ⟨2, ![1024, 128]⟩
abbrev S1024x4 : Shape := ⟨2, ![1024, 4]⟩
abbrev S1024x4x3 : Shape := ⟨3, ![1024, 4, 3]⟩
abbrev S1024x12 : Shape := ⟨2, ![1024, 12]⟩
abbrev S1 : Shape := ⟨1, ![1]⟩
abbrev S1024x256 : Shape := ⟨2, ![1024, 256]⟩
abbrev S1024x4x64 : Shape := ⟨3, ![1024, 4, 64]⟩
abbrev S1024x4x128 : Shape := ⟨3, ![1024, 4, 128]⟩
abbrev S1024x512 : Shape := ⟨2, ![1024, 512]⟩
abbrev S1024x1792 : Shape := ⟨2, ![1024, 1792]⟩
abbrev S1024x640 : Shape := ⟨2, ![1024, 640]⟩
abbrev S1024x3072 : Shape := ⟨2, ![1024, 3072]⟩
abbrev S1x4x64x64 : Shape := ⟨4, ![1, 4, 64, 64]⟩
abbrev S4x64x64 : Shape := ⟨3, ![4, 64, 64]⟩
abbrev S4x4 : Shape := ⟨2, ![4, 4]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S256x512 : Shape := ⟨2, ![256, 512]⟩
abbrev S1x512 : Shape := ⟨2, ![1, 512]⟩
abbrev S4x3 : Shape := ⟨2, ![4, 3]⟩
abbrev S128 : Shape := ⟨1, ![128]⟩
abbrev S1x128 : Shape := ⟨2, ![1, 128]⟩
abbrev S1x64 : Shape := ⟨2, ![1, 64]⟩
abbrev S64 : Shape := ⟨1, ![64]⟩
abbrev S1x1024 : Shape := ⟨2, ![1, 1024]⟩
abbrev S1x256 : Shape := ⟨2, ![1, 256]⟩
abbrev S8x4096x512 : Shape := ⟨3, ![8, 4096, 512]⟩
abbrev S8x4x4096x128 : Shape := ⟨4, ![8, 4, 4096, 128]⟩
abbrev S8x4096x128 : Shape := ⟨3, ![8, 4096, 128]⟩
abbrev S8x256x2048 : Shape := ⟨3, ![8, 256, 2048]⟩
abbrev S1x512x1024 : Shape := ⟨3, ![1, 512, 1024]⟩
abbrev S1x512x512 : Shape := ⟨3, ![1, 512, 512]⟩
abbrev S1x4x512x128 : Shape := ⟨4, ![1, 4, 512, 128]⟩
abbrev S1x512x128 : Shape := ⟨3, ![1, 512, 128]⟩
abbrev S1x32x2048 : Shape := ⟨3, ![1, 32, 2048]⟩
abbrev S520x256 : Shape := ⟨2, ![520, 256]⟩
abbrev S8x256 : Shape := ⟨2, ![8, 256]⟩
abbrev S8x128 : Shape := ⟨2, ![8, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1024x1280 : Shape := ⟨2, ![1024, 1280]⟩
abbrev S512x1280 : Shape := ⟨2, ![512, 1280]⟩
abbrev S512x512 : Shape := ⟨2, ![512, 512]⟩
abbrev S1024x1024 : Shape := ⟨2, ![1024, 1024]⟩
abbrev S512x256 : Shape := ⟨2, ![512, 256]⟩
abbrev S32x128 : Shape := ⟨2, ![32, 128]⟩
abbrev S1x32x128 : Shape := ⟨3, ![1, 32, 128]⟩
abbrev S1x1x512x128 : Shape := ⟨4, ![1, 1, 512, 128]⟩
abbrev S32x256 : Shape := ⟨2, ![32, 256]⟩
abbrev S1x512x256 : Shape := ⟨3, ![1, 512, 256]⟩

abbrev nBuf : Space → Nat
  | .hbm => 133
  | .vmem => 45
  | .smem => 0
  | _ => 0

abbrev hbmTy0_0 (i : Nat) : BufTy := match i % 128 with
  | 0 => ⟨S8x4096x1024, .f32⟩
  | 1 => ⟨S1024, .f32⟩
  | 2 => ⟨S1024x2704, .f32⟩
  | 3 => ⟨S4x256, .f32⟩
  | 4 => ⟨S256, .f32⟩
  | 5 => ⟨S2x4x64x64, .f32⟩
  | 6 => ⟨S2x256, .f32⟩
  | 7 => ⟨S256, .f32⟩
  | 8 => ⟨S3x256, .f32⟩
  | 9 => ⟨S4, .f32⟩
  | 10 => ⟨S2x64, .f32⟩
  | 11 => ⟨S4x64, .f32⟩
  | 12 => ⟨S12, .f32⟩
  | 13 => ⟨S4x256, .f32⟩
  | 14 => ⟨S_, .f32⟩
  | 15 => ⟨S1024x128, .f32⟩
  | 16 => ⟨S1024x4, .f32⟩
  | 17 => ⟨S1024x4x3, .f32⟩
  | 18 => ⟨S1024x12, .f32⟩
  | 19 => ⟨S_, .i32⟩
  | 20 => ⟨S1, .i32⟩
  | 21 => ⟨S1024x128, .f32⟩
  | 22 => ⟨S1024x12, .f32⟩
  | 23 => ⟨S_, .i32⟩
  | 24 => ⟨S1, .i32⟩
  | 25 => ⟨S1024x128, .f32⟩
  | 26 => ⟨S1024x256, .f32⟩
  | 27 => ⟨S1024x4x64, .f32⟩
  | 28 => ⟨S_, .i32⟩
  | 29 => ⟨S_, .f32⟩
  | 30 => ⟨S1024x4x128, .f32⟩
  | 31 => ⟨S1024x512, .f32⟩
  | 32 => ⟨S1024x1792, .f32⟩
  | 33 => ⟨S1024x640, .f32⟩
  | 34 => ⟨S1024x3072, .f32⟩
  | 35 => ⟨S1024x3072, .bf16⟩
  | 36 => ⟨S1x4x64x64, .f32⟩
  | 37 => ⟨S4x64x64, .f32⟩
  | 38 => ⟨S4x4, .i32⟩
  | 39 => ⟨S4x4, .i32⟩
  | 40 => ⟨S_, .i32⟩
  | 41 => ⟨S4x4, .i32⟩
  | 42 => ⟨S4x4, .i32⟩
  | 43 => ⟨S4x4, .i1⟩
  | 44 => ⟨S4x4, .f32⟩
  | 45 => ⟨S4x1x4x1, .f32⟩
  | 46 => ⟨S4x64x1x64, .f32⟩
  | 47 => ⟨S4x64x4x64, .f32⟩
  | 48 => ⟨S4x64x4x64, .f32⟩
  | 49 => ⟨S4x64x4x64, .f32⟩
  | 50 => ⟨S256x256, .f32⟩
  | 51 => ⟨S1x4x64x64, .f32⟩
  | 52 => ⟨S4x64x64, .f32⟩
  | 53 => ⟨S4x4, .i32⟩
  | 54 => ⟨S4x4, .i32⟩
  | 55 => ⟨S_, .i32⟩
  | 56 => ⟨S4x4, .i32⟩
  | 57 => ⟨S4x4, .i32⟩
  | 58 => ⟨S4x4, .i1⟩
  | 59 => ⟨S4x4, .f32⟩
  | 60 => ⟨S4x1x4x1, .f32⟩
  | 61 => ⟨S4x64x1x64, .f32⟩
  | 62 => ⟨S4x64x4x64, .f32⟩
  | 63 => ⟨S4x64x4x64, .f32⟩
  | 64 => ⟨S4x64x4x64, .f32⟩
  | 65 => ⟨S256x256, .f32⟩
  | 66 => ⟨S256x512, .f32⟩
  | 67 => ⟨S256x512, .bf16⟩
  | 68 => ⟨S1x512, .f32⟩
  | 69 => ⟨S4x3, .f32⟩
  | 70 => ⟨S12, .f32⟩
  | 71 => ⟨S_, .f32⟩
  | 72 => ⟨S128, .f32⟩
  | 73 => ⟨S_, .i32⟩
  | 74 => ⟨S1, .i32⟩
  | 75 => ⟨S128, .f32⟩
  | 76 => ⟨S1x128, .f32⟩
  | 77 => ⟨S1x64, .f32⟩
  | 78 => ⟨S64, .f32⟩
  | 79 => ⟨S1x64, .f32⟩
  | 80 => ⟨S2x64, .f32⟩
  | 81 => ⟨S128, .f32⟩
  | 82 => ⟨S1x128, .f32⟩
  | 83 => ⟨S1x64, .f32⟩
  | 84 => ⟨S64, .f32⟩
  | 85 => ⟨S1x64, .f32⟩
  | 86 => ⟨S2x64, .f32⟩
  | 87 => ⟨S128, .f32⟩
  | 88 => ⟨S1x128, .f32⟩
  | 89 => ⟨S1x64, .f32⟩
  | 90 => ⟨S64, .f32⟩
  | 91 => ⟨S1x64, .f32⟩
  | 92 => ⟨S2x64, .f32⟩
  | 93 => ⟨S128, .f32⟩
  | 94 => ⟨S1x128, .f32⟩
  | 95 => ⟨S1x64, .f32⟩
  | 96 => ⟨S64, .f32⟩
  | 97 => ⟨S_, .f32⟩
  | 98 => ⟨S128, .f32⟩
  | 99 => ⟨S_, .i32⟩
  | 100 => ⟨S1, .i32⟩
  | 101 => ⟨S128, .f32⟩
  | 102 => ⟨S1x128, .f32⟩
  | 103 => ⟨S1x64, .f32⟩
  | 104 => ⟨S64, .f32⟩
  | 105 => ⟨S_, .f32⟩
  | 106 => ⟨S128, .f32⟩
  | 107 => ⟨S_, .i32⟩
  | 108 => ⟨S1, .i32⟩
  | 109 => ⟨S128, .f32⟩
  | 110 => ⟨S1x128, .f32⟩
  | 111 => ⟨S_, .f32⟩
  | 112 => ⟨S128, .f32⟩
  | 113 => ⟨S_, .i32⟩
  | 114 => ⟨S1, .i32⟩
  | 115 => ⟨S128, .f32⟩
  | 116 => ⟨S1x128, .f32⟩
  | 117 => ⟨S1x1024, .f32⟩
  | 118 => ⟨S1x256, .f32⟩
  | 119 => ⟨S1x256, .f32⟩
  | 120 => ⟨S2x256, .f32⟩
  | 121 => ⟨S1x512, .f32⟩
  | 122 => ⟨S8x4096x512, .bf16⟩
  | 123 => ⟨S8x4x4096x128, .bf16⟩
  | 124 => ⟨S8x4x4096x128, .bf16⟩
  | 125 => ⟨S8x4x4096x128, .bf16⟩
  | 126 => ⟨S8x4x4096x128, .bf16⟩
  | 127 => ⟨S8x4096x128, .bf16⟩
  | _ => ⟨S8x4096x1024, .f32⟩

abbrev hbmTy0_1 (i : Nat) : BufTy := match i % 128 with
  | 0 => ⟨S8x4096x128, .bf16⟩
  | 1 => ⟨S8x4096x128, .bf16⟩
  | 2 => ⟨S8x4096x128, .bf16⟩
  | 3 => ⟨S8x4096x128, .f32⟩
  | 4 => ⟨S8x256x2048, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S4x256, .f32⟩
  | .local _ .vmem, ⟨5, _⟩ => ⟨S1x256, .f32⟩
  | .local _ .vmem, ⟨6, _⟩ => ⟨S256x512, .bf16⟩
  | .local _ .vmem, ⟨7, _⟩ => ⟨S1x512, .f32⟩
  | .local _ .vmem, ⟨8, _⟩ => ⟨S1x256, .f32⟩
  | .local _ .vmem, ⟨9, _⟩ => ⟨S3x256, .f32⟩
  | .local _ .vmem, ⟨10, _⟩ => ⟨S1x512, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x512x512, .bf16⟩
  | .local _ .vmem, ⟨19, _⟩ => ⟨S1x512x512, .bf16⟩
  | .local _ .vmem, ⟨20, _⟩ => ⟨S1x4x512x128, .bf16⟩
  | .local _ .vmem, ⟨21, _⟩ => ⟨S1x4x512x128, .bf16⟩
  | .local _ .vmem, ⟨22, _⟩ => ⟨S1x4x512x128, .bf16⟩
  | .local _ .vmem, ⟨23, _⟩ => ⟨S1x4x512x128, .bf16⟩
  | .local _ .vmem, ⟨24, _⟩ => ⟨S1x4x512x128, .bf16⟩
  | .local _ .vmem, ⟨25, _⟩ => ⟨S1x4x512x128, .bf16⟩
  | .local _ .vmem, ⟨26, _⟩ => ⟨S1x4x512x128, .bf16⟩
  | .local _ .vmem, ⟨27, _⟩ => ⟨S1x4x512x128, .bf16⟩
  | .local _ .vmem, ⟨28, _⟩ => ⟨S1x512x128, .bf16⟩
  | .local _ .vmem, ⟨29, _⟩ => ⟨S1x512x128, .bf16⟩
  | .local _ .vmem, ⟨30, _⟩ => ⟨S1x512x128, .bf16⟩
  | .local _ .vmem, ⟨31, _⟩ => ⟨S1x512x128, .bf16⟩
  | .local _ .vmem, ⟨32, _⟩ => ⟨S1x512x128, .bf16⟩
  | .local _ .vmem, ⟨33, _⟩ => ⟨S1x512x128, .bf16⟩
  | .local _ .vmem, ⟨34, _⟩ => ⟨S1x512x128, .bf16⟩
  | .local _ .vmem, ⟨35, _⟩ => ⟨S1x512x128, .bf16⟩
  | .local _ .vmem, ⟨36, _⟩ => ⟨S1x512x128, .f32⟩
  | .local _ .vmem, ⟨37, _⟩ => ⟨S1x512x128, .f32⟩
  | .local _ .vmem, ⟨38, _⟩ => ⟨S1x32x2048, .f32⟩
  | .local _ .vmem, ⟨39, _⟩ => ⟨S1x32x2048, .f32⟩
  | .local _ .vmem, ⟨40, _⟩ => ⟨S520x256, .f32⟩
  | .local _ .vmem, ⟨41, _⟩ => ⟨S520x256, .f32⟩
  | .local _ .vmem, ⟨42, _⟩ => ⟨S8x256, .f32⟩
  | .local _ .vmem, ⟨43, _⟩ => ⟨S8x128, .f32⟩
  | .local _ .vmem, ⟨44, _⟩ => ⟨S512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_call0_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_4 : Ref sig .tc := ⟨.hbm, 71, rfl⟩
abbrev main_v50 : Ref sig .tc := ⟨.hbm, 72, rfl⟩
abbrev main_c_5 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_6 : Ref sig .tc := ⟨.hbm, 97, rfl⟩
abbrev main_v74 : Ref sig .tc := ⟨.hbm, 98, rfl⟩
abbrev main_c_7 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_8 : Ref sig .tc := ⟨.hbm, 105, rfl⟩
abbrev main_v80 : Ref sig .tc := ⟨.hbm, 106, rfl⟩
abbrev main_c_9 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_10 : Ref sig .tc := ⟨.hbm, 111, rfl⟩
abbrev main_v84 : Ref sig .tc := ⟨.hbm, 112, rfl⟩
abbrev main_c_11 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93_0 : Ref sig .tc := ⟨.hbm, 122, rfl⟩
abbrev main_v93_1 : Ref sig .tc := ⟨.hbm, 123, rfl⟩
abbrev main_v93_2 : Ref sig .tc := ⟨.hbm, 124, rfl⟩
abbrev main_v93_3 : Ref sig .tc := ⟨.hbm, 125, rfl⟩
abbrev main_v93_4 : Ref sig .tc := ⟨.hbm, 126, rfl⟩
abbrev main_v93_5 : Ref sig .tc := ⟨.hbm, 127, rfl⟩
abbrev main_v93_6 : Ref sig .tc := ⟨.hbm, 128, rfl⟩
abbrev main_v93_7 : Ref sig .tc := ⟨.hbm, 129, rfl⟩
abbrev main_v93_8 : Ref sig .tc := ⟨.hbm, 130, rfl⟩
abbrev main_v93_9 : Ref sig .tc := ⟨.hbm, 131, rfl⟩
abbrev main_v93_10 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S3x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x128 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x32x2048 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== Reference3Ideal.lean ====
abbrev S8x4096x1024 : Shape := ⟨3, ![8, 4096, 1024]⟩
abbrev S1024 : Shape := ⟨1, ![1024]⟩
abbrev S1024x2704 : Shape := ⟨2, ![1024, 2704]⟩
abbrev S4x256 : Shape := ⟨2, ![4, 256]⟩
abbrev S256 : Shape := ⟨1, ![256]⟩
abbrev S2x4x64x64 : Shape := ⟨4, ![2, 4, 64, 64]⟩
abbrev S2x256 : Shape := ⟨2, ![2, 256]⟩
abbrev S3x256 : Shape := ⟨2, ![3, 256]⟩
abbrev S4 : Shape := ⟨1, ![4]⟩
abbrev S2x64 : Shape := ⟨2, ![2, 64]⟩
abbrev S4x64 : Shape := ⟨2, ![4, 64]⟩
abbrev S12 : Shape := ⟨1, ![12]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2704 : Shape := ⟨3, ![8, 4096, 2704]⟩
abbrev S8x4096x256 : Shape := ⟨3, ![8, 4096, 256]⟩
abbrev S8x4099x256 : Shape := ⟨3, ![8, 4099, 256]⟩
abbrev S1x256 : Shape := ⟨2, ![1, 256]⟩
abbrev S1x1x256 : Shape := ⟨3, ![1, 1, 256]⟩
abbrev S8x4096x4x64 : Shape := ⟨4, ![8, 4096, 4, 64]⟩
abbrev S1x4x64x64 : Shape := ⟨4, ![1, 4, 64, 64]⟩
abbrev S4x64x64 : Shape := ⟨3, ![4, 64, 64]⟩
abbrev S4x64x8x4096 : Shape := ⟨4, ![4, 64, 8, 4096]⟩
abbrev S8x256 : Shape := ⟨2, ![8, 256]⟩
abbrev S4096x8x256 : Shape := ⟨3, ![4096, 8, 256]⟩
abbrev S1x8x256 : Shape := ⟨3, ![1, 8, 256]⟩
abbrev S8x4098x256 : Shape := ⟨3, ![8, 4098, 256]⟩
abbrev S8x4096x512 : Shape := ⟨3, ![8, 4096, 512]⟩

abbrev nBuf : Space → Nat
  | .hbm => 254
  | .vmem => 0
  | .smem => 0
  | _ => 0

abbrev hbmTy0_0 (i : Nat) : BufTy := match i % 128 with
  | 0 => ⟨S8x4096x1024, .f32⟩
  | 1 => ⟨S1024, .f32⟩
  | 2 => ⟨S1024x2704, .f32⟩
  | 3 => ⟨S4x256, .f32⟩
  | 4 => ⟨S256, .f32⟩
  | 5 => ⟨S2x4x64x64, .f32⟩
  | 6 => ⟨S2x256, .f32⟩
  | 7 => ⟨S256, .f32⟩
  | 8 => ⟨S3x256, .f32⟩
  | 9 => ⟨S4, .f32⟩
  | 10 => ⟨S2x64, .f32⟩
  | 11 => ⟨S4x64, .f32⟩
  | 12 => ⟨S12, .f32⟩
  | 13 => ⟨S4x256, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x4096x2704, .f32⟩
  | 31 => ⟨S8x4096x256, .f32⟩
  | 32 => ⟨S8x4096x256, .f32⟩
  | 33 => ⟨S_, .i32⟩
  | 34 => ⟨S_, .f32⟩
  | 35 => ⟨S8x4099x256, .f32⟩
  | 36 => ⟨S1x256, .f32⟩
  | 37 => ⟨S256, .f32⟩
  | 38 => ⟨S8x4096x256, .f32⟩
  | 39 => ⟨S1x1x256, .f32⟩
  | 40 => ⟨S8x4096x256, .f32⟩
  | 41 => ⟨S8x4096x256, .f32⟩
  | 42 => ⟨S_, .f32⟩
  | 43 => ⟨S8x4096x256, .f32⟩
  | 44 => ⟨S8x4096x256, .f32⟩
  | 45 => ⟨S1x256, .f32⟩
  | 46 => ⟨S256, .f32⟩
  | 47 => ⟨S8x4096x256, .f32⟩
  | 48 => ⟨S1x1x256, .f32⟩
  | 49 => ⟨S8x4096x256, .f32⟩
  | 50 => ⟨S8x4096x256, .f32⟩
  | 51 => ⟨S8x4096x256, .f32⟩
  | 52 => ⟨S1x256, .f32⟩
  | 53 => ⟨S256, .f32⟩
  | 54 => ⟨S8x4096x256, .f32⟩
  | 55 => ⟨S1x1x256, .f32⟩
  | 56 => ⟨S8x4096x256, .f32⟩
  | 57 => ⟨S8x4096x256, .f32⟩
  | 58 => ⟨S8x4096x256, .f32⟩
  | 59 => ⟨S1x256, .f32⟩
  | 60 => ⟨S256, .f32⟩
  | 61 => ⟨S8x4096x256, .f32⟩
  | 62 => ⟨S1x1x256, .f32⟩
  | 63 => ⟨S8x4096x256, .f32⟩
  | 64 => ⟨S8x4096x256, .f32⟩
  | 65 => ⟨S8x4096x256, .f32⟩
  | 66 => ⟨S1x1x256, .f32⟩
  | 67 => ⟨S8x4096x256, .f32⟩
  | 68 => ⟨S8x4096x256, .f32⟩
  | 69 => ⟨S8x4096x4x64, .f32⟩
  | 70 => ⟨S1x4x64x64, .f32⟩
  | 71 => ⟨S4x64x64, .f32⟩
  | 72 => ⟨S4x64x8x4096, .f32⟩
  | 73 => ⟨S8x4096x4x64, .f32⟩
  | 74 => ⟨S8x4096x256, .f32⟩
  | 75 => ⟨S1x256, .f32⟩
  | 76 => ⟨S256, .f32⟩
  | 77 => ⟨S1x1x256, .f32⟩
  | 78 => ⟨S8x4096x256, .f32⟩
  | 79 => ⟨S8x4096x256, .f32⟩
  | 80 => ⟨S8x4096x256, .f32⟩
  | 81 => ⟨S8x4096x256, .f32⟩
  | 82 => ⟨S_, .f32⟩
  | 83 => ⟨S8x4096x256, .f32⟩
  | 84 => ⟨S8x4096x256, .f32⟩
  | 85 => ⟨S_, .f32⟩
  | 86 => ⟨S8x4096x256, .f32⟩
  | 87 => ⟨S8x4096x256, .f32⟩
  | 88 => ⟨S1x4x64x64, .f32⟩
  | 89 => ⟨S4x64x64, .f32⟩
  | 90 => ⟨S4x64x8x4096, .f32⟩
  | 91 => ⟨S8x4096x4x64, .f32⟩
  | 92 => ⟨S8x4096x256, .f32⟩
  | 93 => ⟨S1x256, .f32⟩
  | 94 => ⟨S256, .f32⟩
  | 95 => ⟨S1x1x256, .f32⟩
  | 96 => ⟨S8x4096x256, .f32⟩
  | 97 => ⟨S8x4096x256, .f32⟩
  | 98 => ⟨S8x4096x256, .f32⟩
  | 99 => ⟨S8x4096x256, .f32⟩
  | 100 => ⟨S_, .f32⟩
  | 101 => ⟨S8x4096x256, .f32⟩
  | 102 => ⟨S8x4096x256, .f32⟩
  | 103 => ⟨S_, .f32⟩
  | 104 => ⟨S8x4096x256, .f32⟩
  | 105 => ⟨S8x4096x256, .f32⟩
  | 106 => ⟨S256, .f32⟩
  | 107 => ⟨S_, .f32⟩
  | 108 => ⟨S256, .f32⟩
  | 109 => ⟨S256, .f32⟩
  | 110 => ⟨S256, .f32⟩
  | 111 => ⟨S256, .f32⟩
  | 112 => ⟨S256, .i1⟩
  | 113 => ⟨S256, .f32⟩
  | 114 => ⟨S256, .f32⟩
  | 115 => ⟨S256, .f32⟩
  | 116 => ⟨S256, .f32⟩
  | 117 => ⟨S256, .f32⟩
  | 118 => ⟨S256, .f32⟩
  | 119 => ⟨S256, .f32⟩
  | 120 => ⟨S256, .f32⟩
  | 121 => ⟨S_, .f32⟩
  | 122 => ⟨S256, .f32⟩
  | 123 => ⟨S256, .f32⟩
  | 124 => ⟨S1x1x256, .f32⟩
  | 125 => ⟨S8x4096x256, .f32⟩
  | 126 => ⟨S8x4096x256, .f32⟩
  | 127 => ⟨S8x4096x256, .f32⟩
  | _ => ⟨S8x4096x1024, .f32⟩

abbrev hbmTy0_1 (i : Nat) : BufTy := match i % 128 with
  | 0 => ⟨S_, .f32⟩
  | 1 => ⟨S8x4096x256, .f32⟩
  | 2 => ⟨S8x4096x256, .f32⟩
  | 3 => ⟨S8x4096x256, .f32⟩
  | 4 => ⟨S8x4096x256, .f32⟩
  | 5 => ⟨S8x4096x256, .f32⟩
  | 6 => ⟨S8x4096x256, .f32⟩
  | 7 => ⟨S8x4096x256, .f32⟩
  | 8 => ⟨S_, .f32⟩
  | 9 => ⟨S8x256, .f32⟩
  | 10 => ⟨S4096x8x256, .f32⟩
  | 11 => ⟨S4096x8x256, .f32⟩
  | 12 => ⟨S_, .f32⟩
  | 13 => ⟨S4096x8x256, .f32⟩
  | 14 => ⟨S_, .i32⟩
  | 15 => ⟨S4096x8x256, .f32⟩
  | 16 => ⟨S4096x8x256, .f32⟩
  | 17 => ⟨S_, .i32⟩
  | 18 => ⟨S8x256, .f32⟩
  | 19 => ⟨S4096x8x256, .f32⟩
  | 20 => ⟨S_, .i32⟩
  | 21 => ⟨S_, .i1⟩
  | 22 => ⟨S_, .i32⟩
  | 23 => ⟨S_, .i32⟩
  | 24 => ⟨S1x8x256, .f32⟩
  | 25 => ⟨S8x256, .f32⟩
  | 26 => ⟨S_, .i32⟩
  | 27 => ⟨S_, .i32⟩
  | 28 => ⟨S1x8x256, .f32⟩
  | 29 => ⟨S8x256, .f32⟩
  | 30 => ⟨S8x256, .f32⟩
  | 31 => ⟨S8x256, .f32⟩
  | 32 => ⟨S1x8x256, .f32⟩
  | 33 => ⟨S_, .i32⟩
  | 34 => ⟨S_, .i32⟩
  | 35 => ⟨S4096x8x256, .f32⟩
  | 36 => ⟨S_, .i32⟩
  | 37 => ⟨S_, .i32⟩
  | 38 => ⟨S8x4096x256, .f32⟩
  | 39 => ⟨S8x4096x256, .f32⟩
  | 40 => ⟨S8x4096x256, .f32⟩
  | 41 => ⟨S_, .f32⟩
  | 42 => ⟨S8x4096x256, .f32⟩
  | 43 => ⟨S8x4096x256, .f32⟩
  | 44 => ⟨S8x4096x256, .f32⟩
  | 45 => ⟨S_, .f32⟩
  | 46 => ⟨S8x4096x256, .f32⟩
  | 47 => ⟨S8x4096x256, .f32⟩
  | 48 => ⟨S8x4096x256, .f32⟩
  | 49 => ⟨S_, .f32⟩
  | 50 => ⟨S8x4096x256, .f32⟩
  | 51 => ⟨S8x4096x256, .f32⟩
  | 52 => ⟨S_, .f32⟩
  | 53 => ⟨S8x4096x256, .f32⟩
  | 54 => ⟨S8x4096x256, .f32⟩
  | 55 => ⟨S8x4096x256, .f32⟩
  | 56 => ⟨S8x4096x256, .f32⟩
  | 57 => ⟨S8x4096x256, .f32⟩
  | 58 => ⟨S8x4096x256, .f32⟩
  | 59 => ⟨S8x4096x256, .f32⟩
  | 60 => ⟨S8x4096x256, .f32⟩
  | 61 => ⟨S_, .i32⟩
  | 62 => ⟨S_, .f32⟩
  | 63 => ⟨S8x4098x256, .f32⟩
  | 64 => ⟨S1x256, .f32⟩
  | 65 => ⟨S256, .f32⟩
  | 66 => ⟨S8x4096x256, .f32⟩
  | 67 => ⟨S1x1x256, .f32⟩
  | 68 => ⟨S8x4096x256, .f32⟩
  | 69 => ⟨S8x4096x256, .f32⟩
  | 70 => ⟨S_, .f32⟩
  | 71 => ⟨S8x4096x256, .f32⟩
  | 72 => ⟨S8x4096x256, .f32⟩
  | 73 => ⟨S1x256, .f32⟩
  | 74 => ⟨S256, .f32⟩
  | 75 => ⟨S8x4096x256, .f32⟩
  | 76 => ⟨S1x1x256, .f32⟩
  | 77 => ⟨S8x4096x256, .f32⟩
  | 78 => ⟨S8x4096x256, .f32⟩
  | 79 => ⟨S8x4096x256, .f32⟩
  | 80 => ⟨S1x256, .f32⟩
  | 81 => ⟨S256, .f32⟩
  | 82 => ⟨S8x4096x256, .f32⟩
  | 83 => ⟨S1x1x256, .f32⟩
  | 84 => ⟨S8x4096x256, .f32⟩
  | 85 => ⟨S8x4096x256, .f32⟩
  | 86 => ⟨S8x4096x256, .f32⟩
  | 87 => ⟨S8x4096x256, .f32⟩
  | 88 => ⟨S1x256, .f32⟩
  | 89 => ⟨S256, .f32⟩
  | 90 => ⟨S8x4096x256, .f32⟩
  | 91 => ⟨S_, .f32⟩
  | 92 => ⟨S8x4096, .f32⟩
  | 93 => ⟨S8x4096x1, .f32⟩
  | 94 => ⟨S_, .f32⟩
  | 95 => ⟨S8x4096x1, .f32⟩
  | 96 => ⟨S8x4096x1, .f32⟩
  | 97 => ⟨S_, .f32⟩
  | 98 => ⟨S8x4096x1, .f32⟩
  | 99 => ⟨S8x4096x1, .f32⟩
  | 100 => ⟨S8x4096x1, .f32⟩
  | 101 => ⟨S8x4096x256, .f32⟩
  | 102 => ⟨S8x4096x256, .f32⟩
  | 103 => ⟨S1x1x256, .f32⟩
  | 104 => ⟨S8x4096x256, .f32⟩
  | 105 => ⟨S8x4096x256, .f32⟩
  | 106 => ⟨S1x256, .f32⟩
  | 107 => ⟨S256, .f32⟩
  | 108 => ⟨S8x4096x256, .f32⟩
  | 109 => ⟨S_, .f32⟩
  | 110 => ⟨S8x4096, .f32⟩
  | 111 => ⟨S8x4096x1, .f32⟩
  | 112 => ⟨S_, .f32⟩
  | 113 => ⟨S8x4096x1, .f32⟩
  | 114 => ⟨S8x4096x1, .f32⟩
  | 115 => ⟨S_, .f32⟩
  | 116 => ⟨S8x4096x1, .f32⟩
  | 117 => ⟨S8x4096x1, .f32⟩
  | 118 => ⟨S8x4096x1, .f32⟩
  | 119 => ⟨S8x4096x256, .f32⟩
  | 120 => ⟨S8x4096x256, .f32⟩
  | 121 => ⟨S1x1x256, .f32⟩
  | 122 => ⟨S8x4096x256, .f32⟩
  | 123 => ⟨S8x4096x256, .f32⟩
  | 124 => ⟨S8x4096x512, .f32⟩
  | 125 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_3 : Ref sig .tc := ⟨.hbm, 82, rfl⟩
abbrev main_v62 : Ref sig .tc := ⟨.hbm, 83, rfl⟩
abbrev main_v63 : Ref sig .tc := ⟨.hbm, 84, rfl⟩
abbrev main_cst_4 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_5 : Ref sig .tc := ⟨.hbm, 100, rfl⟩
abbrev main_v78 : Ref sig .tc := ⟨.hbm, 101, rfl⟩
abbrev main_v79 : Ref sig .tc := ⟨.hbm, 102, rfl⟩
abbrev main_cst_6 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_call1_cst : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_call1_v3 : Ref sig .tc := ⟨.hbm, 111, rfl⟩
abbrev main_call1_v4 : Ref sig .tc := ⟨.hbm, 112, rfl⟩
abbrev main_call1_v5 : Ref sig .tc := ⟨.hbm, 113, rfl⟩
abbrev main_call1_v6 : Ref sig .tc := ⟨.hbm, 114, rfl⟩
abbrev main_call1_v7 : Ref sig .tc := ⟨.hbm, 115, rfl⟩
abbrev main_call1_v8 : Ref sig .tc := ⟨.hbm, 116, rfl⟩
abbrev main_call1_v9 : Ref sig .tc := ⟨.hbm, 117, rfl⟩
abbrev main_call1_v10 : Ref sig .tc := ⟨.hbm, 118, rfl⟩
abbrev main_call1_v11 : Ref sig .tc := ⟨.hbm, 119, rfl⟩
abbrev main_v83 : Ref sig .tc := ⟨.hbm, 120, rfl⟩
abbrev main_cst_7 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_8 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_9 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_10 : Ref sig .tc := ⟨.hbm, 140, rfl⟩
abbrev main_v100 : Ref sig .tc := ⟨.hbm, 141, rfl⟩
abbrev main_c_11 : Ref sig .tc := ⟨.hbm, 142, rfl⟩
abbrev main_v101_0 : Ref sig .tc := ⟨.hbm, 143, rfl⟩
abbrev main_v101_1 : Ref sig .tc := ⟨.hbm, 144, rfl⟩
abbrev main_v101_2 : Ref sig .tc := ⟨.hbm, 145, rfl⟩
abbrev main_v101_3 : Ref sig .tc := ⟨.hbm, 146, rfl⟩
abbrev main_v101_4 : Ref sig .tc := ⟨.hbm, 147, rfl⟩
abbrev main_while0c_c_28 : Ref sig .tc := ⟨.hbm, 148, rfl⟩
abbrev main_while0c_v177 : Ref sig .tc := ⟨.hbm, 149, rfl⟩
abbrev main_while0b_call2_c : Ref sig .tc := ⟨.hbm, 150, rfl⟩
abbrev main_while0b_call2_c_0 : Ref sig .tc := ⟨.hbm, 151, rfl⟩
abbrev main_while0b_call2_v0 : Ref sig .tc := ⟨.hbm, 152, rfl⟩
abbrev main_while0b_v177 : Ref sig .tc := ⟨.hbm, 153, rfl⟩
abbrev main_while0b_call3_c : Ref sig .tc := ⟨.hbm, 154, rfl⟩
abbrev main_while0b_call3_c_0 : Ref sig .tc := ⟨.hbm, 155, rfl⟩
abbrev main_while0b_call3_v0 : Ref sig .tc := ⟨.hbm, 156, rfl⟩
abbrev main_while0b_v178 : Ref sig .tc := ⟨.hbm, 157, rfl⟩
abbrev main_while0b_v179 : Ref sig .tc := ⟨.hbm, 158, rfl⟩
abbrev main_while0b_v180 : Ref sig .tc := ⟨.hbm, 159, rfl⟩
abbrev main_while0b_call4_v0 : Ref sig .tc := ⟨.hbm, 160, rfl⟩
abbrev main_while0b_call4_c : Ref sig .tc := ⟨.hbm, 161, rfl⟩
abbrev main_while0b_call4_c_0 : Ref sig .tc := ⟨.hbm, 162, rfl⟩
abbrev main_while0b_v181 : Ref sig .tc := ⟨.hbm, 163, rfl⟩
abbrev main_while0b_c_28 : Ref sig .tc := ⟨.hbm, 164, rfl⟩
abbrev main_while0b_v182 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_cst_12 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_cst_13 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_cst_14 : Ref sig .tc := ⟨.hbm, 177, rfl⟩
abbrev main_v111 : Ref sig .tc := ⟨.hbm, 178, rfl⟩
abbrev main_v112 : Ref sig .tc := ⟨.hbm, 179, rfl⟩
abbrev main_cst_15 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_c_16 : Ref sig .tc := ⟨.hbm, 189, rfl⟩
abbrev main_call5_v0 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_cst_17 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_cst_18 : Ref sig .tc := ⟨.hbm, 219, rfl⟩
abbrev main_v148 : Ref sig .tc := ⟨.hbm, 220, rfl⟩
abbrev main_v149 : Ref sig .tc := ⟨.hbm, 221, rfl⟩
abbrev main_cst_19 : Ref sig .tc := ⟨.hbm, 222, rfl⟩
abbrev main_v150 : Ref sig .tc := ⟨.hbm, 223, rfl⟩
abbrev main_v151 : Ref sig .tc := ⟨.hbm, 224, rfl⟩
abbrev main_cst_20 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_cst_21 : Ref sig .tc := ⟨.hbm, 237, rfl⟩
abbrev main_v163 : Ref sig .tc := ⟨.hbm, 238, rfl⟩
abbrev main_v164 : Ref sig .tc := ⟨.hbm, 239, rfl⟩
abbrev main_cst_22 : Ref sig .tc := ⟨.hbm, 240, rfl⟩
abbrev main_v165 : Ref sig .tc := ⟨.hbm, 241, rfl⟩
abbrev main_v166 : Ref sig .tc := ⟨.hbm, 242, rfl⟩
abbrev main_cst_23 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩

abbrev nD : Nat := 1
abbrev τ : Topo := Topo.v7x

variable {F : FTy → Type} [FloatOps F]

abbrev main_while0_count : Scf.Loop 32 := ⟨0#32, 4096#32, 1#32⟩
-- ==== Proof.FfnRow.lean ====
/- One row of the block's end, over the extended reals: the output projection added to the residual, and the
   gated feed-forward of the normalised row added to that. Both programs are read against these functions. -/
module

public import Idealize.ShloMosaic.Lib.Pipeline.ValueKit
public import Idealize.ShloMosaic.Lib.Pointwise

@[expose] public section

noncomputable section

namespace Cert.FfnRow

open Idealize.ShloMosaic

/-- The residual row after the output projection: entry `n` is `x n` plus the three parts `a`, `b`, `d` of the
    mixed row, each against its own rows of the projection. -/
def proj (x : Fin 1024 → EReal) (a : Fin 512 → EReal) (b d : Fin 256 → EReal) (w : Fin 1024 → Fin 1024 → EReal)
    (n : Fin 1024) : EReal :=
  x n + ∑ k : Fin 512, a k * w ⟨k, by omega⟩ n + ∑ k : Fin 256, b k * w ⟨512 + k, by omega⟩ n
    + ∑ k : Fin 256, d k * w ⟨768 + k, by omega⟩ n

/-- The row `y` divided by its root mean square and multiplied by the gain `g`. -/
def normed (y g : Fin 1024 → EReal) (n : Fin 1024) : EReal :=
  y n * Ideal.rsqrt (Ideal.div (∑ k, y k * y k) (Ideal.ofBits FTy.f32 1149239296#32) + Ideal.ofBits FTy.f32 897988541#32) * g n

/-- Entry `j` of the hidden row: the gate's product with its logistic and with the up projection. Columns `0…2815`
    of `w` are the gate's and columns `2816…5631` the up projection's. -/
def hidden (z : Fin 1024 → EReal) (w : Fin 1024 → Fin 5632 → EReal) (j : Fin 2816) : EReal :=
  (∑ k, z k * w k ⟨j, by omega⟩) * Ideal.logistic (∑ k, z k * w k ⟨j, by omega⟩) * ∑ k, z k * w k ⟨2816 + j, by omega⟩

/-- The row that comes out. -/
def out (x : Fin 1024 → EReal) (a : Fin 512 → EReal) (b d : Fin 256 → EReal) (w : Fin 1024 → Fin 1024 → EReal)
    (g : Fin 1024 → EReal) (wgu : Fin 1024 → Fin 5632 → EReal) (wd : Fin 2816 → Fin 1024 → EReal) (n : Fin 1024) : EReal :=
  proj x a b d w n + ∑ j, hidden (normed (proj x a b d w) g) wgu j * wd j n

/-- A sum over 1024 entries, cut into the first 512, the next 256 and the last 256. -/
theorem sum_cut (f : Fin 1024 → EReal) :
    ∑ k, f k = ∑ k : Fin 512, f ⟨k, by omega⟩ + (∑ k : Fin 256, f ⟨512 + k, by omega⟩ + ∑ k : Fin 256, f ⟨768 + k, by omega⟩) := by
  rw [show (∑ k, f k) = ∑ k : Fin (512 + (256 + 256)), f k from rfl, Fin.sum_univ_add, Fin.sum_univ_add]
  refine congrArg₂ (· + ·) rfl (congrArg₂ (· + ·) rfl (Finset.sum_congr rfl fun k _ => congrArg f (Fin.ext ?_)))
  simp only [Fin.natAdd]
  omega

/-- Eleven blocks of 256 summands, added one after another to a start, are the sum of all 2816. -/
theorem sum_blocks (a : EReal) (f : Fin 2816 → EReal) (S : Fin 11 → EReal)
    (hS : ∀ j, S j = ∑ c : Fin 256, f ⟨256 * j + c, by omega⟩) :
    a + S 0 + S 1 + S 2 + S 3 + S 4 + S 5 + S 6 + S 7 + S 8 + S 9 + S 10 = a + ∑ k, f k := by
  have h : ∑ k, f k = ∑ j : Fin 11, S j := by
    simp only [hS]
    rw [← Fintype.sum_prod_type' (f := fun (j : Fin 11) (c : Fin 256) => f ⟨256 * j + c, by omega⟩)]
    rw [← Equiv.sum_comp (finProdFinEquiv (m := 11) (n := 256)) f]
    refine Finset.sum_congr rfl fun p _ => ?_
    congr 1
    ext
    simp [finProdFinEquiv]
    omega
  rw [h]
  simp only [Fin.sum_univ_succ, Fin.sum_univ_zero, add_zero, ← add_assoc]
  rfl

end Cert.FfnRow
-- ==== Proof.FfnPoint.lean ====
/- What one grid point of the output projection and feed-forward leaves in its block of 1024 rows. -/
module

public import proofs.«01_k».proof.Proof.Gen.Kernel2Ideal.Value
public import proofs.«01_k».proof.Proof.FfnRow
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

/-- The block after the output projection, from the point's input blocks. -/
def projBlk (x0 : Vec Ideal S1024x1024 .f32) (x1 : Vec Ideal S1024x512 .bf16) (x2 x3 : Vec Ideal S1024x256 .bf16) (x4 : Vec Ideal S1024x1024 .bf16) : FVec Ideal S1024x1024 .f32 :=
  k0_pay3 x0 x1 (View.ld x4 (Rect.unit ![0, 0] ![512, 1024] inb_S1024x1024_S512x1024_0_0)) x2
    (View.ld x4 (Rect.unit ![512, 0] ![256, 1024] inb_S1024x1024_S256x1024_512_0)) x3
    (View.ld x4 (Rect.unit ![768, 0] ![256, 1024] inb_S1024x1024_S256x1024_768_0))

/-- The block's normalised rows. -/
def normBlk (x0 : Vec Ideal S1024x1024 .f32) (x1 : Vec Ideal S1024x512 .bf16) (x2 x3 : Vec Ideal S1024x256 .bf16) (x4 : Vec Ideal S1024x1024 .bf16) (x5 : Vec Ideal S1x1024 .f32) : FVec Ideal S1024x1024 .bf16 :=
  k0_pay4 x0 x1 (View.ld x4 (Rect.unit ![0, 0] ![512, 1024] inb_S1024x1024_S512x1024_0_0)) x2
    (View.ld x4 (Rect.unit ![512, 0] ![256, 1024] inb_S1024x1024_S256x1024_512_0)) x3
    (View.ld x4 (Rect.unit ![768, 0] ![256, 1024] inb_S1024x1024_S256x1024_768_0)) x5

/-- One step over the hidden columns `256 j … 256 j + 255`: what it adds to the block `acc`. -/
def step (xn : FVec Ideal S1024x1024 .bf16) (x6 : Vec Ideal S1024x5632 .bf16) (x7 : Vec Ideal S2816x1024 .bf16) (j : Fin 11) (acc : FVec Ideal S1024x1024 .f32) : FVec Ideal S1024x1024 .f32 :=
  k0_pay5 xn (View.ld x6 (Rect.unit ![0, 256 * j] ![1024, 256] (by intro a; fin_cases a <;> simp [Shape.size] <;> omega)))
    (View.ld x6 (Rect.unit ![0, 2816 + 256 * j] ![1024, 256] (by intro a; fin_cases a <;> simp [Shape.size] <;> omega))) acc
    (View.ld x7 (Rect.unit ![256 * j, 0] ![256, 1024] (by intro a; fin_cases a <;> simp [Shape.size] <;> omega)))

/-- The projected block at an entry. -/
theorem projBlk_apply (x0 : Vec Ideal S1024x1024 .f32) (x1 : Vec Ideal S1024x512 .bf16) (x2 x3 : Vec Ideal S1024x256 .bf16) (x4 : Vec Ideal S1024x1024 .bf16) (r n : Fin 1024) :
    projBlk x0 x1 x2 x3 x4 (ix2 r n) = FfnRow.proj (fun k => x0 (ix2 r k)) (fun k => x1 (ix2 r k)) (fun k => x2 (ix2 r k)) (fun k => x3 (ix2 r k)) (fun k l => x4 (ix2 k l)) n := by
  unfold projBlk k0_pay3 FfnRow.proj
  pointwise

/-- The normalised block at an entry. -/
theorem normBlk_apply (x0 : Vec Ideal S1024x1024 .f32) (x1 : Vec Ideal S1024x512 .bf16) (x2 x3 : Vec Ideal S1024x256 .bf16) (x4 : Vec Ideal S1024x1024 .bf16) (x5 : Vec Ideal S1x1024 .f32) (r n : Fin 1024) :
    normBlk x0 x1 x2 x3 x4 x5 (ix2 r n) = FfnRow.normed (fun k => projBlk x0 x1 x2 x3 x4 (ix2 r k)) (fun k => x5 (ix2 0 k)) n := by
  unfold normBlk k0_pay4 FfnRow.normed
  pointwise
  rfl

/-- A step at an entry: the sum over its 256 hidden columns is added. -/
theorem step_apply (xn : FVec Ideal S1024x1024 .bf16) (x6 : Vec Ideal S1024x5632 .bf16) (x7 : Vec Ideal S2816x1024 .bf16) (j : Fin 11) (acc : FVec Ideal S1024x1024 .f32) (r n : Fin 1024) :
    step xn x6 x7 j acc (ix2 r n) = acc (ix2 r n) + ∑ c : Fin 256, FfnRow.hidden (fun k => xn (ix2 r k)) (fun k l => x6 (ix2 k l)) ⟨256 * j + c, by omega⟩ * x7 (ix2 ⟨256 * j + c, by omega⟩ n) := by
  unfold step k0_pay5 FfnRow.hidden
  pointwise
  simp only [Nat.add_assoc]

/-- What a point leaves in its output block: eleven steps on the projected block. -/
theorem out_eq (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S1024x1024 .f32) (harg9 : arg9.IsWhole)
    (x0 : Vec Ideal S1024x1024 .f32) (x1 : Vec Ideal S1024x512 .bf16) (x2 : Vec Ideal S1024x256 .bf16) (x3 : Vec Ideal S1024x256 .bf16) (x4 : Vec Ideal S1024x1024 .bf16) (x5 : Vec Ideal S1x1024 .f32) (x6 : Vec Ideal S1024x5632 .bf16) (x7 : Vec Ideal S2816x1024 .bf16) :
    out0_A_8 c i arg1 harg1 arg2 harg2 arg3 harg3 arg4 harg4 arg5 harg5 arg6 harg6 arg7 harg7 arg8 harg8 arg9 harg9 x0 x1 x2 x3 x4 x5 x6 x7
      = step (normBlk x0 x1 x2 x3 x4 x5) x6 x7 10 (step (normBlk x0 x1 x2 x3 x4 x5) x6 x7 9 (step (normBlk x0 x1 x2 x3 x4 x5) x6 x7 8
        (step (normBlk x0 x1 x2 x3 x4 x5) x6 x7 7 (step (normBlk x0 x1 x2 x3 x4 x5) x6 x7 6 (step (normBlk x0 x1 x2 x3 x4 x5) x6 x7 5
        (step (normBlk x0 x1 x2 x3 x4 x5) x6 x7 4 (step (normBlk x0 x1 x2 x3 x4 x5) x6 x7 3 (step (normBlk x0 x1 x2 x3 x4 x5) x6 x7 2
        (step (normBlk x0 x1 x2 x3 x4 x5) x6 x7 1 (step (normBlk x0 x1 x2 x3 x4 x5) x6 x7 0 (projBlk x0 x1 x2 x3 x4))))))))))) := by
  frame_open
  simp (disch := decide) only [↓ View.readCov_skip, ↓ View.readCov_cons_toLoadRect, ↓ View.readCov_fill]
  frame_out
  rfl

/-- What a point leaves at an entry: the row function of the point's input rows. -/
theorem out_apply (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S1024x1024 .f32) (harg9 : arg9.IsWhole)
    (x0 : Vec Ideal S1024x1024 .f32) (x1 : Vec Ideal S1024x512 .bf16) (x2 : Vec Ideal S1024x256 .bf16) (x3 : Vec Ideal S1024x256 .bf16) (x4 : Vec Ideal S1024x1024 .bf16) (x5 : Vec Ideal S1x1024 .f32) (x6 : Vec Ideal S1024x5632 .bf16) (x7 : Vec Ideal S2816x1024 .bf16)  (r n : Fin 1024) :
    out0_A_8 c i arg1 harg1 arg2 harg2 arg3 harg3 arg4 harg4 arg5 harg5 arg6 harg6 arg7 harg7 arg8 harg8 arg9 harg9 x0 x1 x2 x3 x4 x5 x6 x7 (ix2 r n)
      = FfnRow.out (fun k => x0 (ix2 r k)) (fun k => x1 (ix2 r k)) (fun k => x2 (ix2 r k)) (fun k => x3 (ix2 r k)) (fun k l => x4 (ix2 k l))
          (fun k => x5 (ix2 0 k)) (fun k l => x6 (ix2 k l)) (fun k l => x7 (ix2 k l)) n := by
  rw [out_eq]
  simp only [step_apply]
  rw [FfnRow.sum_blocks _ (fun j => FfnRow.hidden (fun k => normBlk x0 x1 x2 x3 x4 x5 (ix2 r k)) (fun k l => x6 (ix2 k l)) j * x7 (ix2 j n))
    (fun j => ∑ c : Fin 256, FfnRow.hidden (fun k => normBlk x0 x1 x2 x3 x4 x5 (ix2 r k)) (fun k l => x6 (ix2 k l)) ⟨256 * j + c, by omega⟩ * x7 (ix2 ⟨256 * j + c, by omega⟩ n)) (fun j => rfl)]
  simp only [normBlk_apply, projBlk_apply]
  rfl

end Cert.Kernel2Ideal.Ffn
-- ==== Proof.Ffn.lean ====
/- The output projection and feed-forward: what the kernel's result array holds, what the reference computes, and
   that the two are one array. -/
module

public import proofs.«01_k».proof.Proof.FfnPoint
public import proofs.«01_k».proof.Proof.Gen.Reference2Ideal.Run

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result at row `q` and column `n`: row `q % 4096` of batch `q / 4096`. -/
def resultAt (c : Dev nD) (q : Fin 32768) (n : Fin 1024) : EReal :=
  FfnRow.out (fun k => m ((c.tc : Thread nD τ).loc main_arg0) (ix3 ⟨q / 4096, by omega⟩ ⟨q % 4096, by omega⟩ k))
    (fun k => m ((c.tc : Thread nD τ).loc main_arg1) (ix3 ⟨q / 4096, by omega⟩ ⟨q % 4096, by omega⟩ k))
    (fun k => m ((c.tc : Thread nD τ).loc main_arg2) (ix3 ⟨q / 4096, by omega⟩ ⟨q % 4096, by omega⟩ k))
    (fun k => m ((c.tc : Thread nD τ).loc main_arg3) (ix3 ⟨q / 4096, by omega⟩ ⟨q % 4096, by omega⟩ k))
    (fun k l => m ((c.tc : Thread nD τ).loc main_arg4) (ix2 k l))
    (fun k => m ((c.tc : Thread nD τ).loc main_arg5) (ix1 k))
    (fun k l => m ((c.tc : Thread nD τ).loc main_arg6) (ix2 k l))
    (fun k l => m ((c.tc : Thread nD τ).loc main_arg7) (ix2 k l)) n

/-- The result array. -/
def result (c : Dev nD) : Vec Ideal S32768x1024 .f32 := fun y => resultAt m c (y 0) (y 1)

/-- Where the windows' blocks lie: the row windows move with the point, the weights stay. -/
theorem idx : ∀ t, win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![0, 0] ∧ win0_5.index t = ![0, 0] ∧ win0_6.index t = ![0, 0] ∧ win0_7.index t = ![0, 0]
    ∧ win0_8.index t = ![(grid0.coords t 0).val, 0] := by decide +kernel

/-- Equal rows and weights give equal entries. -/
theorem out_congr {x x' : Fin 1024 → EReal} {a a' : Fin 512 → EReal} {b b' d d' : Fin 256 → EReal} {w w' : Fin 1024 → Fin 1024 → EReal}
    {g g' : Fin 1024 → EReal} {u u' : Fin 1024 → Fin 5632 → EReal} {v v' : Fin 2816 → Fin 1024 → EReal} {n n' : Fin 1024}
    (hx : ∀ k, x k = x' k) (ha : ∀ k, a k = a' k) (hb : ∀ k, b k = b' k) (hd : ∀ k, d k = d' k) (hw : ∀ k l, w k l = w' k l)
    (hg : ∀ k, g k = g' k) (hu : ∀ k l, u k l = u' k l) (hv : ∀ k l, v k l = v' k l) (hn : n = n') :
    FfnRow.out x a b d w g u v n = FfnRow.out x' a' b' d' w' g' u' v' n' := by
  obtain rfl := funext hx
  obtain rfl := funext ha
  obtain rfl := funext hb
  obtain rfl := funext hd
  obtain rfl := funext fun k => funext (hw k)
  obtain rfl := funext hg
  obtain rfl := funext fun k => funext (hu k)
  obtain rfl := funext fun k => funext (hv k)
  rw [hn]

/-- Batches laid one after another: row `q` is row `q % 4096` of batch `q / 4096`. -/
theorem flat1024 (x : FVec Ideal S8x4096x1024 .f32) (q : Fin 32768) (k : Fin 1024) :
    shapeCast S32768x1024 x shapeCasts_S8x4096x1024_S32768x1024 (ix2 q k) = x (ix3 ⟨q / 4096, by omega⟩ ⟨q % 4096, by omega⟩ k) := by
  pointwise

/-- Batches laid one after another: row `q` is row `q % 4096` of batch `q / 4096`. -/
theorem flat512 (x : FVec Ideal S8x4096x512 .bf16) (q : Fin 32768) (k : Fin 512) :
    shapeCast S32768x512 x shapeCasts_S8x4096x512_S32768x512 (ix2 q k) = x (ix3 ⟨q / 4096, by omega⟩ ⟨q % 4096, by omega⟩ k) := by
  pointwise

/-- Batches laid one after another: row `q` is row `q % 4096` of batch `q / 4096`. -/
theorem flat256 (x : FVec Ideal S8x4096x256 .bf16) (q : Fin 32768) (k : Fin 256) :
    shapeCast S32768x256 x shapeCasts_S8x4096x256_S32768x256 (ix2 q k) = x (ix3 ⟨q / 4096, by omega⟩ ⟨q % 4096, by omega⟩ k) := by
  pointwise

/-- The operand of window 0 is argument 0 with its batches' rows one after another. -/
theorem cast0 (c : Dev nD) (q : Fin 32768) (k : Fin 1024) :
    V m c main_v0 (ix2 q k) = m ((c.tc : Thread nD τ).loc main_arg0) (ix3 ⟨q / 4096, by omega⟩ ⟨q % 4096, by omega⟩ k) := by
  have e : V m c main_v0 = shapeCast S32768x1024 (m ((c.tc : Thread nD τ).loc main_arg0)) shapeCasts_S8x4096x1024_S32768x1024 := by
    entry_read
    rfl
  rw [e]
  exact flat1024 _ q k

/-- Window 0's block at a point: 1024 rows of that operand. -/
theorem read0 (c : Dev nD) (t : Fin cfg0.N) (r : Fin 1024) (k : Fin 1024) (q : Fin 32768) (hq : q.val = 1024 * (grid0.coords t 0).val + r.val) :
    iblk m c 0 t (ix2 r k) = m ((c.tc : Thread nD τ).loc main_arg0) (ix3 ⟨q / 4096, by omega⟩ ⟨q % 4096, by omega⟩ k) := by
  have e : iblk m c 0 t (ix2 r k) = V m c main_v0 (ix2 q k) := by
    blk_ext [iblk, idx t]
  rw [e, cast0]

/-- The operand of window 1 is argument 1 with its batches' rows one after another. -/
theorem cast1 (c : Dev nD) (q : Fin 32768) (k : Fin 512) :
    V m c main_v1 (ix2 q k) = m ((c.tc : Thread nD τ).loc main_arg1) (ix3 ⟨q / 4096, by omega⟩ ⟨q % 4096, by omega⟩ k) := by
  have e : V m c main_v1 = shapeCast S32768x512 (m ((c.tc : Thread nD τ).loc main_arg1)) shapeCasts_S8x4096x512_S32768x512 := by
    entry_read
    rfl
  rw [e]
  exact flat512 _ q k

/-- Window 1's block at a point: 1024 rows of that operand. -/
theorem read1 (c : Dev nD) (t : Fin cfg0.N) (r : Fin 1024) (k : Fin 512) (q : Fin 32768) (hq : q.val = 1024 * (grid0.coords t 0).val + r.val) :
    iblk m c 1 t (ix2 r k) = m ((c.tc : Thread nD τ).loc main_arg1) (ix3 ⟨q / 4096, by omega⟩ ⟨q % 4096, by omega⟩ k) := by
  have e : iblk m c 1 t (ix2 r k) = V m c main_v1 (ix2 q k) := by
    blk_ext [iblk, idx t]
  rw [e, cast1]

/-- The operand of window 2 is argument 2 with its batches' rows one after another. -/
theorem cast2 (c : Dev nD) (q : Fin 32768) (k : Fin 256) :
    V m c main_v2 (ix2 q k) = m ((c.tc : Thread nD τ).loc main_arg2) (ix3 ⟨q / 4096, by omega⟩ ⟨q % 4096, by omega⟩ k) := by
  have e : V m c main_v2 = shapeCast S32768x256 (m ((c.tc : Thread nD τ).loc main_arg2)) shapeCasts_S8x4096x256_S32768x256 := by
    entry_read
    rfl
  rw [e]
  exact flat256 _ q k

/-- Window 2's block at a point: 1024 rows of that operand. -/
theorem read2 (c : Dev nD) (t : Fin cfg0.N) (r : Fin 1024) (k : Fin 256) (q : Fin 32768) (hq : q.val = 1024 * (grid0.coords t 0).val + r.val) :
    iblk m c 2 t (ix2 r k) = m ((c.tc : Thread nD τ).loc main_arg2) (ix3 ⟨q / 4096, by omega⟩ ⟨q % 4096, by omega⟩ k) := by
  have e : iblk m c 2 t (ix2 r k) = V m c main_v2 (ix2 q k) := by
    blk_ext [iblk, idx t]
  rw [e, cast2]

/-- The operand of window 3 is argument 3 with its batches' rows one after another. -/
theorem cast3 (c : Dev nD) (q : Fin 32768) (k : Fin 256) :
    V m c main_v3 (ix2 q k) = m ((c.tc : Thread nD τ).loc main_arg3) (ix3 ⟨q / 4096, by omega⟩ ⟨q % 4096, by omega⟩ k) := by
  have e : V m c main_v3 = shapeCast S32768x256 (m ((c.tc : Thread nD τ).loc main_arg3)) shapeCasts_S8x4096x256_S32768x256 := by
    entry_read
    rfl
  rw [e]
  exact flat256 _ q k

/-- Window 3's block at a point: 1024 rows of that operand. -/
theorem read3 (c : Dev nD) (t : Fin cfg0.N) (r : Fin 1024) (k : Fin 256) (q : Fin 32768) (hq : q.val = 1024 * (grid0.coords t 0).val + r.val) :
    iblk m c 3 t (ix2 r k) = m ((c.tc : Thread nD τ).loc main_arg3) (ix3 ⟨q / 4096, by omega⟩ ⟨q % 4096, by omega⟩ k) := by
  have e : iblk m c 3 t (ix2 r k) = V m c main_v3 (ix2 q k) := by
    blk_ext [iblk, idx t]
  rw [e, cast3]

/-- Window 4's block is all of argument 4. -/
theorem read4 (c : Dev nD) (t : Fin cfg0.N) (k : Fin 1024) (l : Fin 1024) :
    iblk m c 4 t (ix2 k l) = m ((c.tc : Thread nD τ).loc main_arg4) (ix2 k l) := by
  have e : (V m c main_v4 : FVec Ideal S1024x1024 .bf16) = (truncf .bf16 (m ((c.tc : Thread nD τ).loc main_arg4) : FVec Ideal S1024x1024 .f32) bitsLt_bf16_f32 : FVec Ideal S1024x1024 .bf16) := by
    entry_read
    rfl
  have e' : iblk m c 4 t (ix2 k l) = V m c main_v4 (ix2 k l) := by
    blk_ext [iblk, idx t]
  rw [e', e]
  rfl

/-- A vector as one row. -/
theorem gain_row (g : FVec Ideal S1024 .f32) (k : Fin 1024) : broadcastInDim S1x1024 ![1] bcast_S1024_S1x1024_1 g (ix2 0 k) = g (ix1 k) := by
  pointwise

/-- Window 5's block is argument 5, as one row. -/
theorem read5 (c : Dev nD) (t : Fin cfg0.N) (k : Fin 1024) :
    iblk m c 5 t (ix2 0 k) = m ((c.tc : Thread nD τ).loc main_arg5) (ix1 k) := by
  have e : V m c main_v5 = broadcastInDim S1x1024 ![1] bcast_S1024_S1x1024_1 (m ((c.tc : Thread nD τ).loc main_arg5)) := by
    entry_read
    rfl
  have e' : iblk m c 5 t (ix2 0 k) = V m c main_v5 (ix2 0 k) := by
    blk_ext [iblk, idx t]
  rw [e', e]
  exact gain_row _ k

/-- Window 6's block is all of argument 6. -/
theorem read6 (c : Dev nD) (t : Fin cfg0.N) (k : Fin 1024) (l : Fin 5632) :
    iblk m c 6 t (ix2 k l) = m ((c.tc : Thread nD τ).loc main_arg6) (ix2 k l) := by
  have e : (V m c main_v6 : FVec Ideal S1024x5632 .bf16) = (truncf .bf16 (m ((c.tc : Thread nD τ).loc main_arg6) : FVec Ideal S1024x5632 .f32) bitsLt_bf16_f32 : FVec Ideal S1024x5632 .bf16) := by
    entry_read
    rfl
  have e' : iblk m c 6 t (ix2 k l) = V m c main_v6 (ix2 k l) := by
    blk_ext [iblk, idx t]
  rw [e', e]
  rfl

/-- Window 7's block is all of argument 7. -/
theorem read7 (c : Dev nD) (t : Fin cfg0.N) (k : Fin 2816) (l : Fin 1024) :
    iblk m c 7 t (ix2 k l) = m ((c.tc : Thread nD τ).loc main_arg7) (ix2 k l) := by
  have e : (V m c main_v7 : FVec Ideal S2816x1024 .bf16) = (truncf .bf16 (m ((c.tc : Thread nD τ).loc main_arg7) : FVec Ideal S2816x1024 .f32) bitsLt_bf16_f32 : FVec Ideal S2816x1024 .bf16) := by
    entry_read
    rfl
  have e' : iblk m c 7 t (ix2 k l) = V m c main_v7 (ix2 k l) := by
    blk_ext [iblk, idx t]
  rw [e', e]
  rfl

/-- The kernel's result array. -/
theorem arr_eq (c : Dev nD) : (dats m 0 c).arrAt 8 cfg0.N = result m c := by
  refine (dats m 0 c).arrAt_eq_of_covers 8 _ (by decide +kernel) fun t hf y => ?_
  have e0 : ((((cfg0.win 8).blk t).view.emb y) 0).val = 1024 * (grid0.coords t 0).val + (y 0).val := by
    blk_simp [idx t]
    omega
  have e1 : ((((cfg0.win 8).blk t).view.emb y) 1).val = (y 1).val := by
    blk_simp [idx t]
  show _ = resultAt m c ((((cfg0.win 8).blk t).view.emb y) 0) ((((cfg0.win 8).blk t).view.emb y) 1)
  generalize ((((cfg0.win 8).blk t).view.emb y) 0 : Fin 32768) = q at e0 ⊢
  generalize ((((cfg0.win 8).blk t).view.emb y) 1 : Fin 1024) = n at e1 ⊢
  blk_simp
  rw [after0_8]
  idx_vars y
  unfold outsAt0
  rw [out_apply]
  unfold resultAt
  exact out_congr (fun k => read0 m c t y0 k q e0) (fun k => read1 m c t y0 k q e0) (fun k => read2 m c t y0 k q e0) (fun k => read3 m c t y0 k q e0)
    (fun k l => read4 m c t k l) (fun k => read5 m c t k) (fun k l => read6 m c t k l) (fun k l => read7 m c t k l) (Fin.ext e1.symm)

end Cert.Kernel2Ideal.Ffn
-- ==== Proof.FfnRef.lean ====
/- The reference of the output projection and feed-forward, read at an entry. -/
module

public import proofs.«01_k».proof.Proof.FfnRow
public import proofs.«01_k».proof.Proof.Gen.Reference2Ideal.Run

@[expose] public section

set_option maxRecDepth 16384

noncomputable section

namespace Cert.Reference2Ideal.Ffn

open Cert.Reference2Ideal Cert.Reference2Ideal.Gen Idealize.ShloMosaic Idealize.ShloMosaic.TcCoe Idealize.SL.Sem

/-- The residual after the output projection. -/
def projected (x : FVec Ideal S8x4096x1024 .f32) (a : FVec Ideal S8x4096x512 .bf16) (b d : FVec Ideal S8x4096x256 .bf16) (w : FVec Ideal S1024x1024 .f32) : FVec Ideal S8x4096x1024 .f32 :=
  addf x (Host.dotGeneral dot_S8x4096x1024_S1024x1024_S8x4096x1024_2_0_01_1_n_n none
    (extf .f32 (concatenate S8x4096x1024 2 [⟨S8x4096x512, a⟩, ⟨S8x4096x256, b⟩, ⟨S8x4096x256, d⟩] concatenates_S8x4096x512_S8x4096x256_S8x4096x256_S8x4096x1024_d2 : FVec Ideal S8x4096x1024 .bf16) bitsLt_bf16_f32) w)

/-- The rows divided by their root mean squares, times the gain. -/
def normRows (p : FVec Ideal S8x4096x1024 .f32) (g : FVec Ideal S1024 .f32) : FVec Ideal S8x4096x1024 .f32 :=
  mulf (mulf p (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf p p) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The hidden rows: the gate half, its product with `1 / (1 + exp (-gate))`, times the other half. -/
def hidRows (z : FVec Ideal S8x4096x1024 .f32) (w : FVec Ideal S1024x5632 .f32) : FVec Ideal S8x4096x2816 .f32 :=
  mulf (mulf (extractStridedSlice S8x4096x2816 ![0, 0, 0] (Host.dotGeneral dot_S8x4096x1024_S1024x5632_S8x4096x5632_2_0_01_1_n_n none z w) slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] (Host.dotGeneral dot_S8x4096x1024_S1024x5632_S8x4096x5632_2_0_01_1_n_n none z w) slices_S8x4096x5632_S8x4096x2816_0_0_0))))))
    (extractStridedSlice S8x4096x2816 ![0, 0, 2816] (Host.dotGeneral dot_S8x4096x1024_S1024x5632_S8x4096x5632_2_0_01_1_n_n none z w) slices_S8x4096x5632_S8x4096x2816_0_0_2816)

/-- The output projection at an entry. -/
theorem projected_apply (x : FVec Ideal S8x4096x1024 .f32) (a : FVec Ideal S8x4096x512 .bf16) (b d : FVec Ideal S8x4096x256 .bf16) (w : FVec Ideal S1024x1024 .f32) (i : Fin 8) (t : Fin 4096) (n : Fin 1024) :
    projected x a b d w (ix3 i t n) = FfnRow.proj (fun k => x (ix3 i t k)) (fun k => a (ix3 i t k)) (fun k => b (ix3 i t k)) (fun k => d (ix3 i t k)) (fun k l => w (ix2 k l)) n := by
  unfold projected FfnRow.proj
  pointwise
  rw [FfnRow.sum_cut]
  simp only [← add_assoc]
  congr 1

/-- The normalised rows at an entry. -/
theorem normRows_apply (p : FVec Ideal S8x4096x1024 .f32) (g : FVec Ideal S1024 .f32) (i : Fin 8) (t : Fin 4096) (n : Fin 1024) :
    normRows p g (ix3 i t n) = FfnRow.normed (fun k => p (ix3 i t k)) (fun k => g (ix1 k)) n := by
  unfold normRows FfnRow.normed
  pointwise

/-- The hidden rows at an entry. -/
theorem hidRows_apply (z : FVec Ideal S8x4096x1024 .f32) (w : FVec Ideal S1024x5632 .f32) (i : Fin 8) (t : Fin 4096) (j : Fin 2816) :
    hidRows z w (ix3 i t j) = FfnRow.hidden (fun k => z (ix3 i t k)) (fun k l => w (ix2 k l)) j := by
  unfold hidRows FfnRow.hidden
  pointwise
  rfl

/-- The reference's result in terms of the stages above. -/
theorem ref_eq (m : (ℓ : Loc nD τ sig) → Buf (Elt Ideal) ℓ) (c : Dev nD) (P N : FVec Ideal S8x4096x1024 .f32)
    (hP : P = projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (hN : N = normRows P (m ((c.tc : Thread nD τ).loc main_arg5))) :
    Value.res_main_v24 m c = shapeCast S32768x1024 (addf P (Host.dotGeneral (φ₂ := .f32) dot_S8x4096x2816_S2816x1024_S8x4096x1024_2_0_01_1_n_n none (hidRows N (m ((c.tc : Thread nD τ).loc main_arg6))) (m ((c.tc : Thread nD τ).loc main_arg7) : FVec Ideal S2816x1024 .f32) : FVec Ideal S8x4096x1024 .f32)) shapeCasts_S8x4096x1024_S32768x1024 := by
  subst hN
  subst hP
  rfl

/-- The reference's result at an entry: row `r` is row `r % 4096` of batch `r / 4096`. -/
theorem ref_apply (m : (ℓ : Loc nD τ sig) → Buf (Elt Ideal) ℓ) (c : Dev nD) (r : Fin 32768) (n : Fin 1024) :
    Value.res_main_v24 m c (ix2 r n) = FfnRow.out (fun k => m ((c.tc : Thread nD τ).loc main_arg0) (ix3 ⟨r / 4096, by omega⟩ ⟨r % 4096, by omega⟩ k))
    (fun k => m ((c.tc : Thread nD τ).loc main_arg1) (ix3 ⟨r / 4096, by omega⟩ ⟨r % 4096, by omega⟩ k))
    (fun k => m ((c.tc : Thread nD τ).loc main_arg2) (ix3 ⟨r / 4096, by omega⟩ ⟨r % 4096, by omega⟩ k))
    (fun k => m ((c.tc : Thread nD τ).loc main_arg3) (ix3 ⟨r / 4096, by omega⟩ ⟨r % 4096, by omega⟩ k))
    (fun k l => m ((c.tc : Thread nD τ).loc main_arg4) (ix2 k l))
    (fun k => m ((c.tc : Thread nD τ).loc main_arg5) (ix1 k))
    (fun k l => m ((c.tc : Thread nD τ).loc main_arg6) (ix2 k l))
    (fun k l => m ((c.tc : Thread nD τ).loc main_arg7) (ix2 k l)) n := by
  rw [ref_eq m c _ _ rfl rfl]
  generalize hP : projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = P
  generalize hN : normRows P (m ((c.tc : Thread nD τ).loc main_arg5)) = N
  generalize hH : hidRows N (m ((c.tc : Thread nD τ).loc main_arg6)) = H
  pointwise
  subst hH
  simp only [hidRows_apply]
  subst hN
  simp only [normRows_apply]
  subst hP
  simp only [projected_apply]
  rfl

end Cert.Reference2Ideal.Ffn
-- ==== Proof.FfnTie.lean ====
/- The kernel's result array of the output projection and feed-forward is the reference's. -/
module

public import proofs.«01_k».proof.Proof.Ffn
public import proofs.«01_k».proof.Proof.FfnRef

@[expose] public section

noncomputable section

namespace Cert.Kernel2Ideal.Ffn

open Cert.Kernel2Ideal Cert.Kernel2Ideal.Gen Idealize.ShloMosaic Idealize.ShloMosaic.TcCoe Idealize.SL.Sem

/-- From memories that agree on the arguments, the reference's result is the array the kernel's run leaves. -/
theorem tie (m : (ℓ : Loc nD τ sig) → Buf (Elt Ideal) ℓ)
    (m' : (ℓ : Loc Cert.Reference2Ideal.nD Cert.Reference2Ideal.τ Cert.Reference2Ideal.sig) → Buf (Elt Ideal) ℓ) (c : Dev nD)
    (h0 : m' ((c.tc : Thread Cert.Reference2Ideal.nD Cert.Reference2Ideal.τ).loc Cert.Reference2Ideal.main_arg0) = m ((c.tc : Thread nD τ).loc main_arg0))
    (h1 : m' ((c.tc : Thread Cert.Reference2Ideal.nD Cert.Reference2Ideal.τ).loc Cert.Reference2Ideal.main_arg1) = m ((c.tc : Thread nD τ).loc main_arg1))
    (h2 : m' ((c.tc : Thread Cert.Reference2Ideal.nD Cert.Reference2Ideal.τ).loc Cert.Reference2Ideal.main_arg2) = m ((c.tc : Thread nD τ).loc main_arg2))
    (h3 : m' ((c.tc : Thread Cert.Reference2Ideal.nD Cert.Reference2Ideal.τ).loc Cert.Reference2Ideal.main_arg3) = m ((c.tc : Thread nD τ).loc main_arg3))
    (h4 : m' ((c.tc : Thread Cert.Reference2Ideal.nD Cert.Reference2Ideal.τ).loc Cert.Reference2Ideal.main_arg4) = m ((c.tc : Thread nD τ).loc main_arg4))
    (h5 : m' ((c.tc : Thread Cert.Reference2Ideal.nD Cert.Reference2Ideal.τ).loc Cert.Reference2Ideal.main_arg5) = m ((c.tc : Thread nD τ).loc main_arg5))
    (h6 : m' ((c.tc : Thread Cert.Reference2Ideal.nD Cert.Reference2Ideal.τ).loc Cert.Reference2Ideal.main_arg6) = m ((c.tc : Thread nD τ).loc main_arg6))
    (h7 : m' ((c.tc : Thread Cert.Reference2Ideal.nD Cert.Reference2Ideal.τ).loc Cert.Reference2Ideal.main_arg7) = m ((c.tc : Thread nD τ).loc main_arg7)) :
    Cert.Reference2Ideal.Value.res_main_v24 m' c = (dats m 0 c).arrAt 8 cfg0.N := by
  rw [arr_eq]
  funext y
  obtain ⟨q, n, rfl⟩ : ∃ (q : Fin 32768) (n : Fin 1024), y = ix2 q n := ⟨y 0, y 1, by idx_vars y⟩
  rw [Cert.Reference2Ideal.Ffn.ref_apply m' c q n, h0, h1, h2, h3, h4, h5, h6, h7]
  rfl

end Cert.Kernel2Ideal.Ffn
-- ==== Proof.FoxWords.lean ====
/- Words as numbers: comparisons of small counters, and the constants of the attention kernel. -/
module

public import proofs.«01_k».proof.Proof.Gen.KernelIdeal.Value
public import Idealize.ShloMosaic.Lib.Pipeline.ValueKit
public import Idealize.ShloMosaic.Lib.Pointwise

@[expose] public section
set_option maxRecDepth 16384

noncomputable section

namespace Cert.KernelIdeal.Fox

open Cert.KernelIdeal Cert.KernelIdeal.Gen Idealize.ShloMosaic Idealize.ShloMosaic.TcCoe Idealize.SL.Sem

/-- The word of minus infinity. -/
theorem bits_low : Ideal.ofBits FTy.f32 4286578688#32 = ⊥ := by
  simp [Ideal.ofBits, Ideal.ieee]

/-- `≤` of two small counters. -/
theorem sle_word (a b : ℕ) (ha : a < 4096) (hb : b < 4096) : IntOp.cmpi .sle (BitVec.ofNat 32 a) (BitVec.ofNat 32 b) = if a ≤ b then 1#1 else 0#1 := by
  have e : ∀ n : ℕ, n < 4096 → (BitVec.ofNat 32 n).toInt = n := fun n h => by
    rw [BitVec.toInt_eq_toNat_cond, BitVec.toNat_ofNat]; omega
  simp only [IntOp.cmpi, BitVec.sle, e a ha, e b hb]
  by_cases h : a ≤ b <;> simp [h]

/-- `<` of two small counters. -/
theorem slt_word (a b : ℕ) (ha : a < 4096) (hb : b < 4096) : IntOp.cmpi .slt (BitVec.ofNat 32 a) (BitVec.ofNat 32 b) = if a < b then 1#1 else 0#1 := by
  have e : ∀ n : ℕ, n < 4096 → (BitVec.ofNat 32 n).toInt = n := fun n h => by
    rw [BitVec.toInt_eq_toNat_cond, BitVec.toNat_ofNat]; omega
  simp only [IntOp.cmpi, BitVec.slt, e a ha, e b hb]
  by_cases h : a < b <;> simp [h]

/-- A choice by the word of a proposition. -/
theorem pick {α : Type} (p : Prop) [Decidable p] (x y : α) : Scalar.select (if p then 1#1 else 0#1) x y = if p then x else y := by
  by_cases h : p <;> simp [h, Scalar.select]

end Cert.KernelIdeal.Fox
-- ==== Proof.FoxMax.lean ====
/- Maxima along the last axis, at any extents. -/
module

public import Idealize.ShloMosaic.Lib.Pipeline.ValueKit
public import Idealize.ShloMosaic.Lib.Pointwise

@[expose] public section

noncomputable section

namespace Cert.FoxMax

open Idealize.ShloMosaic

/-- The host's maximum over the last of four axes. -/
theorem host_max {a b c n : ℕ} {u : Shape} (v : FVec Ideal ⟨4, ![a, b, c, n]⟩ .f32) (init : u.Idx → Ideal .f32) (h : (⟨4, ![a, b, c, n]⟩ : Shape).ReducesTo [3] ⟨3, ![a, b, c]⟩)
    (hu : 0 < u.numel) (i : Fin a) (j : Fin b) (k : Fin c) :
    Host.reduce FloatOps.maximumf v init h hu (ix3 i j k) = Finset.fold (max : EReal → EReal → EReal) (init (Shape.Idx.first hu)) (fun y => v (ix4 i j k y)) Finset.univ := by
  pointwise

/-- A block's maximum along its rows, from minus infinity. -/
theorem block_max {a n : ℕ} (v : FVec Ideal ⟨2, ![a, n]⟩ .f32) (h : (⟨2, ![a, n]⟩ : Shape).Reduces [1] ⟨1, ![a]⟩) (p q) (i : Fin a) :
    multiReduction .maximumf [1] ⟨1, ![a]⟩ v 0xFF800000#32 h p q (ix1 i) = Finset.fold (max : EReal → EReal → EReal) (Ideal.ofBits .f32 0xFF800000#32) (fun y => v (ix2 i y)) Finset.univ := by
  pointwise

end Cert.FoxMax
-- ==== Proof.FoxBlock.lean ====
/- The attention kernel's block operations at an entry: scores of a query block against a key block, and one step of
   the running maximum and of the running sum. -/
module

public import proofs.«01_k».proof.Proof.Gen.KernelIdeal.Value
public import Idealize.ShloMosaic.Lib.Pipeline.ValueKit
public import Idealize.ShloMosaic.Lib.Pointwise
public import proofs.«01_k».proof.Proof.FoxWords
public import proofs.«01_k».proof.Proof.FoxMax

@[expose] public section

set_option maxRecDepth 16384

noncomputable section

namespace Cert.KernelIdeal.Fox

open Cert.KernelIdeal Cert.KernelIdeal.Gen Idealize.ShloMosaic Idealize.ShloMosaic.TcCoe Idealize.SL.Sem

/-- The two named constants. -/
theorem named_log2e : (Named.named κ "log2e" 0x3FB8AA3B#32 : Ideal .f32) = (((Real.log 2)⁻¹ : ℝ) : EReal) := rfl

theorem named_lowest : (Named.named κ "mask" 0xF149F2CA#32 : Ideal .f32) = (⊥ : EReal) := rfl

/-- The scores of a block of queries against a block of keys, times `1 / log 2`. -/
theorem scores_apply (q k : Vec Ideal S1x1x1024x128 .bf16) (r s : Fin 1024) :
    k0_pay2 q k (ix2 r s) = (∑ x, q (ix4 0 0 r x) * k (ix4 0 0 s x)) * (((Real.log 2)⁻¹ : ℝ) : EReal) := by
  unfold k0_pay2
  pointwise
  rfl

/-- The scores of the diagonal block: `⊥` above the diagonal. -/
theorem diag_apply (q k : Vec Ideal S1x1x1024x128 .bf16) (r s : Fin 1024) :
    k0_pay34 q k (ix2 r s) = if s ≤ r then (∑ x, q (ix4 0 0 r x) * k (ix4 0 0 s x)) * (((Real.log 2)⁻¹ : ℝ) : EReal) else ⊥ := by
  unfold k0_pay34
  pointwise
  rw [sle_word _ _ (by omega) (by omega), pick, named_log2e, named_lowest]
  simp only [Fin.le_def]

/-- The rows' maxima of a block of scores. -/
def blockMax (s : FVec Ideal S1024x1024 .f32) : FVec Ideal S1024 .f32 :=
  multiReduction .maximumf [1] S1024 s 0xFF800000#32 reduces_S1024x1024_S1024 (.inl rfl) rfl

theorem blockMax_apply (s : FVec Ideal S1024x1024 .f32) (r : Fin 1024) :
    blockMax s (ix1 r) = Finset.fold (max : EReal → EReal → EReal) ⊥ (fun x => s (ix2 r x)) Finset.univ :=
  (Cert.FoxMax.block_max s reduces_S1024x1024_S1024 _ _ r).trans
    (congrArg (fun x => Finset.fold (max : EReal → EReal → EReal) x (fun y => s (ix2 r y)) Finset.univ) bits_low)

/-- The maximum of a running maximum and a block's. -/
theorem larger_apply (m : FVec Ideal S1024x1 .f32) (b : FVec Ideal S1024 .f32) (r : Fin 1024) :
    maximumf m (shapeCast S1024x1 b shapeCasts_S1024_S1024x1) (ix2 r 0) = max (m (ix2 r 0)) (b (ix1 r)) := by
  pointwise

/-- The new running maximum. -/
theorem newMax_apply (m : FVec Ideal S1024x1 .f32) (s : FVec Ideal S1024x1024 .f32) (r : Fin 1024) :
    k0_pay6 m s (ix2 r 0) = max (m (ix2 r 0)) (Finset.fold max ⊥ (fun x => s (ix2 r x)) Finset.univ) :=
  (larger_apply m (blockMax s) r).trans (congrArg (max (m (ix2 r 0))) (blockMax_apply s r))

/-- The new running sum. -/
theorem newAcc_apply (m : FVec Ideal S1024x1 .f32) (a : FVec Ideal S1024x128 .f32) (s : FVec Ideal S1024x1024 .f32) (v : Vec Ideal S1x1x1024x128 .bf16) (r : Fin 1024) (l : Fin 128) :
    k0_pay7 m a s v (ix2 r l) = Ideal.exp2 (m (ix2 r 0) - k0_pay6 m s (ix2 r 0)) * a (ix2 r l)
      + ∑ x, Ideal.exp2 (s (ix2 r x) - k0_pay6 m s (ix2 r 0)) * v (ix4 0 0 x l) := by
  unfold k0_pay7
  pointwise
  rfl

/-- The start: maximum `⊥`, sum zero. -/
theorem max_start (r : Fin 1024) : k0_pay20 (F := Ideal) (ix2 r 0) = (⊥ : EReal) := rfl

theorem sum_start (r : Fin 1024) (l : Fin 128) : k0_pay21 (F := Ideal) (ix2 r l) = (0 : EReal) := by
  unfold k0_pay21
  pointwise

end Cert.KernelIdeal.Fox
-- ==== Proof.FoxEnd.lean ====
/- The end of a point of the attention kernel: the heads' sums are divided by their normalisers, put side by side, and
   normalised over the group's lanes. -/
module

public import proofs.«01_k».proof.Proof.Gen.KernelIdeal.Value
public import Idealize.ShloMosaic.Lib.Pipeline.ValueKit
public import Idealize.ShloMosaic.Lib.Pointwise
public import proofs.«01_k».proof.Proof.FoxWords

@[expose] public section

set_option maxRecDepth 16384

noncomputable section

namespace Cert.KernelIdeal.Fox

open Cert.KernelIdeal Cert.KernelIdeal.Gen Idealize.ShloMosaic Idealize.ShloMosaic.TcCoe Idealize.SL.Sem

/-- The sums of two heads, each divided by its normaliser: the first head in lanes 0…63, the second in 64…127. -/
def pair (u w : FVec Ideal S1024x128 .f32) : FVec Ideal S1024x128 .f32 :=
  have low : IVec S1024x128 1 := cmpi .slt (iota .tc S1024x128 32 [1] iota_S1024x128_d1_w32) (broadcast S1024x128 64#32)
  divf (select low u (dynamicRotate 1 64#32 none w rotates_S1024x128_d1)) (select low (dynamicRotate 1 64#32 none u rotates_S1024x128_d1) w)

/-- Two pairs side by side. -/
def joined (u w : FVec Ideal S1024x128 .f32) : FVec Ideal S1024x256 .f32 :=
  concatenate S1024x256 1 [⟨S1024x128, u⟩, ⟨S1024x128, w⟩] concatenates_S1024x128_S1024x128_S1024x256_d1

/-- A block divided by its rows' root mean squares. -/
def scaled (y : FVec Ideal S1024x256 .f32) : FVec Ideal S1024x256 .f32 :=
  mulf y (broadcastTo S1024x256 (rsqrt (addf (divf (shapeCast S1024x1 (multiReduction .add [1] S1024 (mulf y y) 0x00000000#32 reduces_S1024x256_S1024 (.inl rfl) rfl) shapeCasts_S1024_S1024x1) (broadcast S1024x1 (Scalar.ofBits .f32 0x43800000#32 : Ideal .f32))) (broadcast S1024x1 (Scalar.ofBits .f32 0x358637BD#32 : Ideal .f32)))) broadcasts_S1024x1_S1024x256)

/-- The end of a point in terms of the above. -/
theorem end_eq (m : FVec Ideal S1024x1 .f32) (a a0 a1 a2 : FVec Ideal S1024x128 .f32) (q k v : Vec Ideal S1x1x1024x128 .bf16) :
    k0_pay40 m a a0 a1 a2 (k0_pay38 q k) k0_pay39 v = scaled (joined (pair a0 a1) (pair a2 (k0_pay7 m a (k0_pay34 q k) v))) := rfl

theorem pair_low (u w : FVec Ideal S1024x128 .f32) (r : Fin 1024) (d : Fin 64) :
    pair u w (ix2 r ⟨d, by omega⟩) = Ideal.div (u (ix2 r ⟨d, by omega⟩)) (u (ix2 r ⟨64 + d, by omega⟩)) := by
  unfold pair
  pointwise
  rw [slt_word _ _ (by omega) (by omega), pick, if_pos d.isLt, pick, if_pos d.isLt]
  exact congrArg (fun l : Fin 128 => Ideal.div (u (ix2 r ⟨d, by omega⟩)) (u (ix2 r l))) (Fin.ext (by show (d.val + 128 - 64) % 128 = 64 + d.val; omega))

theorem pair_high (u w : FVec Ideal S1024x128 .f32) (r : Fin 1024) (d : Fin 64) :
    pair u w (ix2 r ⟨64 + d, by omega⟩) = Ideal.div (w (ix2 r ⟨d, by omega⟩)) (w (ix2 r ⟨64 + d, by omega⟩)) := by
  unfold pair
  pointwise
  rw [slt_word _ _ (by omega) (by omega), pick, if_neg (by omega), pick, if_neg (by omega)]
  exact congrArg (fun l : Fin 128 => Ideal.div (w (ix2 r l)) (w (ix2 r ⟨64 + d, by omega⟩))) (Fin.ext (by show (64 + d.val + 128 - 64) % 128 = d.val; omega))

theorem joined_low (u w : FVec Ideal S1024x128 .f32) (r : Fin 1024) (l : Fin 128) :
    joined u w (ix2 r ⟨l, by omega⟩) = u (ix2 r l) := by
  unfold joined
  pointwise

theorem joined_high (u w : FVec Ideal S1024x128 .f32) (r : Fin 1024) (l : Fin 128) :
    joined u w (ix2 r ⟨128 + l, by omega⟩) = w (ix2 r l) := by
  unfold joined
  pointwise

theorem scaled_apply (y : FVec Ideal S1024x256 .f32) (r : Fin 1024) (l : Fin 256) :
    scaled y (ix2 r l) = y (ix2 r l) * Ideal.rsqrt (Ideal.div (∑ x, y (ix2 r x) * y (ix2 r x)) (Ideal.ofBits FTy.f32 0x43800000#32) + Ideal.ofBits FTy.f32 0x358637BD#32) := by
  unfold scaled
  pointwise

theorem gain_apply (y : FVec Ideal S1024x256 .f32) (g : Vec Ideal S1x256 .f32) (r : Fin 1024) (l : Fin 256) :
    k0_pay1 y g (ix3 0 r l) = y (ix2 r l) * g (ix2 0 l) := by
  unfold k0_pay1
  pointwise

end Cert.KernelIdeal.Fox
-- ==== Proof.FoxPoint.lean ====
/- What one grid point of the attention leaves in its block of 1024 queries: per head a running maximum and a running
   sum over the key blocks before the diagonal, one more step at the diagonal block, then the end. -/
module

public import proofs.«01_k».proof.Proof.Gen.KernelIdeal.Value
public import proofs.«01_k».proof.Proof.FoxBlock
public import proofs.«01_k».proof.Proof.FoxEnd
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Fox

open Cert.KernelIdeal Cert.KernelIdeal.Gen Idealize.ShloMosaic Idealize.ShloMosaic.TcCoe Idealize.SL.Sem

/-- The queries of one head. -/
def qRows (x : Vec Ideal S1x4x1024x128 .bf16) (h : Fin 4) : Vec Ideal S1x1x1024x128 .bf16 :=
  View.ld x (Rect.unit ![0, h, 0, 0] ![1, 1, 1024, 128] (by intro a; fin_cases a <;> simp [Shape.size] <;> omega))

/-- Block `j` of the keys, or of the values, of one head. -/
def kRows (x : Vec Ideal S1x4x4096x128 .bf16) (h : Fin 4) (j : ℕ) : Vec Ideal S1x1x1024x128 .bf16 :=
  View.ld x (Rect.unit ![0, h, 1024 * (j % 4), 0] ![1, 1, 1024, 128] (by intro a; fin_cases a <;> simp [Shape.size] <;> omega))

theorem qRows_apply (x : Vec Ideal S1x4x1024x128 .bf16) (h : Fin 4) (s : Fin 1024) (l : Fin 128) :
    qRows x h (ix4 0 0 s l) = x (ix4 0 h s l) := by
  unfold qRows
  pointwise

theorem kRows_apply (x : Vec Ideal S1x4x4096x128 .bf16) (h : Fin 4) (j : ℕ) (s : Fin 1024) (l : Fin 128) :
    kRows x h j (ix4 0 0 s l) = x (ix4 0 h ⟨1024 * (j % 4) + s, by omega⟩ l) := by
  unfold kRows
  pointwise

/-- A read at an offset that is block `j`'s. -/
theorem ld_block (x : Vec Ideal S1x4x4096x128 .bf16) (h : Fin 4) (j : ℕ) (off : Fin 4 → ℕ) (hin : ∀ a : Fin 4, off a + S1x1x1024x128.size a ≤ S1x4x4096x128.size a)
    (e : off = ![0, h.val, 1024 * (j % 4), 0]) : View.ld x (Rect.unit off ![1, 1, 1024, 128] hin) = kRows x h j := by
  subst e
  rfl

/-- The running maximum and sum of one head before key block `n`. -/
def state (q : Vec Ideal S1x1x1024x128 .bf16) (k v : ℕ → Vec Ideal S1x1x1024x128 .bf16) : ℕ → FVec Ideal S1024x1 .f32 × FVec Ideal S1024x128 .f32
  | 0 => (k0_pay20, k0_pay21)
  | n + 1 => (k0_pay6 (state q k v n).1 (k0_pay2 q (k n)), k0_pay7 (state q k v n).1 (state q k v n).2 (k0_pay2 q (k n)) (v n))

/-- The eight carried arrays of four heads. -/
def eight (f : Fin 4 → FVec Ideal S1024x1 .f32 × FVec Ideal S1024x128 .f32) :=
  ((f 0).1, (f 0).2, (f 1).1, (f 1).2, (f 2).1, (f 2).2, (f 3).1, (f 3).2)

/-- The four heads' states before key block `n`, from the point's blocks. -/
def states (x0 : Vec Ideal S1x4x1024x128 .bf16) (x1 x2 : Vec Ideal S1x4x4096x128 .bf16) (n : ℕ) (h : Fin 4) :=
  state (qRows x0 h) (kRows x1 h) (kRows x2 h) n

theorem trips1 : ∀ i : grid0.Coords, (k0_t1_loop i).trips = (i 1).val := by decide +kernel

theorem trips2 : ∀ i : grid0.Coords, (k0_t2_loop i).trips = 0 := by decide +kernel

theorem off1 : ∀ (i : grid0.Coords) (k : Fin (k0_t1_loop i).trips), k0_off1 i k = ![0, 0, 1024 * (k.val % 4), 0] := by decide +kernel
theorem off2 : ∀ (i : grid0.Coords) (k : Fin (k0_t1_loop i).trips), k0_off2 i k = ![0, 1, 1024 * (k.val % 4), 0] := by decide +kernel
theorem off3 : ∀ (i : grid0.Coords) (k : Fin (k0_t1_loop i).trips), k0_off3 i k = ![0, 2, 1024 * (k.val % 4), 0] := by decide +kernel
theorem off4 : ∀ (i : grid0.Coords) (k : Fin (k0_t1_loop i).trips), k0_off4 i k = ![0, 3, 1024 * (k.val % 4), 0] := by decide +kernel
theorem off9 : ∀ (i : grid0.Coords), k0_off9 i = ![0, 0, 1024 * ((i 1).val % 4), 0] := by decide +kernel
theorem off10 : ∀ (i : grid0.Coords), k0_off10 i = ![0, 1, 1024 * ((i 1).val % 4), 0] := by decide +kernel
theorem off11 : ∀ (i : grid0.Coords), k0_off11 i = ![0, 2, 1024 * ((i 1).val % 4), 0] := by decide +kernel
theorem off12 : ∀ (i : grid0.Coords), k0_off12 i = ![0, 3, 1024 * ((i 1).val % 4), 0] := by decide +kernel

/-- A trip of the loop over whole key blocks takes the states one block further. -/
theorem trip_eq (c : Dev nD) (i : grid0.Coords) (arg2 : Memref sig .tc .vmem S1x4x1024x128 .bf16) (harg2 : arg2.IsWhole) (arg3 : Memref sig .tc .vmem S1x4x4096x128 .bf16) (harg3 : arg3.IsWhole) (arg4 : Memref sig .tc .vmem S1x4x4096x128 .bf16) (harg4 : arg4.IsWhole) (arg5 : Memref sig .tc .vmem S1x256 .f32) (harg5 : arg5.IsWhole) (arg6 : Memref sig .tc .vmem S1x1024x256 .bf16) (harg6 : arg6.IsWhole)
    (x0 : Vec Ideal S1x4x1024x128 .bf16) (x1 x2 : Vec Ideal S1x4x4096x128 .bf16) (k : Fin (k0_t1_loop i).trips) :
    tripR_k0_t1 Variants.none c none i arg2 harg2 arg3 harg3 arg4 harg4 arg5 harg5 arg6 harg6 (harg2.unread x0) (harg3.unread x1) (harg4.unread x2) k (eight (states x0 x1 x2 k.val))
      = eight (states x0 x1 x2 (k.val + 1)) := by
  unfold tripR_k0_t1 trip_k0_t1
  frame_out
  rw [ld_block x1 0 k _ _ (off1 i k), ld_block x1 1 k _ _ (off2 i k), ld_block x1 2 k _ _ (off3 i k), ld_block x1 3 k _ _ (off4 i k),
    ld_block x2 0 k _ _ (off1 i k), ld_block x2 1 k _ _ (off2 i k), ld_block x2 2 k _ _ (off3 i k), ld_block x2 3 k _ _ (off4 i k)]
  rfl

/-- The states the loop carries before each trip. -/
theorem carried (c : Dev nD) (i : grid0.Coords) (arg2 : Memref sig .tc .vmem S1x4x1024x128 .bf16) (harg2 : arg2.IsWhole) (arg3 : Memref sig .tc .vmem S1x4x4096x128 .bf16) (harg3 : arg3.IsWhole) (arg4 : Memref sig .tc .vmem S1x4x4096x128 .bf16) (harg4 : arg4.IsWhole) (arg5 : Memref sig .tc .vmem S1x256 .f32) (harg5 : arg5.IsWhole) (arg6 : Memref sig .tc .vmem S1x1024x256 .bf16) (harg6 : arg6.IsWhole)
    (x0 : Vec Ideal S1x4x1024x128 .bf16) (x1 x2 : Vec Ideal S1x4x4096x128 .bf16) (n : ℕ) (hn : n ≤ (k0_t1_loop i).trips) :
    st_k0_t1 Variants.none c none i arg2 harg2 arg3 harg3 arg4 harg4 arg5 harg5 arg6 harg6 (harg2.unread x0) (harg3.unread x1) (harg4.unread x2) (eight (states x0 x1 x2 0)) n
      = eight (states x0 x1 x2 n) := by
  induction n with
  | zero => rfl
  | succ n ih =>
    have e := st_k0_t1_succ Variants.none c none i arg2 harg2 arg3 harg3 arg4 harg4 arg5 harg5 arg6 harg6 (harg2.unread x0) (harg3.unread x1) (harg4.unread x2) (eight (states x0 x1 x2 0)) ⟨n, hn⟩
    rw [ih (by omega)] at e
    exact e.trans (trip_eq c i arg2 harg2 arg3 harg3 arg4 harg4 arg5 harg5 arg6 harg6 x0 x1 x2 ⟨n, hn⟩)

/-- The sums of one head after the diagonal block `n`. -/
def sums (x0 : Vec Ideal S1x4x1024x128 .bf16) (x1 x2 : Vec Ideal S1x4x4096x128 .bf16) (n : ℕ) (h : Fin 4) : FVec Ideal S1024x128 .f32 :=
  k0_pay7 (states x0 x1 x2 n h).1 (states x0 x1 x2 n h).2 (k0_pay34 (qRows x0 h) (kRows x1 h n)) (kRows x2 h n)

/-- What a point leaves in its output block. -/
theorem out_eq (c : Dev nD) (i : grid0.Coords) (arg2 : Memref sig .tc .vmem S1x4x1024x128 .bf16) (harg2 : arg2.IsWhole) (arg3 : Memref sig .tc .vmem S1x4x4096x128 .bf16) (harg3 : arg3.IsWhole) (arg4 : Memref sig .tc .vmem S1x4x4096x128 .bf16) (harg4 : arg4.IsWhole) (arg5 : Memref sig .tc .vmem S1x256 .f32) (harg5 : arg5.IsWhole) (arg6 : Memref sig .tc .vmem S1x1024x256 .bf16) (harg6 : arg6.IsWhole)
    (x0 : Vec Ideal S1x4x1024x128 .bf16) (x1 x2 : Vec Ideal S1x4x4096x128 .bf16) (x3 : Vec Ideal S1x256 .f32) :
    out0_A_4 c i arg2 harg2 arg3 harg3 arg4 harg4 arg5 harg5 arg6 harg6 x0 x1 x2 x3
      = k0_pay1 (scaled (joined (pair (sums x0 x1 x2 (i 1).val 0) (sums x0 x1 x2 (i 1).val 1)) (pair (sums x0 x1 x2 (i 1).val 2) (sums x0 x1 x2 (i 1).val 3)))) x3 := by
  frame_out
  have t1 := trips1 i
  have t2 := trips2 i
  dsimp only [k0_t1_loop, k0_t2_loop, Scf.Loop.trips] at t1 t2
  have e := carried c i arg2 harg2 arg3 harg3 arg4 harg4 arg5 harg5 arg6 harg6 x0 x1 x2 (i 1).val (trips1 i).ge
  change st_k0_t1 Variants.none c none i arg2 harg2 arg3 harg3 arg4 harg4 arg5 harg5 arg6 harg6 (harg2.unread x0) (harg3.unread x1) (harg4.unread x2) (k0_pay20, k0_pay21, k0_pay22, k0_pay23, k0_pay24, k0_pay25, k0_pay26, k0_pay27) (i 1).val = _ at e
  rw [t2, t1]
  simp only [st_k0_t2_zero]
  rw [e]
  rw [ld_block x1 0 _ _ _ (off9 i), ld_block x1 1 _ _ _ (off10 i), ld_block x1 2 _ _ _ (off11 i), ld_block x1 3 _ _ _ (off12 i),
    ld_block x2 0 _ _ _ (off9 i), ld_block x2 1 _ _ _ (off10 i), ld_block x2 2 _ _ _ (off11 i), ld_block x2 3 _ _ _ (off12 i)]
  rfl

end Cert.KernelIdeal.Fox
-- ==== Proof.FoxRow.lean ====
/- One row of a softmax attention over the extended reals, without reference to either program: the block-by-block
   form with a running maximum has the value of the plain quotient of two sums. -/
module

public import Idealize.ShloMosaic.PureOps.Ideal
public import Mathlib.Analysis.SpecialFunctions.Pow.Real

@[expose] public section

noncomputable section

namespace Cert.FoxRow

open Idealize.ShloMosaic

/-- A nonnegative real factor goes through a sum of extended reals. -/
theorem mul_sum_real {ι : Type} (S : Finset ι) (c : ℝ) (hc : 0 ≤ c) (f : ι → EReal) : (c : EReal) * ∑ x ∈ S, f x = ∑ x ∈ S, (c : EReal) * f x := by
  classical
  induction S using Finset.induction_on with
  | empty => simp
  | insert a S h ih =>
    rw [Finset.sum_insert h, Finset.sum_insert h, EReal.left_distrib_of_nonneg_of_ne_top (EReal.coe_nonneg.2 hc) (EReal.coe_ne_top c), ih]

/-- The coercion of a sum of reals. -/
theorem coe_sum {ι : Type} (S : Finset ι) (f : ι → ℝ) : ((∑ x ∈ S, f x : ℝ) : EReal) = ∑ x ∈ S, (f x : EReal) := by
  classical
  induction S using Finset.induction_on with
  | empty => simp
  | insert a S h ih => rw [Finset.sum_insert h, Finset.sum_insert h, EReal.coe_add, ih]

theorem exp2_coe (x : ℝ) : Ideal.exp2 (x : EReal) = (((2 : ℝ) ^ x : ℝ) : EReal) := rfl

theorem exp2_bot : Ideal.exp2 ⊥ = 0 := rfl

/-- `2 ^ (z / log 2)` is `exp z`. -/
theorem exp2_log (z : ℝ) : Ideal.exp2 ((z : EReal) * (((Real.log 2)⁻¹ : ℝ) : EReal)) = ((Real.exp z : ℝ) : EReal) := by
  rw [← EReal.coe_mul, exp2_coe, Real.rpow_def_of_pos (by norm_num)]
  have h : Real.log 2 ≠ 0 := (Real.log_pos (by norm_num)).ne'
  rw [show Real.log 2 * (z * (Real.log 2)⁻¹) = z by field_simp]

/-- Shifting a score, a real or `⊥`, scales its weight. -/
theorem exp2_sub (s : EReal) (hs : s ≠ ⊤) (μ : ℝ) : Ideal.exp2 (s - μ) = (((2 : ℝ) ^ (-μ) : ℝ) : EReal) * Ideal.exp2 s := by
  induction s using EReal.rec with
  | bot => rw [EReal.bot_sub, exp2_bot, mul_zero]
  | top => exact absurd rfl hs
  | coe x =>
    rw [← EReal.coe_sub, exp2_coe, exp2_coe, ← EReal.coe_mul, ← Real.rpow_add (by norm_num)]
    congr 2
    ring

/-- What holds between a running maximum `m`, a running sum `a` and the plain sum `T` of the same weights times values:
    nothing was taken yet, or `a` is `T` times `2 ^ (-m)`. -/
def Inv {ι : Type} (m : EReal) (a T : ι → EReal) : Prop :=
  (m = ⊥ ∧ (∀ l, a l = 0) ∧ ∀ l, T l = 0) ∨ ∃ μ : ℝ, m = μ ∧ ∀ l, a l = (((2 : ℝ) ^ (-μ) : ℝ) : EReal) * T l

/-- The maximum of scores, reals or `⊥` with a real among them, is real. -/
theorem max_real {n : ℕ} (m : EReal) (hm : m ≠ ⊤) (s : Fin n → EReal) (hs : ∀ x, s x ≠ ⊤) (x : Fin n) (hx : s x ≠ ⊥) :
    ∃ μ : ℝ, max m (Finset.fold max ⊥ s Finset.univ) = μ := by
  have hsup : Finset.fold max ⊥ s Finset.univ = Finset.univ.sup s := rfl
  rw [hsup]
  have ht : max m (Finset.univ.sup s) < ⊤ :=
    max_lt (lt_top_iff_ne_top.2 hm) ((Finset.sup_lt_iff bot_lt_top).2 fun y _ => lt_top_iff_ne_top.2 (hs y))
  have hb : ⊥ < max m (Finset.univ.sup s) :=
    lt_of_lt_of_le (bot_lt_iff_ne_bot.2 hx) ((Finset.le_sup (Finset.mem_univ x)).trans (le_max_right _ _))
  exact ⟨_, (EReal.coe_toReal ht.ne hb.ne').symm⟩

/-- A step over one block of scores keeps the relation, and a maximum was taken. -/
theorem step {ι : Type} (m : EReal) (a T : ι → EReal) (hI : Inv m a T) (s : Fin 1024 → EReal) (hs : ∀ x, s x ≠ ⊤) (x : Fin 1024) (hx : s x ≠ ⊥) (v : Fin 1024 → ι → EReal) :
    ∃ μ : ℝ, max m (Finset.fold max ⊥ s Finset.univ) = μ ∧ ∀ l,
      Ideal.exp2 (m - max m (Finset.fold max ⊥ s Finset.univ)) * a l + ∑ y, Ideal.exp2 (s y - max m (Finset.fold max ⊥ s Finset.univ)) * v y l
        = (((2 : ℝ) ^ (-μ) : ℝ) : EReal) * (T l + ∑ y, Ideal.exp2 (s y) * v y l) := by
  have hm : m ≠ ⊤ := by
    rcases hI with ⟨h, _⟩ | ⟨ν, h, _⟩ <;> rw [h]
    exacts [bot_ne_top, EReal.coe_ne_top ν]
  obtain ⟨μ, hμ⟩ := max_real m hm s hs x hx
  refine ⟨μ, hμ, fun l => ?_⟩
  have hc : (0 : ℝ) ≤ (2 : ℝ) ^ (-μ) := Real.rpow_nonneg (by norm_num) _
  rw [hμ, EReal.left_distrib_of_nonneg_of_ne_top (EReal.coe_nonneg.2 hc) (EReal.coe_ne_top _), mul_sum_real _ _ hc]
  congr 1
  · rcases hI with ⟨h, ha, hT⟩ | ⟨ν, h, ha⟩
    · rw [ha, hT, mul_zero, mul_zero]
    · rw [ha, exp2_sub m hm, h, exp2_coe, mul_assoc, ← mul_assoc (((2 : ℝ) ^ ν : ℝ) : EReal), ← EReal.coe_mul, ← Real.rpow_add (by norm_num), add_neg_cancel, Real.rpow_zero, EReal.coe_one, one_mul]
  · exact Finset.sum_congr rfl fun y _ => by rw [exp2_sub _ (hs y), mul_assoc]

/-- The quotient of two running sums of a common scale. -/
theorem div_scaled (c L : ℝ) (hc : 0 < c) (hL : 0 < L) (N : EReal) : Ideal.div ((c : EReal) * N) ((c : EReal) * (L : EReal)) = N * ((L⁻¹ : ℝ) : EReal) := by
  have h : (c : EReal) * (L : EReal) ≠ 0 := by
    rw [← EReal.coe_mul]; exact EReal.coe_ne_zero.2 (mul_pos hc hL).ne'
  rw [Ideal.div, if_neg h, ← EReal.coe_mul, ← EReal.coe_inv, mul_comm (c : EReal) N, mul_assoc, ← EReal.coe_mul]
  congr 2
  field_simp

/-- The weighted mean of values. -/
def mean {n : ℕ} (w : Fin n → ℝ) (v : Fin n → EReal) : EReal := (∑ s, (w s : EReal) * v s) * (((∑ s, w s)⁻¹ : ℝ) : EReal)

/-- Weights normalised before they meet the values give the same mean, whatever their common positive factor. -/
theorem mean_of_normalised {n : ℕ} (w : Fin n → ℝ) (hw : ∀ s, 0 ≤ w s) (hL : 0 < ∑ s, w s) (c : ℝ) (hc : 0 < c) (v : Fin n → EReal) :
    ∑ s, Ideal.div ((c * w s : ℝ) : EReal) (∑ y, ((c * w y : ℝ) : EReal)) * v s = mean w v := by
  unfold mean
  rw [mul_comm, mul_sum_real _ _ (inv_nonneg.2 hL.le)]
  refine Finset.sum_congr rfl fun s _ => ?_
  have h : ∑ y, ((c * w y : ℝ) : EReal) = (c : EReal) * ((∑ y, w y : ℝ) : EReal) := by
    rw [← coe_sum, ← Finset.mul_sum, EReal.coe_mul]
  rw [h, EReal.coe_mul, div_scaled c _ hc hL, mul_comm (w s : EReal), mul_assoc]

/-- The sum over 4096 keys by blocks of 1024. -/
theorem sum_blocks (f : Fin 4096 → EReal) : ∑ s, f s = ∑ j : Fin 4, ∑ x : Fin 1024, f ⟨1024 * j + x, by omega⟩ := by
  rw [← Fintype.sum_prod_type' (f := fun (j : Fin 4) (x : Fin 1024) => f ⟨1024 * j + x, by omega⟩)]
  rw [← Equiv.sum_comp (finProdFinEquiv (m := 4) (n := 1024)) f]
  refine Finset.sum_congr rfl fun p _ => ?_
  congr 1
  ext
  simp [finProdFinEquiv]
  omega

/-- The sum over the keys up to query `1024 n + r`: the blocks before block `n`, then the part of block `n` up to `r`. -/
theorem sum_causal (W : Fin 4096 → ℝ) (v : Fin 4096 → EReal) (n : ℕ) (hn : n < 4) (r : Fin 1024) :
    ∑ j ∈ Finset.range n, (∑ x : Fin 1024, (W ⟨1024 * (j % 4) + x, by omega⟩ : EReal) * v ⟨1024 * (j % 4) + x, by omega⟩)
      + ∑ x : Fin 1024, (if x ≤ r then (W ⟨1024 * (n % 4) + x, by omega⟩ : EReal) else 0) * v ⟨1024 * (n % 4) + x, by omega⟩
      = ∑ s : Fin 4096, ((if s.val ≤ 1024 * n + r then W s else 0 : ℝ) : EReal) * v s := by
  rw [sum_blocks]
  have full : ∀ j : Fin 4, j.val < n → ∑ x : Fin 1024, ((if (⟨1024 * j + x, by omega⟩ : Fin 4096).val ≤ 1024 * n + r then W ⟨1024 * j + x, by omega⟩ else 0 : ℝ) : EReal) * v ⟨1024 * j + x, by omega⟩
      = ∑ x : Fin 1024, (W ⟨1024 * j + x, by omega⟩ : EReal) * v ⟨1024 * j + x, by omega⟩ := fun j hj =>
    Finset.sum_congr rfl fun x _ => by rw [if_pos (by show 1024 * j.val + x.val ≤ _; omega)]
  have none : ∀ j : Fin 4, n < j.val → ∑ x : Fin 1024, ((if (⟨1024 * j + x, by omega⟩ : Fin 4096).val ≤ 1024 * n + r then W ⟨1024 * j + x, by omega⟩ else 0 : ℝ) : EReal) * v ⟨1024 * j + x, by omega⟩ = 0 := fun j hj =>
    Finset.sum_eq_zero fun x _ => by rw [if_neg (by show ¬ 1024 * j.val + x.val ≤ _; omega), EReal.coe_zero, zero_mul]
  have diag : ∀ j : Fin 4, j.val = n → ∑ x : Fin 1024, ((if (⟨1024 * j + x, by omega⟩ : Fin 4096).val ≤ 1024 * n + r then W ⟨1024 * j + x, by omega⟩ else 0 : ℝ) : EReal) * v ⟨1024 * j + x, by omega⟩
      = ∑ x : Fin 1024, (if x ≤ r then (W ⟨1024 * j + x, by omega⟩ : EReal) else 0) * v ⟨1024 * j + x, by omega⟩ := fun j hj =>
    Finset.sum_congr rfl fun x _ => by
      by_cases h : x ≤ r
      · rw [if_pos (by show 1024 * j.val + x.val ≤ _; have := Fin.le_def.1 h; omega), if_pos h]
      · rw [if_neg (by show ¬ 1024 * j.val + x.val ≤ _; have := fun e => h (Fin.le_def.2 e); omega), if_neg h, EReal.coe_zero]
  rw [Fin.sum_univ_four]
  interval_cases n
  · rw [diag 0 rfl, none 1 (by decide), none 2 (by decide), none 3 (by decide)]
    simp
  · rw [full 0 (by decide), diag 1 rfl, none 2 (by decide), none 3 (by decide)]
    simp
  · rw [full 0 (by decide), full 1 (by decide), diag 2 rfl, none 3 (by decide)]
    simp [Finset.sum_range_succ]
  · rw [full 0 (by decide), full 1 (by decide), full 2 (by decide), diag 3 rfl]
    simp [Finset.sum_range_succ]

/-- A row's causal weights. -/
def causal (z : Fin 4096 → ℝ) (t : ℕ) (s : Fin 4096) : ℝ := if s.val ≤ t then Real.exp (z s) else 0

theorem causal_nonneg (z : Fin 4096 → ℝ) (t : ℕ) (s : Fin 4096) : 0 ≤ causal z t s := by
  unfold causal
  split
  · exact (Real.exp_pos _).le
  · exact le_rfl

theorem causal_pos (z : Fin 4096 → ℝ) (t : ℕ) : 0 < ∑ s, causal z t s :=
  Finset.sum_pos' (fun s _ => causal_nonneg z t s) ⟨0, Finset.mem_univ _, by
    unfold causal
    rw [if_pos (show (0 : Fin 4096).val ≤ t from Nat.zero_le _)]
    exact Real.exp_pos _⟩

/-- The reference's row: the softmax of the scores up to `t`, its entries past `t` set to zero, against the values, is
    the causal weighted mean. The scores may carry a common real summand `g`. -/
theorem softmax_row (z : Fin 4096 → ℝ) (g : ℝ) (t : ℕ) (σ v : Fin 4096 → EReal) (hσ : ∀ s, σ s = if s.val ≤ t then ((z s + g : ℝ) : EReal) else ⊥) :
    ∑ s, (if s.val ≤ t then Ideal.div (Ideal.exp (σ s - max ⊥ (Finset.fold max ⊥ σ Finset.univ))) (∑ y, Ideal.exp (σ y - max ⊥ (Finset.fold max ⊥ σ Finset.univ))) else 0) * v s
      = mean (causal z t) v := by
  obtain ⟨M, hM⟩ := max_real ⊥ bot_ne_top σ (fun s => by
    rw [hσ]
    split
    · exact EReal.coe_ne_top _
    · exact bot_ne_top) 0 (by rw [hσ, if_pos (show (0 : Fin 4096).val ≤ t from Nat.zero_le _)]; exact EReal.coe_ne_bot _)
  rw [hM]
  have he : ∀ s, Ideal.exp (σ s - M) = ((Real.exp (g - M) * causal z t s : ℝ) : EReal) := fun s => by
    unfold causal
    rw [hσ]
    split
    · rw [← EReal.coe_sub]
      show ((Real.exp _ : ℝ) : EReal) = _
      rw [← Real.exp_add]
      congr 2
      ring
    · rw [mul_zero, EReal.bot_sub]
      rfl
  simp only [he]
  rw [← mean_of_normalised (causal z t) (causal_nonneg z t) (causal_pos z t) (Real.exp (g - M)) (Real.exp_pos _) v]
  refine Finset.sum_congr rfl fun s _ => congrArg (· * v s) ?_
  have hL : 0 < Real.exp (g - M) * ∑ y, causal z t y := mul_pos (Real.exp_pos _) (causal_pos z t)
  by_cases h : s.val ≤ t
  · rw [if_pos h]
  · rw [if_neg h, ← coe_sum, ← Finset.mul_sum, Ideal.div, if_neg (EReal.coe_ne_zero.2 hL.ne')]
    unfold causal
    rw [if_neg h, mul_zero, EReal.coe_zero, zero_mul]

end Cert.FoxRow
-- ==== Proof.FoxAtt.lean ====
/- A head's row of a point: the running sums end as a common factor times the causal weighted sums, so the quotient of
   the end is the weighted mean of the values. -/
module

public import proofs.«01_k».proof.Proof.FoxPoint
public import proofs.«01_k».proof.Proof.FoxRow

@[expose] public section

set_option maxRecDepth 16384

noncomputable section

namespace Cert.KernelIdeal.Fox

open Cert.KernelIdeal Cert.KernelIdeal.Gen Idealize.ShloMosaic Idealize.ShloMosaic.TcCoe Idealize.SL.Sem Cert.FoxRow

/-- The scores of one row, where the packed inner products are the reals `z`. -/
theorem score (x0 : Vec Ideal S1x4x1024x128 .bf16) (x1 : Vec Ideal S1x4x4096x128 .bf16) (h : Fin 4) (r : Fin 1024) (z : Fin 4096 → ℝ)
    (hz : ∀ s, ∑ l : Fin 128, x0 (ix4 0 h r l) * x1 (ix4 0 h s l) = (z s : EReal)) (j : ℕ) (x : Fin 1024) :
    ∑ l : Fin 128, qRows x0 h (ix4 0 0 r l) * kRows x1 h j (ix4 0 0 x l) = (z ⟨1024 * (j % 4) + x, by omega⟩ : EReal) := by
  simp only [qRows_apply, kRows_apply]
  exact hz _

/-- The state of one row before key block `n`. -/
theorem state_row (x0 : Vec Ideal S1x4x1024x128 .bf16) (x1 x2 : Vec Ideal S1x4x4096x128 .bf16) (h : Fin 4) (r : Fin 1024) (z : Fin 4096 → ℝ)
    (hz : ∀ s, ∑ l : Fin 128, x0 (ix4 0 h r l) * x1 (ix4 0 h s l) = (z s : EReal)) (n : ℕ) :
    Inv ((states x0 x1 x2 n h).1 (ix2 r 0)) (fun l : Fin 128 => (states x0 x1 x2 n h).2 (ix2 r l))
      (fun l => ∑ j ∈ Finset.range n, ∑ x : Fin 1024, ((Real.exp (z ⟨1024 * (j % 4) + x, by omega⟩) : ℝ) : EReal) * x2 (ix4 0 h ⟨1024 * (j % 4) + x, by omega⟩ l)) := by
  induction n with
  | zero => exact .inl ⟨max_start r, fun l => sum_start r l, fun l => by simp⟩
  | succ n ih =>
    refine .inr ?_
    have hs : ∀ x, k0_pay2 (qRows x0 h) (kRows x1 h n) (ix2 r x) = (z ⟨1024 * (n % 4) + x, by omega⟩ : EReal) * (((Real.log 2)⁻¹ : ℝ) : EReal) := fun x => by
      rw [scores_apply, score x0 x1 h r z hz]
    obtain ⟨μ, h1, h2⟩ := step _ _ _ ih (fun x => k0_pay2 (qRows x0 h) (kRows x1 h n) (ix2 r x))
      (fun x => by rw [hs, ← EReal.coe_mul]; exact EReal.coe_ne_top _) 0 (by rw [hs, ← EReal.coe_mul]; exact EReal.coe_ne_bot _) (fun x l => kRows x2 h n (ix4 0 0 x l))
    refine ⟨μ, ?_, fun l => ?_⟩
    · rw [← h1]
      exact newMax_apply _ _ r
    · dsimp only
      rw [Finset.sum_range_succ]
      refine Eq.trans (newAcc_apply _ _ _ _ r l) ?_
      rw [newMax_apply]
      refine (h2 l).trans ?_
      simp only [hs, exp2_log, kRows_apply]

/-- The sums after the diagonal block: a common positive factor times the causal sums. -/
theorem sums_row (x0 : Vec Ideal S1x4x1024x128 .bf16) (x1 x2 : Vec Ideal S1x4x4096x128 .bf16) (h : Fin 4) (r : Fin 1024) (z : Fin 4096 → ℝ)
    (hz : ∀ s, ∑ l : Fin 128, x0 (ix4 0 h r l) * x1 (ix4 0 h s l) = (z s : EReal)) (n : ℕ) (hn : n < 4) :
    ∃ c : ℝ, 0 < c ∧ ∀ l : Fin 128, sums x0 x1 x2 n h (ix2 r l) = (c : EReal) * ∑ s, (causal z (1024 * n + r) s : EReal) * x2 (ix4 0 h s l) := by
  have hs : ∀ x, k0_pay34 (qRows x0 h) (kRows x1 h n) (ix2 r x) = if x ≤ r then (z ⟨1024 * (n % 4) + x, by omega⟩ : EReal) * (((Real.log 2)⁻¹ : ℝ) : EReal) else ⊥ := fun x => by
    rw [diag_apply, score x0 x1 h r z hz]
  obtain ⟨μ, h1, h2⟩ := step _ _ _ (state_row x0 x1 x2 h r z hz n) (fun x => k0_pay34 (qRows x0 h) (kRows x1 h n) (ix2 r x))
    (fun x => by
      rw [hs, ← EReal.coe_mul]
      split
      · exact EReal.coe_ne_top _
      · exact bot_ne_top) r (by rw [hs, if_pos le_rfl, ← EReal.coe_mul]; exact EReal.coe_ne_bot _) (fun x l => kRows x2 h n (ix4 0 0 x l))
  refine ⟨2 ^ (-μ), Real.rpow_pos_of_pos (by norm_num) _, fun l => ?_⟩
  unfold sums
  refine (newAcc_apply _ _ _ _ r l).trans ?_
  rw [newMax_apply]
  refine (h2 l).trans ?_
  congr 1
  unfold causal
  rw [← sum_causal (fun s => Real.exp (z s)) (fun s => x2 (ix4 0 h s l)) n hn r]
  congr 1
  refine Finset.sum_congr rfl fun x _ => ?_
  rw [hs, kRows_apply]
  split
  · rw [exp2_log]
  · rw [exp2_bot]

/-- The quotient of a head's row: the causal weighted mean of the values. -/
theorem quotient_row (x0 : Vec Ideal S1x4x1024x128 .bf16) (x1 x2 : Vec Ideal S1x4x4096x128 .bf16) (h : Fin 4) (r : Fin 1024) (z : Fin 4096 → ℝ)
    (hz : ∀ s, ∑ l : Fin 128, x0 (ix4 0 h r l) * x1 (ix4 0 h s l) = (z s : EReal))
    (h1 : ∀ (s : Fin 4096) (d : Fin 64), x2 (ix4 0 h s ⟨64 + d, by omega⟩) = 1) (n : ℕ) (hn : n < 4) (d : Fin 64) :
    Ideal.div (sums x0 x1 x2 n h (ix2 r ⟨d, by omega⟩)) (sums x0 x1 x2 n h (ix2 r ⟨64 + d, by omega⟩))
      = mean (causal z (1024 * n + r)) (fun s => x2 (ix4 0 h s ⟨d, by omega⟩)) := by
  obtain ⟨c, hc, e⟩ := sums_row x0 x1 x2 h r z hz n hn
  rw [e, e]
  simp only [h1, mul_one]
  rw [← coe_sum, div_scaled c _ hc (causal_pos z _)]
  rfl

end Cert.KernelIdeal.Fox
-- ==== Proof.FoxSpec.lean ====
/- What both attention programs compute, as mathematics: causal means of the values with weights `exp` of the scores,
   then the group's RMS norm. -/
module

public import proofs.«01_k».proof.Proof.FoxRow

@[expose] public section

noncomputable section

namespace Cert.FoxSpec

open Idealize.ShloMosaic Cert.FoxRow

/-- The score of query `t` and key `s`: their inner product over 8, less the key's cumulative log gate. (The query's own
    gate is the same for all keys and drops out of the mean.) -/
def score (q k : Fin 8 → Fin 4096 → Fin 4 → Fin 64 → ℝ) (c : Fin 8 → Fin 4 → Fin 4096 → ℝ) (b : Fin 8) (h : Fin 4) (t s : Fin 4096) : ℝ :=
  (∑ d, q b t h d * k b s h d) / 8 - c b h s

/-- Lane `l` of the attention's row `t`: lane `l % 64` of head `l / 64`. -/
def attended (q k : Fin 8 → Fin 4096 → Fin 4 → Fin 64 → ℝ) (c : Fin 8 → Fin 4 → Fin 4096 → ℝ) (v : Fin 8 → Fin 4096 → Fin 4 → Fin 64 → EReal)
    (b : Fin 8) (t : Fin 4096) (l : Fin 256) : EReal :=
  mean (causal (score q k c b ⟨l / 64, by omega⟩ t) t.val) (fun s => v b s ⟨l / 64, by omega⟩ ⟨l % 64, by omega⟩)

/-- A row divided by its root mean square, times the gain. -/
def groupNorm (y g : Fin 256 → EReal) (l : Fin 256) : EReal :=
  y l * Ideal.rsqrt (Ideal.div (∑ x, y x * y x) (Ideal.ofBits FTy.f32 0x43800000#32) + Ideal.ofBits FTy.f32 0x358637BD#32) * g l

end Cert.FoxSpec
-- ==== Proof.FoxLanes.lean ====
/- A point of the attention kernel, entry by entry: the causal means of its rows and their RMS norm. -/
module

public import proofs.«01_k».proof.Proof.FoxAtt
public import proofs.«01_k».proof.Proof.FoxEnd
public import proofs.«01_k».proof.Proof.FoxSpec

@[expose] public section

set_option maxRecDepth 16384

noncomputable section

namespace Cert.KernelIdeal.Fox

open Cert.KernelIdeal Cert.KernelIdeal.Gen Idealize.ShloMosaic Idealize.ShloMosaic.TcCoe Idealize.SL.Sem Cert.FoxRow Cert.FoxSpec

/-- Lane `d` of head `h` in the four heads' quotients side by side. -/
theorem head_lane (u : Fin 4 → FVec Ideal S1024x128 .f32) (r : Fin 1024) (h : Fin 4) (d : Fin 64) :
    joined (pair (u 0) (u 1)) (pair (u 2) (u 3)) (ix2 r ⟨64 * h + d, by omega⟩) = Ideal.div (u h (ix2 r ⟨d, by omega⟩)) (u h (ix2 r ⟨64 + d, by omega⟩)) := by
  have hd := d.isLt
  match h with
  | 0 =>
    refine (congrArg (fun l : Fin 256 => joined (pair (u 0) (u 1)) (pair (u 2) (u 3)) (ix2 r l)) (show (⟨64 * 0 + d.val, by omega⟩ : Fin 256) = ⟨d.val, by omega⟩ from Fin.ext (by show 64 * 0 + d.val = d.val; omega))).trans ?_
    exact (joined_low _ _ r ⟨d.val, by omega⟩).trans (pair_low _ _ r d)
  | 1 =>
    refine (congrArg (fun l : Fin 256 => joined (pair (u 0) (u 1)) (pair (u 2) (u 3)) (ix2 r l)) (show (⟨64 * 1 + d.val, by omega⟩ : Fin 256) = ⟨64 + d.val, by omega⟩ from Fin.ext (by show 64 * 1 + d.val = 64 + d.val; omega))).trans ?_
    exact (joined_low _ _ r ⟨64 + d.val, by omega⟩).trans (pair_high _ _ r d)
  | 2 =>
    refine (congrArg (fun l : Fin 256 => joined (pair (u 0) (u 1)) (pair (u 2) (u 3)) (ix2 r l)) (show (⟨64 * 2 + d.val, by omega⟩ : Fin 256) = ⟨128 + d.val, by omega⟩ from Fin.ext (by show 64 * 2 + d.val = 128 + d.val; omega))).trans ?_
    exact (joined_high _ _ r ⟨d.val, by omega⟩).trans (pair_low _ _ r d)
  | 3 =>
    refine (congrArg (fun l : Fin 256 => joined (pair (u 0) (u 1)) (pair (u 2) (u 3)) (ix2 r l)) (show (⟨64 * 3 + d.val, by omega⟩ : Fin 256) = ⟨128 + (64 + d.val), by omega⟩ from Fin.ext (by show 64 * 3 + d.val = 128 + (64 + d.val); omega))).trans ?_
    exact (joined_high _ _ r ⟨64 + d.val, by omega⟩).trans (pair_high _ _ r d)

/-- The same at a lane of the group. -/
theorem group_lane (u : Fin 4 → FVec Ideal S1024x128 .f32) (r : Fin 1024) (l : Fin 256) :
    joined (pair (u 0) (u 1)) (pair (u 2) (u 3)) (ix2 r l)
      = Ideal.div (u ⟨l / 64, by omega⟩ (ix2 r ⟨l % 64, by omega⟩)) (u ⟨l / 64, by omega⟩ (ix2 r ⟨64 + l % 64, by omega⟩)) :=
  (congrArg (fun l : Fin 256 => joined (pair (u 0) (u 1)) (pair (u 2) (u 3)) (ix2 r l)) (Fin.ext (by show l.val = 64 * (l.val / 64) + l.val % 64; omega))).trans
    (head_lane u r ⟨l / 64, by omega⟩ ⟨l % 64, by omega⟩)

/-- What a point leaves in row `r` and lane `l` of its block, given what its packed operands multiply to. -/
theorem point_apply (x0 : Vec Ideal S1x4x1024x128 .bf16) (x1 x2 : Vec Ideal S1x4x4096x128 .bf16) (x3 : Vec Ideal S1x256 .f32) (n : ℕ) (hn : n < 4) (r : Fin 1024)
    (z : Fin 4 → Fin 4096 → ℝ) (v : Fin 4096 → Fin 4 → Fin 64 → EReal) (g : Fin 256 → EReal)
    (hz : ∀ h s, ∑ l : Fin 128, x0 (ix4 0 h r l) * x1 (ix4 0 h s l) = (z h s : EReal))
    (hv : ∀ s h (d : Fin 64), x2 (ix4 0 h s ⟨d, by omega⟩) = v s h d)
    (h1 : ∀ h s (d : Fin 64), x2 (ix4 0 h s ⟨64 + d, by omega⟩) = 1) (hg : ∀ l, x3 (ix2 0 l) = g l) (l : Fin 256) :
    k0_pay1 (scaled (joined (pair (sums x0 x1 x2 n 0) (sums x0 x1 x2 n 1)) (pair (sums x0 x1 x2 n 2) (sums x0 x1 x2 n 3)))) x3 (ix3 0 r l)
      = groupNorm (fun l => mean (causal (z ⟨l / 64, by omega⟩) (1024 * n + r)) (fun s => v s ⟨l / 64, by omega⟩ ⟨l % 64, by omega⟩)) g l := by
  have e : ∀ l : Fin 256, joined (pair (sums x0 x1 x2 n 0) (sums x0 x1 x2 n 1)) (pair (sums x0 x1 x2 n 2) (sums x0 x1 x2 n 3)) (ix2 r l)
      = mean (causal (z ⟨l / 64, by omega⟩) (1024 * n + r)) (fun s => v s ⟨l / 64, by omega⟩ ⟨l % 64, by omega⟩) := fun l => by
    refine (group_lane (sums x0 x1 x2 n) r l).trans ?_
    refine (quotient_row x0 x1 x2 ⟨l / 64, by omega⟩ r (z ⟨l / 64, by omega⟩) (hz _) (h1 _) n hn ⟨l % 64, by omega⟩).trans ?_
    exact congrArg (mean _) (funext fun s => hv s _ ⟨l % 64, by omega⟩)
  rw [gain_apply, scaled_apply, hg]
  simp only [e]
  rfl

end Cert.KernelIdeal.Fox
-- ==== Proof.FoxHost.lean ====
/- The attention's packed operands at an entry, and the inner product of a packed query with a packed key. -/
module

public import proofs.«01_k».proof.Proof.Gen.KernelIdeal.Value
public import proofs.«01_k».proof.Proof.FoxRow
public import Idealize.ShloMosaic.Lib.Pipeline.ValueKit
public import Idealize.ShloMosaic.Lib.Pointwise

@[expose] public section

set_option maxRecDepth 16384

noncomputable section

namespace Cert.KernelIdeal.Fox

open Cert.KernelIdeal Cert.KernelIdeal.Gen Idealize.ShloMosaic Idealize.ShloMosaic.TcCoe Idealize.SL.Sem Cert.FoxRow

/-- The first rounding of `-c`, and what is left of it. -/
def piece1 (c : FVec Ideal S8x4x4096 .f32) : FVec Ideal S8x4x4096 .f32 := extf .f32 (truncf .bf16 (Host.negf c) bitsLt_bf16_f32) bitsLt_bf16_f32
def rest1 (c : FVec Ideal S8x4x4096 .f32) : FVec Ideal S8x4x4096 .f32 := subf (Host.negf c) (piece1 c)

/-- The second, and what is left. -/
def piece2 (c : FVec Ideal S8x4x4096 .f32) : FVec Ideal S8x4x4096 .f32 := extf .f32 (truncf .bf16 (rest1 c) bitsLt_bf16_f32) bitsLt_bf16_f32
def rest2 (c : FVec Ideal S8x4x4096 .f32) : FVec Ideal S8x4x4096 .f32 := subf (rest1 c) (piece2 c)

/-- The third. -/
def piece3 (c : FVec Ideal S8x4x4096 .f32) : FVec Ideal S8x4x4096 .f32 := extf .f32 (truncf .bf16 (rest2 c) bitsLt_bf16_f32) bitsLt_bf16_f32

/-- The packed queries: a head's 64 lanes times 1/8, three ones, zeros. -/
def packQ (q : FVec Ideal S8x4096x4x64 .f32) : FVec Ideal S8x4x4096x128 .bf16 :=
  truncf .bf16 (concatenate S8x4x4096x128 3 [⟨S8x4x4096x64, transpose S8x4x4096x64 [0, 2, 1, 3] (mulf q (broadcastInDim S8x4096x4x64 ![] bcast_S_S8x4096x4x64 (constant S_ .f32 0x3E000000#32))) transposes_S8x4096x4x64_S8x4x4096x64_0_2_1_3⟩,
    ⟨S8x4x4096x3, broadcastInDim S8x4x4096x3 ![] bcast_S_S8x4x4096x3 (constant S_ .f32 0x3F800000#32)⟩,
    ⟨S8x4x4096x61, broadcastInDim S8x4x4096x61 ![] bcast_S_S8x4x4096x61 (constant S_ .f32 0x00000000#32)⟩] concatenates_S8x4x4096x64_S8x4x4096x3_S8x4x4096x61_S8x4x4096x128_d3 : FVec Ideal S8x4x4096x128 .f32) bitsLt_bf16_f32

/-- The packed keys: a head's 64 lanes, the three pieces, zeros. -/
def packK (k : FVec Ideal S8x4096x4x64 .f32) (p1 p2 p3 : FVec Ideal S8x4x4096 .f32) : FVec Ideal S8x4x4096x128 .bf16 :=
  truncf .bf16 (concatenate S8x4x4096x128 3 [⟨S8x4x4096x64, transpose S8x4x4096x64 [0, 2, 1, 3] k transposes_S8x4096x4x64_S8x4x4096x64_0_2_1_3⟩,
    ⟨S8x4x4096x1, broadcastInDim S8x4x4096x1 ![0, 1, 2] bcast_S8x4x4096_S8x4x4096x1_0_1_2 p1⟩,
    ⟨S8x4x4096x1, broadcastInDim S8x4x4096x1 ![0, 1, 2] bcast_S8x4x4096_S8x4x4096x1_0_1_2 p2⟩,
    ⟨S8x4x4096x1, broadcastInDim S8x4x4096x1 ![0, 1, 2] bcast_S8x4x4096_S8x4x4096x1_0_1_2 p3⟩,
    ⟨S8x4x4096x61, broadcastInDim S8x4x4096x61 ![] bcast_S_S8x4x4096x61 (constant S_ .f32 0x00000000#32)⟩] concatenates_S8x4x4096x64_S8x4x4096x1_S8x4x4096x1_S8x4x4096x1_S8x4x4096x61_S8x4x4096x128_d3 : FVec Ideal S8x4x4096x128 .f32) bitsLt_bf16_f32

/-- The packed values: a head's 64 lanes, then ones. -/
def packV (v : FVec Ideal S8x4096x4x64 .f32) : FVec Ideal S8x4x4096x128 .bf16 :=
  truncf .bf16 (concatenate S8x4x4096x128 3 [⟨S8x4x4096x64, transpose S8x4x4096x64 [0, 2, 1, 3] v transposes_S8x4096x4x64_S8x4x4096x64_0_2_1_3⟩,
    ⟨S8x4x4096x64, broadcastInDim S8x4x4096x64 ![] bcast_S_S8x4x4096x64 (constant S_ .f32 0x3F800000#32)⟩] concatenates_S8x4x4096x64_S8x4x4096x64_S8x4x4096x128_d3 : FVec Ideal S8x4x4096x128 .f32) bitsLt_bf16_f32

theorem bits_one : Ideal.ofBits FTy.f32 0x3F800000#32 = 1 := by simp [Ideal.ofBits, Ideal.ieee, -EReal.coe_mul]; norm_num

theorem bits_eighth : Ideal.ofBits FTy.f32 0x3E000000#32 = ((1 / 8 : ℝ) : EReal) := by simp [Ideal.ofBits, Ideal.ieee, -EReal.coe_mul]; norm_num

theorem packQ_low (q : FVec Ideal S8x4096x4x64 .f32) (b : Fin 8) (h : Fin 4) (t : Fin 4096) (d : Fin 64) :
    packQ q (ix4 b h t ⟨d, by omega⟩) = q (ix4 b t h d) * Ideal.ofBits FTy.f32 0x3E000000#32 := by
  unfold packQ
  pointwise

theorem packQ_one (q : FVec Ideal S8x4096x4x64 .f32) (b : Fin 8) (h : Fin 4) (t : Fin 4096) (e : Fin 3) :
    packQ q (ix4 b h t ⟨64 + e, by omega⟩) = Ideal.ofBits FTy.f32 0x3F800000#32 := by
  unfold packQ
  pointwise

theorem packQ_zero (q : FVec Ideal S8x4096x4x64 .f32) (b : Fin 8) (h : Fin 4) (t : Fin 4096) (e : Fin 61) :
    packQ q (ix4 b h t ⟨67 + e, by omega⟩) = 0 := by
  unfold packQ
  pointwise
  rw [dif_neg (by omega), dif_neg (by omega)]

theorem packK_low (k : FVec Ideal S8x4096x4x64 .f32) (p1 p2 p3 : FVec Ideal S8x4x4096 .f32) (b : Fin 8) (h : Fin 4) (t : Fin 4096) (d : Fin 64) :
    packK k p1 p2 p3 (ix4 b h t ⟨d, by omega⟩) = k (ix4 b t h d) := by
  unfold packK
  pointwise

theorem packK_1 (k : FVec Ideal S8x4096x4x64 .f32) (p1 p2 p3 : FVec Ideal S8x4x4096 .f32) (b : Fin 8) (h : Fin 4) (t : Fin 4096) :
    packK k p1 p2 p3 (ix4 b h t ⟨64, by omega⟩) = p1 (ix3 b h t) := by
  unfold packK
  pointwise

theorem packK_2 (k : FVec Ideal S8x4096x4x64 .f32) (p1 p2 p3 : FVec Ideal S8x4x4096 .f32) (b : Fin 8) (h : Fin 4) (t : Fin 4096) :
    packK k p1 p2 p3 (ix4 b h t ⟨65, by omega⟩) = p2 (ix3 b h t) := by
  unfold packK
  pointwise

theorem packK_3 (k : FVec Ideal S8x4096x4x64 .f32) (p1 p2 p3 : FVec Ideal S8x4x4096 .f32) (b : Fin 8) (h : Fin 4) (t : Fin 4096) :
    packK k p1 p2 p3 (ix4 b h t ⟨66, by omega⟩) = p3 (ix3 b h t) := by
  unfold packK
  pointwise

theorem packK_zero (k : FVec Ideal S8x4096x4x64 .f32) (p1 p2 p3 : FVec Ideal S8x4x4096 .f32) (b : Fin 8) (h : Fin 4) (t : Fin 4096) (e : Fin 61) :
    packK k p1 p2 p3 (ix4 b h t ⟨67 + e, by omega⟩) = 0 := by
  unfold packK
  pointwise
  rw [dif_neg (by omega), dif_neg (by omega), dif_neg (by omega), dif_neg (by omega)]

theorem packV_low (v : FVec Ideal S8x4096x4x64 .f32) (b : Fin 8) (h : Fin 4) (t : Fin 4096) (d : Fin 64) :
    packV v (ix4 b h t ⟨d, by omega⟩) = v (ix4 b t h d) := by
  unfold packV
  pointwise

theorem packV_one (v : FVec Ideal S8x4096x4x64 .f32) (b : Fin 8) (h : Fin 4) (t : Fin 4096) (d : Fin 64) :
    packV v (ix4 b h t ⟨64 + d, by omega⟩) = 1 := by
  unfold packV
  pointwise

/-- The three pieces: all of `-c`, then nothing. -/
theorem piece1_apply (c : FVec Ideal S8x4x4096 .f32) (b : Fin 8) (h : Fin 4) (t : Fin 4096) : piece1 c (ix3 b h t) = -(c (ix3 b h t)) := by
  unfold piece1
  pointwise

theorem rest1_apply (c : FVec Ideal S8x4x4096 .f32) (b : Fin 8) (h : Fin 4) (t : Fin 4096) : rest1 c (ix3 b h t) = -(c (ix3 b h t)) - -(c (ix3 b h t)) := by
  unfold rest1
  pointwise
  rw [piece1_apply]

theorem piece2_apply (c : FVec Ideal S8x4x4096 .f32) (b : Fin 8) (h : Fin 4) (t : Fin 4096) : piece2 c (ix3 b h t) = rest1 c (ix3 b h t) := by
  unfold piece2
  pointwise

theorem piece3_apply (c : FVec Ideal S8x4x4096 .f32) (b : Fin 8) (h : Fin 4) (t : Fin 4096) : piece3 c (ix3 b h t) = rest1 c (ix3 b h t) - rest1 c (ix3 b h t) := by
  unfold piece3 rest2
  pointwise
  rw [piece2_apply]

/-- A sum over 128 lanes: the 64 of a head, the next three, the rest. -/
theorem sum_lanes (f : Fin 128 → EReal) : ∑ l, f l = ∑ d : Fin 64, f ⟨d, by omega⟩ + (f 64 + f 65 + f 66 + ∑ e : Fin 61, f ⟨67 + e, by omega⟩) := by
  rw [show (∑ l, f l) = ∑ l : Fin (64 + (3 + 61)), f l from rfl, Fin.sum_univ_add, Fin.sum_univ_add, Fin.sum_univ_three]
  refine congrArg₂ (· + ·) rfl (congrArg₂ (· + ·) rfl (Finset.sum_congr rfl fun e _ => congrArg f (Fin.ext ?_)))
  simp only [Fin.natAdd]
  omega

/-- The inner product of a packed query and a packed key: the score up to the query's own gate. -/
theorem inner (q k : FVec Ideal S8x4096x4x64 .f32) (c : FVec Ideal S8x4x4096 .f32) (b : Fin 8) (h : Fin 4) (t s : Fin 4096) (qr kr : Fin 64 → ℝ) (cr : ℝ)
    (hq : ∀ d, q (ix4 b t h d) = (qr d : EReal)) (hk : ∀ d, k (ix4 b s h d) = (kr d : EReal)) (hc : c (ix3 b h s) = (cr : EReal)) :
    ∑ l : Fin 128, packQ q (ix4 b h t l) * packK k (piece1 c) (piece2 c) (piece3 c) (ix4 b h s l) = (((∑ d, qr d * kr d) / 8 - cr : ℝ) : EReal) := by
  rw [sum_lanes]
  have e0 : packQ q (ix4 b h t 64) = 1 := (packQ_one q b h t 0).trans bits_one
  have e1 : packQ q (ix4 b h t 65) = 1 := (packQ_one q b h t 1).trans bits_one
  have e2 : packQ q (ix4 b h t 66) = 1 := (packQ_one q b h t 2).trans bits_one
  have k0 : packK k (piece1 c) (piece2 c) (piece3 c) (ix4 b h s 64) = _ := packK_1 k _ _ _ b h s
  have k1 : packK k (piece1 c) (piece2 c) (piece3 c) (ix4 b h s 65) = _ := packK_2 k _ _ _ b h s
  have k2 : packK k (piece1 c) (piece2 c) (piece3 c) (ix4 b h s 66) = _ := packK_3 k _ _ _ b h s
  rw [e0, e1, e2, k0, k1, k2, piece1_apply, piece2_apply, piece3_apply, rest1_apply, hc]
  simp only [packQ_low, packK_low, packQ_zero, packK_zero, hq, hk, bits_eighth, mul_zero, Finset.sum_const_zero, one_mul]
  simp only [← EReal.coe_mul, ← coe_sum, ← EReal.coe_neg, ← EReal.coe_sub, ← EReal.coe_add, ← EReal.coe_zero]
  congr 1
  rw [Finset.sum_div]
  simp only [sub_self, add_zero, sub_eq_add_neg]
  congr 1
  exact Finset.sum_congr rfl fun d _ => by ring

end Cert.KernelIdeal.Fox
-- ==== Proof.FoxEntry.lean ====
/- The forgetting attention: what the launch's operands hold. -/
module

public import proofs.«01_k».proof.Proof.FoxHost
public import Idealize.ShloMosaic.Lib.StableHlo.RunRead

@[expose] public section

set_option maxRecDepth 16384

noncomputable section

namespace Cert.KernelIdeal.Fox

open Cert.KernelIdeal Cert.KernelIdeal.Gen Idealize.ShloMosaic Idealize.ShloMosaic.TcCoe Idealize.SL.Sem

variable (m : (ℓ : Loc nD τ sig) → Buf (Elt Ideal) ℓ)

/-- The packed queries are those of argument 0. -/
theorem entry0 (c : Dev nD) : (V m c main_v24 : FVec Ideal S8x4x4096x128 .bf16) = packQ (m ((c.tc : Thread nD τ).loc main_arg0)) := by
  show StableHlo.after hostOps0 (fun b => m (c, b)) (Proc.devRef .tc main_v24) = _
  after_reads_simp
  rfl

/-- The packed keys are those of argument 1 and of the pieces of argument 3. -/
theorem entry1 (c : Dev nD) : (V m c main_v25 : FVec Ideal S8x4x4096x128 .bf16)
    = packK (m ((c.tc : Thread nD τ).loc main_arg1)) (piece1 (m ((c.tc : Thread nD τ).loc main_arg3))) (piece2 (m ((c.tc : Thread nD τ).loc main_arg3))) (piece3 (m ((c.tc : Thread nD τ).loc main_arg3))) := by
  show StableHlo.after hostOps0 (fun b => m (c, b)) (Proc.devRef .tc main_v25) = _
  after_reads_simp
  rfl

/-- The packed values are those of argument 2. -/
theorem entry2 (c : Dev nD) : (V m c main_v26 : FVec Ideal S8x4x4096x128 .bf16) = packV (m ((c.tc : Thread nD τ).loc main_arg2)) := by
  entry_read
  rfl

/-- The gain is argument 4, as one row. -/
theorem entry3 (c : Dev nD) : V m c main_v27 = broadcastInDim S1x256 ![1] bcast_S256_S1x256_1 (m ((c.tc : Thread nD τ).loc main_arg4)) := by
  entry_read
  rfl

end Cert.KernelIdeal.Fox
-- ==== Proof.Fox.lean ====
/- The forgetting attention: what its operands hold at a point, and what its result array holds. -/
module

public import proofs.«01_k».proof.Proof.FoxLanes
public import proofs.«01_k».proof.Proof.FoxHost
public import proofs.«01_k».proof.Proof.FoxEntry

@[expose] public section

set_option maxRecDepth 16384

noncomputable section

namespace Cert.KernelIdeal.Fox

open Cert.KernelIdeal Cert.KernelIdeal.Gen Idealize.ShloMosaic Idealize.ShloMosaic.TcCoe Idealize.SL.Sem Cert.FoxRow Cert.FoxSpec
open Idealize.ShloMosaic.Pipeline (Dat)

variable (m : (ℓ : Loc nD τ sig) → Buf (Elt Ideal) ℓ)

/-- Where the windows' blocks lie: the queries' and the result's move with batch and query block, the keys' and the values'
    with the batch. -/
theorem idx : ∀ t, win0_0.index t = ![(grid0.coords t 0).val, 0, (grid0.coords t 1).val, 0] ∧ win0_1.index t = ![(grid0.coords t 0).val, 0, 0, 0]
    ∧ win0_2.index t = ![(grid0.coords t 0).val, 0, 0, 0] ∧ win0_3.index t = ![0, 0]
    ∧ win0_4.index t = ![(grid0.coords t 0).val, (grid0.coords t 1).val, 0] := by decide +kernel

theorem gain_row (g : FVec Ideal S256 .f32) (k : Fin 256) : broadcastInDim S1x256 ![1] bcast_S256_S1x256_1 g (ix2 0 k) = g (ix1 k) := by
  pointwise

/-- The queries' block: 1024 rows of a batch. -/
theorem read0 (c : Dev nD) (t : Fin cfg0.N) (h : Fin 4) (r : Fin 1024) (l : Fin 128) (b : Fin 8) (q : Fin 4096) (hb : b.val = (grid0.coords t 0).val) (hq : q.val = 1024 * (grid0.coords t 1).val + r.val) :
    iblk m c 0 t (ix4 0 h r l) = packQ (m ((c.tc : Thread nD τ).loc main_arg0)) (ix4 b h q l) := by
  have e : iblk m c 0 t (ix4 0 h r l) = V m c main_v24 (ix4 b h q l) := by
    blk_ext [iblk, idx t]
  rw [e, entry0]

/-- The keys' block: a batch. -/
theorem read1 (c : Dev nD) (t : Fin cfg0.N) (h : Fin 4) (s : Fin 4096) (l : Fin 128) (b : Fin 8) (hb : b.val = (grid0.coords t 0).val) :
    iblk m c 1 t (ix4 0 h s l) = packK (m ((c.tc : Thread nD τ).loc main_arg1)) (piece1 (m ((c.tc : Thread nD τ).loc main_arg3))) (piece2 (m ((c.tc : Thread nD τ).loc main_arg3))) (piece3 (m ((c.tc : Thread nD τ).loc main_arg3))) (ix4 b h s l) := by
  have e : iblk m c 1 t (ix4 0 h s l) = V m c main_v25 (ix4 b h s l) := by
    blk_ext [iblk, idx t]
  rw [e, entry1]

/-- The values' block: a batch. -/
theorem read2 (c : Dev nD) (t : Fin cfg0.N) (h : Fin 4) (s : Fin 4096) (l : Fin 128) (b : Fin 8) (hb : b.val = (grid0.coords t 0).val) :
    iblk m c 2 t (ix4 0 h s l) = packV (m ((c.tc : Thread nD τ).loc main_arg2)) (ix4 b h s l) := by
  have e : iblk m c 2 t (ix4 0 h s l) = V m c main_v26 (ix4 b h s l) := by
    blk_ext [iblk, idx t]
  rw [e, entry2]

/-- The gain's block. -/
theorem read3 (c : Dev nD) (t : Fin cfg0.N) (l : Fin 256) : iblk m c 3 t (ix2 0 l) = m ((c.tc : Thread nD τ).loc main_arg4) (ix1 l) := by
  have e : iblk m c 3 t (ix2 0 l) = V m c main_v27 (ix2 0 l) := by
    blk_ext [iblk, idx t]
  rw [e, entry3]
  exact gain_row _ l

/-- A point's result from blocks of the packed operands: the causal means of the point's rows and their RMS norm. -/
theorem rows_apply (q k v : FVec Ideal S8x4096x4x64 .f32) (c : FVec Ideal S8x4x4096 .f32) (g : FVec Ideal S256 .f32)
    (qr kr : Fin 8 → Fin 4096 → Fin 4 → Fin 64 → ℝ) (cr : Fin 8 → Fin 4 → Fin 4096 → ℝ)
    (hq : ∀ b t h d, q (ix4 b t h d) = (qr b t h d : EReal)) (hk : ∀ b t h d, k (ix4 b t h d) = (kr b t h d : EReal)) (hc : ∀ b h t, c (ix3 b h t) = (cr b h t : EReal))
    (x0 : Vec Ideal S1x4x1024x128 .bf16) (x1 x2 : Vec Ideal S1x4x4096x128 .bf16) (x3 : Vec Ideal S1x256 .f32) (n : ℕ) (hn : n < 4)
    (b : Fin 8) (t : Fin 4096) (r : Fin 1024) (ht : t.val = 1024 * n + r.val)
    (h0 : ∀ h l, x0 (ix4 0 h r l) = packQ q (ix4 b h t l)) (h1 : ∀ h s l, x1 (ix4 0 h s l) = packK k (piece1 c) (piece2 c) (piece3 c) (ix4 b h s l))
    (h2 : ∀ h s l, x2 (ix4 0 h s l) = packV v (ix4 b h s l)) (h3 : ∀ l, x3 (ix2 0 l) = g (ix1 l)) (l : Fin 256) :
    k0_pay1 (scaled (joined (pair (sums x0 x1 x2 n 0) (sums x0 x1 x2 n 1)) (pair (sums x0 x1 x2 n 2) (sums x0 x1 x2 n 3)))) x3 (ix3 0 r l)
      = groupNorm (attended qr kr cr (fun b s h d => v (ix4 b s h d)) b t) (fun l => g (ix1 l)) l := by
  have key := point_apply x0 x1 x2 x3 n hn r (fun h s => Cert.FoxSpec.score qr kr cr b h t s) (fun s h d => v (ix4 b s h d)) (fun l => g (ix1 l))
    (fun h s => (Finset.sum_congr rfl fun l _ => by rw [h0, h1]).trans
      (inner q k c b h t s (qr b t h) (kr b s h) (cr b h s) (hq b t h) (hk b s h) (hc b h s)))
    (fun s h d => (h2 h s _).trans (packV_low _ b h s d)) (fun h s d => (h2 h s _).trans (packV_one _ b h s d)) h3 l
  rw [← ht] at key
  exact key

/-- The result array. -/
def result (c : Dev nD) (qr kr : Fin 8 → Fin 4096 → Fin 4 → Fin 64 → ℝ) (cr : Fin 8 → Fin 4 → Fin 4096 → ℝ) : Vec Ideal S8x4096x256 .bf16 := fun y =>
  groupNorm (attended qr kr cr (fun b s h d => m ((c.tc : Thread nD τ).loc main_arg2) (ix4 b s h d)) (y 0) (y 1)) (fun l => m ((c.tc : Thread nD τ).loc main_arg4) (ix1 l)) (y 2)

/-- The kernel's result array, for finite queries, keys and gates. -/
theorem arr_eq (c : Dev nD) (qr kr : Fin 8 → Fin 4096 → Fin 4 → Fin 64 → ℝ) (cr : Fin 8 → Fin 4 → Fin 4096 → ℝ)
    (hq : ∀ b t h d, m ((c.tc : Thread nD τ).loc main_arg0) (ix4 b t h d) = (qr b t h d : EReal))
    (hk : ∀ b t h d, m ((c.tc : Thread nD τ).loc main_arg1) (ix4 b t h d) = (kr b t h d : EReal))
    (hc : ∀ b h t, m ((c.tc : Thread nD τ).loc main_arg3) (ix3 b h t) = (cr b h t : EReal)) :
    (dats m 0 c).arrAt 4 cfg0.N = result m c qr kr cr := by
  refine (dats m 0 c).arrAt_eq_of_covers 4 _ (by decide +kernel) fun t hf y => ?_
  have e0 : ((((cfg0.win 4).blk t).view.emb y) 0).val = (grid0.coords t 0).val := by
    blk_simp [idx t]
  have e1 : ((((cfg0.win 4).blk t).view.emb y) 1).val = 1024 * (grid0.coords t 1).val + (y 1).val := by
    blk_simp [idx t]
    omega
  have e2 : ((((cfg0.win 4).blk t).view.emb y) 2).val = (y 2).val := by
    blk_simp [idx t]
  show _ = groupNorm (attended qr kr cr _ ((((cfg0.win 4).blk t).view.emb y) 0) ((((cfg0.win 4).blk t).view.emb y) 1)) _ ((((cfg0.win 4).blk t).view.emb y) 2)
  generalize ((((cfg0.win 4).blk t).view.emb y) 0 : Fin 8) = b at e0 ⊢
  generalize ((((cfg0.win 4).blk t).view.emb y) 1 : Fin 4096) = q at e1 ⊢
  generalize ((((cfg0.win 4).blk t).view.emb y) 2 : Fin 256) = l at e2 ⊢
  blk_simp
  rw [after0_4]
  idx_vars y
  unfold outsAt0
  rw [out_eq]
  obtain rfl : l = y2 := Fin.ext e2
  obtain rfl : y0 = 0 := Subsingleton.elim _ _
  exact rows_apply (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    qr kr cr hq hk hc (iblk m c 0 t) (iblk m c 1 t) (iblk m c 2 t) (iblk m c 3 t) (grid0.coords t 1).val (grid0.coords t 1).isLt b q y1 e1
    (fun h l => read0 m c t h y1 l b q e0 e1) (fun h s l => read1 m c t h s l b e0) (fun h s l => read2 m c t h s l b e0) (fun l => read3 m c t l) l

end Cert.KernelIdeal.Fox
-- ==== Proof.FoxRef.lean ====
/- The attention's reference, read at an entry. -/
module

public import proofs.«01_k».proof.Proof.FoxRow
public import proofs.«01_k».proof.Proof.FoxWords
public import proofs.«01_k».proof.Proof.FoxMax
public import proofs.«01_k».proof.Proof.Gen.ReferenceIdeal.Run

@[expose] public section

set_option maxRecDepth 16384

noncomputable section

namespace Cert.ReferenceIdeal.Fox

open Cert.ReferenceIdeal Cert.ReferenceIdeal.Gen Idealize.ShloMosaic Idealize.ShloMosaic.TcCoe Idealize.SL.Sem Cert.FoxRow
open Cert.KernelIdeal.Fox (sle_word pick bits_low)

/-- Key not after query. -/
def mask : IVec S8x4x4096x4096 1 :=
  broadcastInDim S8x4x4096x4096 ![2, 3] bcast_S4096x4096_S8x4x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The scores with the gates' differences. -/
def scores (q k : FVec Ideal S8x4096x4x64 .f32) (c : FVec Ideal S8x4x4096 .f32) : FVec Ideal S8x4x4096x4096 .f32 :=
  addf (mulf (Host.dotGeneral (φ₂ := .f32) dot_S8x4096x4x64_S8x4096x4x64_S8x4x4096x4096_3_3_1_1_02_02 none q k) (broadcastInDim S8x4x4096x4096 ![] bcast_S_S8x4x4096x4096 (constant S_ .f32 0x3E000000#32)))
    (subf (broadcastInDim S8x4x4096x4096 ![0, 1, 2, 3] bcast_S8x4x4096x1_S8x4x4096x4096_0_1_2_3 (broadcastInDim S8x4x4096x1 ![0, 1, 2] bcast_S8x4x4096_S8x4x4096x1_0_1_2 c)) (broadcastInDim S8x4x4096x4096 ![0, 1, 2, 3] bcast_S8x4x1x4096_S8x4x4096x4096_0_1_2_3 (broadcastInDim S8x4x1x4096 ![0, 1, 3] bcast_S8x4x4096_S8x4x1x4096_0_1_3 c)))

/-- The scores with `⊥` after the query. -/
def masked (s : FVec Ideal S8x4x4096x4096 .f32) : FVec Ideal S8x4x4096x4096 .f32 :=
  select mask s (broadcastInDim S8x4x4096x4096 ![] bcast_S_S8x4x4096x4096 (id (constant S_ .f32 0xFF800000#32)))

/-- The rows' maxima. -/
def rowMax (s : FVec Ideal S8x4x4096x4096 .f32) : FVec Ideal S8x4x4096 .f32 :=
  Host.reduce FloatOps.maximumf s (constant S_ .f32 0xFF800000#32) reducesTo_S8x4x4096x4096_S8x4x4096_d3 h_S_

/-- The exponentials less the row's maximum. -/
def expo (s : FVec Ideal S8x4x4096x4096 .f32) (M : FVec Ideal S8x4x4096 .f32) : FVec Ideal S8x4x4096x4096 .f32 :=
  Host.exp (subf s (broadcastInDim S8x4x4096x4096 ![0, 1, 2, 3] bcast_S8x4x4096x1_S8x4x4096x4096_0_1_2_3 (broadcastInDim S8x4x4096x1 ![0, 1, 2] bcast_S8x4x4096_S8x4x4096x1_0_1_2 (maximumf (broadcastInDim S8x4x4096 ![] bcast_S_S8x4x4096 (constant S_ .f32 0xFF800000#32)) M))))

/-- The softmax, zero after the query. -/
def probs (e : FVec Ideal S8x4x4096x4096 .f32) : FVec Ideal S8x4x4096x4096 .f32 :=
  select mask (Host.divf e (broadcastInDim S8x4x4096x4096 ![0, 1, 2, 3] bcast_S8x4x4096x1_S8x4x4096x4096_0_1_2_3 (broadcastInDim S8x4x4096x1 ![0, 1, 2] bcast_S8x4x4096_S8x4x4096x1_0_1_2 (Host.reduceAdd e (constant S_ .f32 0x00000000#32) reducesTo_S8x4x4096x4096_S8x4x4096_d3 h_S_)))) (broadcastInDim S8x4x4096x4096 ![] bcast_S_S8x4x4096x4096 (id (constant S_ .f32 0x00000000#32)))

/-- The heads' means side by side. -/
def joined (v : FVec Ideal S8x4096x4x64 .f32) (p : FVec Ideal S8x4x4096x4096 .f32) : FVec Ideal S8x4096x256 .f32 :=
  shapeCast _ (transpose S8x4096x4x64 [0, 3, 1, 2] (Host.dotGeneral (φ₂ := .f32) dot_S8x4096x4x64_S8x4x4096x4096_S8x4x64x4096_1_3_3_2_02_01 none v p : FVec Ideal S8x4x64x4096 .f32) transposes_S8x4x64x4096_S8x4096x4x64_0_3_1_2) shapeCasts_S8x4096x4x64_S8x4096x256

/-- The group's rows divided by their root mean squares, times the gain. -/
def normed (y : FVec Ideal S8x4096x256 .f32) (g : FVec Ideal S256 .f32) : FVec Ideal S8x4096x256 .bf16 :=
  truncf .bf16 (mulf (mulf y (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf y y) (constant S_ .f32 0x00000000#32) reducesTo_S8x4096x256_S8x4096_d2 h_S_)) (broadcastInDim S8x4096x1 ![] bcast_S_S8x4096x1 (constant S_ .f32 0x43800000#32))) (broadcastInDim S8x4096x1 ![] bcast_S_S8x4096x1 (constant S_ .f32 0x358637BD#32))))))
    (broadcastInDim S8x4096x256 ![0, 1, 2] bcast_S1x1x256_S8x4096x256_0_1_2 (broadcastInDim S1x1x256 ![2] bcast_S256_S1x1x256_2 g)) : FVec Ideal S8x4096x256 .f32) bitsLt_bf16_f32

theorem mask_apply (b : Fin 8) (h : Fin 4) (t s : Fin 4096) : mask (ix4 b h t s) = if s.val ≤ t.val then 1#1 else 0#1 := by
  unfold mask
  pointwise
  exact sle_word _ _ (by omega) (by omega)

theorem scores_apply (q k : FVec Ideal S8x4096x4x64 .f32) (c : FVec Ideal S8x4x4096 .f32) (b : Fin 8) (h : Fin 4) (t s : Fin 4096) :
    scores q k c (ix4 b h t s) = (∑ d, q (ix4 b t h d) * k (ix4 b s h d)) * Ideal.ofBits FTy.f32 0x3E000000#32 + (c (ix3 b h t) - c (ix3 b h s)) := by
  unfold scores
  pointwise

theorem masked_apply (z : FVec Ideal S8x4x4096x4096 .f32) (b : Fin 8) (h : Fin 4) (t s : Fin 4096) :
    masked z (ix4 b h t s) = if s.val ≤ t.val then z (ix4 b h t s) else ⊥ := by
  unfold masked
  simp only [id_eq]
  pointwise
  rw [mask_apply, pick, bits_low]

theorem rowMax_apply (z : FVec Ideal S8x4x4096x4096 .f32) (b : Fin 8) (h : Fin 4) (t : Fin 4096) :
    rowMax z (ix3 b h t) = Finset.fold (max : EReal → EReal → EReal) ⊥ (fun y => z (ix4 b h t y)) Finset.univ :=
  (Cert.FoxMax.host_max z (constant S_ .f32 0xFF800000#32) reducesTo_S8x4x4096x4096_S8x4x4096_d3 h_S_ b h t).trans
    (congrArg (fun x => Finset.fold (max : EReal → EReal → EReal) x (fun y => z (ix4 b h t y)) Finset.univ) bits_low)

theorem expo_apply (z : FVec Ideal S8x4x4096x4096 .f32) (M : FVec Ideal S8x4x4096 .f32) (b : Fin 8) (h : Fin 4) (t s : Fin 4096) :
    expo z M (ix4 b h t s) = Ideal.exp (z (ix4 b h t s) - max ⊥ (M (ix3 b h t))) := by
  unfold expo
  pointwise
  rw [bits_low]

theorem probs_apply (e : FVec Ideal S8x4x4096x4096 .f32) (b : Fin 8) (h : Fin 4) (t s : Fin 4096) :
    probs e (ix4 b h t s) = if s.val ≤ t.val then Ideal.div (e (ix4 b h t s)) (∑ y, e (ix4 b h t y)) else 0 := by
  unfold probs
  simp only [id_eq]
  pointwise
  rw [mask_apply, pick]

theorem joined_apply (v : FVec Ideal S8x4096x4x64 .f32) (p : FVec Ideal S8x4x4096x4096 .f32) (b : Fin 8) (t : Fin 4096) (l : Fin 256) :
    joined v p (ix3 b t l) = ∑ s, v (ix4 b s ⟨l / 64, by omega⟩ ⟨l % 64, by omega⟩) * p (ix4 b ⟨l / 64, by omega⟩ t s) := by
  unfold joined
  pointwise

theorem normed_apply (y : FVec Ideal S8x4096x256 .f32) (g : FVec Ideal S256 .f32) (b : Fin 8) (t : Fin 4096) (l : Fin 256) :
    normed y g (ix3 b t l) = y (ix3 b t l) * Ideal.rsqrt (Ideal.div (∑ x, y (ix3 b t x) * y (ix3 b t x)) (Ideal.ofBits FTy.f32 0x43800000#32) + Ideal.ofBits FTy.f32 0x358637BD#32) * g (ix1 l) := by
  unfold normed
  pointwise

/-- The reference's result in terms of the stages above. -/
theorem ref_eq (m : (ℓ : Loc nD τ sig) → Buf (Elt Ideal) ℓ) (c : Dev nD) (S E : FVec Ideal S8x4x4096x4096 .f32) (Y : FVec Ideal S8x4096x256 .f32)
    (hS : S = masked (scores (m ((c.tc : Thread nD τ).loc main_arg0)) (m ((c.tc : Thread nD τ).loc main_arg1)) (m ((c.tc : Thread nD τ).loc main_arg3))))
    (hE : E = expo S (rowMax S)) (hY : Y = joined (m ((c.tc : Thread nD τ).loc main_arg2)) (probs E)) :
    Value.res_main_v44 m c = normed Y (m ((c.tc : Thread nD τ).loc main_arg4)) := by
  subst hY
  subst hE
  subst hS
  rfl

end Cert.ReferenceIdeal.Fox
-- ==== Proof.FoxRefRow.lean ====
/- The attention's reference computes the causal means and their RMS norm. -/
module

public import proofs.«01_k».proof.Proof.FoxRef
public import proofs.«01_k».proof.Proof.FoxSpec
public import proofs.«01_k».proof.Proof.FoxHost

@[expose] public section

set_option maxRecDepth 16384

noncomputable section

namespace Cert.ReferenceIdeal.Fox

open Cert.ReferenceIdeal Cert.ReferenceIdeal.Gen Idealize.ShloMosaic Idealize.ShloMosaic.TcCoe Idealize.SL.Sem Cert.FoxRow Cert.FoxSpec

/-- A score of finite operands. -/
theorem scores_real (q k : FVec Ideal S8x4096x4x64 .f32) (c : FVec Ideal S8x4x4096 .f32)
    (qr kr : Fin 8 → Fin 4096 → Fin 4 → Fin 64 → ℝ) (cr : Fin 8 → Fin 4 → Fin 4096 → ℝ)
    (hq : ∀ b t h d, q (ix4 b t h d) = (qr b t h d : EReal)) (hk : ∀ b t h d, k (ix4 b t h d) = (kr b t h d : EReal)) (hc : ∀ b h t, c (ix3 b h t) = (cr b h t : EReal))
    (b : Fin 8) (h : Fin 4) (t s : Fin 4096) :
    scores q k c (ix4 b h t s) = ((score qr kr cr b h t s + cr b h t : ℝ) : EReal) := by
  rw [scores_apply, hc, hc, Cert.KernelIdeal.Fox.bits_eighth]
  simp only [hq, hk]
  simp only [← EReal.coe_mul, ← coe_sum, ← EReal.coe_sub, ← EReal.coe_add]
  refine congrArg _ ?_
  unfold score
  ring

/-- A row of the softmax times the values: a causal mean. -/
theorem joined_real (q k v : FVec Ideal S8x4096x4x64 .f32) (c : FVec Ideal S8x4x4096 .f32)
    (qr kr : Fin 8 → Fin 4096 → Fin 4 → Fin 64 → ℝ) (cr : Fin 8 → Fin 4 → Fin 4096 → ℝ)
    (hq : ∀ b t h d, q (ix4 b t h d) = (qr b t h d : EReal)) (hk : ∀ b t h d, k (ix4 b t h d) = (kr b t h d : EReal)) (hc : ∀ b h t, c (ix3 b h t) = (cr b h t : EReal))
    (S : FVec Ideal S8x4x4096x4096 .f32) (hS : S = masked (scores q k c)) (b : Fin 8) (t : Fin 4096) (l : Fin 256) :
    joined v (probs (expo S (rowMax S))) (ix3 b t l) = attended qr kr cr (fun b s h d => v (ix4 b s h d)) b t l := by
  rw [joined_apply]
  have hs : ∀ s, S (ix4 b ⟨l / 64, by omega⟩ t s) = if s.val ≤ t.val then ((score qr kr cr b ⟨l / 64, by omega⟩ t s + cr b ⟨l / 64, by omega⟩ t : ℝ) : EReal) else ⊥ := fun s => by
    rw [hS, masked_apply, scores_real q k c qr kr cr hq hk hc]
  unfold attended
  refine Eq.trans ?_ (softmax_row _ _ t.val _ _ hs)
  refine Finset.sum_congr rfl fun s _ => ?_
  rw [mul_comm, probs_apply]
  simp only [expo_apply, rowMax_apply]

/-- The reference's result at an entry. -/
theorem ref_apply (m : (ℓ : Loc nD τ sig) → Buf (Elt Ideal) ℓ) (c : Dev nD)
    (qr kr : Fin 8 → Fin 4096 → Fin 4 → Fin 64 → ℝ) (cr : Fin 8 → Fin 4 → Fin 4096 → ℝ)
    (hq : ∀ b t h d, m ((c.tc : Thread nD τ).loc main_arg0) (ix4 b t h d) = (qr b t h d : EReal))
    (hk : ∀ b t h d, m ((c.tc : Thread nD τ).loc main_arg1) (ix4 b t h d) = (kr b t h d : EReal))
    (hc : ∀ b h t, m ((c.tc : Thread nD τ).loc main_arg3) (ix3 b h t) = (cr b h t : EReal)) (b : Fin 8) (t : Fin 4096) (l : Fin 256) :
    Value.res_main_v44 m c (ix3 b t l)
      = groupNorm (attended qr kr cr (fun b s h d => m ((c.tc : Thread nD τ).loc main_arg2) (ix4 b s h d)) b t) (fun l => m ((c.tc : Thread nD τ).loc main_arg4) (ix1 l)) l := by
  rw [ref_eq m c _ _ _ rfl rfl rfl, normed_apply]
  have e := fun x => joined_real _ _ (m ((c.tc : Thread nD τ).loc main_arg2)) _ qr kr cr hq hk hc _ rfl b t x
  simp only [e]
  rfl

end Cert.ReferenceIdeal.Fox
-- ==== Proof.FoxTie.lean ====
/- The attention kernel's result array is the reference's, for finite queries, keys and gates. -/
module

public import proofs.«01_k».proof.Defs
public import proofs.«01_k».proof.Proof.Fox
public import proofs.«01_k».proof.Proof.FoxRefRow
public import proofs.«01_k».proof.Proof.Gen.Pre_finite_qkc
public import Idealize.ShloMosaic.Lib.ReduceAll

@[expose] public section

noncomputable section

namespace Cert.FoxPre

open Cert.Pre_finite_qkc Idealize.ShloMosaic

/-- The word of plus infinity. -/
theorem bits_top : Ideal.ofBits FTy.f32 0x7F800000#32 = ⊤ := by
  simp [Ideal.ofBits, Ideal.ieee]

/-- An extended real with `|x| < ⊤` is a real. -/
theorem real_of_abs (x : EReal) (h : max x (-x) < ⊤) : x = ((x.toReal : ℝ) : EReal) := by
  refine (EReal.coe_toReal ?_ ?_).symm
  · rintro rfl
    simp at h
  · rintro rfl
    simp at h

/-- The bit of `a < b`. -/
theorem olt_one (a b : EReal) (h : Ideal.cmp .olt a b = 1#1) : a < b := by
  by_contra hn
  simp [Ideal.cmp, hn] at h

theorem finite4 (x : FVec Ideal S8x4096x4x64 .f32) (h0 : S_.BroadcastsInDim S8x4096x4x64 (![] : Fin 0 → Fin S8x4096x4x64.rank)) (b : Fin 8) (t : Fin 4096) (h : Fin 4) (d : Fin 64)
    (e : cmpf .olt (Host.absf x) (broadcastInDim S8x4096x4x64 ![] h0 (constant S_ .f32 0x7F800000#32)) (ix4 b t h d) = 1#1) :
    x (ix4 b t h d) = (((x (ix4 b t h d)).toReal : ℝ) : EReal) := by
  refine real_of_abs _ ?_
  rw [← bits_top]
  exact olt_one _ _ e

theorem finite3 (x : FVec Ideal S8x4x4096 .f32) (h0 : S_.BroadcastsInDim S8x4x4096 (![] : Fin 0 → Fin S8x4x4096.rank)) (b : Fin 8) (h : Fin 4) (t : Fin 4096)
    (e : cmpf .olt (Host.absf x) (broadcastInDim S8x4x4096 ![] h0 (constant S_ .f32 0x7F800000#32)) (ix3 b h t) = 1#1) :
    x (ix3 b h t) = (((x (ix3 b h t)).toReal : ℝ) : EReal) := by
  refine real_of_abs _ ?_
  rw [← bits_top]
  exact olt_one _ _ e

instance : Subsingleton S_.Idx := ⟨fun a b => funext fun i => i.elim0⟩

/-- What the precondition says: every query, key and gate is a real. -/
theorem decode (q k v : FVec Ideal S8x4096x4x64 .f32) (c : FVec Ideal S8x4x4096 .f32) (g : FVec Ideal S256 .f32) [Facts]
    (e : fn (F := Ideal) q k v c g = fun _ => 1#1) :
    (∀ b t h d, q (ix4 b t h d) = (((q (ix4 b t h d)).toReal : ℝ) : EReal)) ∧ (∀ b t h d, k (ix4 b t h d) = (((k (ix4 b t h d)).toReal : ℝ) : EReal))
      ∧ ∀ b h t, c (ix3 b h t) = (((c (ix3 b h t)).toReal : ℝ) : EReal) := by
  dsimp only [fn] at e
  have e1 := congrFun e ix0
  obtain ⟨e2, e3⟩ := IntOp.andi_eq_one.1 e1
  obtain ⟨e4, e5⟩ := IntOp.andi_eq_one.1 e2
  exact ⟨fun b t h d => finite4 q _ b t h d (Host.reduce_andi_all _ _ _ _ ix0 e4 _),
    fun b t h d => finite4 k _ b t h d (Host.reduce_andi_all _ _ _ _ ix0 e5 _),
    fun b h t => finite3 c _ b h t (Host.reduce_andi_all _ _ _ _ ix0 e3 _)⟩

end Cert.FoxPre

namespace Cert.KernelIdeal.Fox

open Cert.KernelIdeal Cert.KernelIdeal.Gen Idealize.ShloMosaic Idealize.ShloMosaic.TcCoe Idealize.SL.Sem Cert.FoxSpec

/-- From memories that agree on the arguments, the reference's result is the array the kernel's run leaves. -/
theorem tie (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) [Cert.Pre_finite_qkc.Facts]
    (hf : Cert.Pre_KernelIdeal_finite_qkc m)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4)) :
    Cert.ReferenceIdeal.Value.res_main_v44 m' c = (dats m 0 c).arrAt 4 cfg0.N := by
  obtain ⟨hq, hk, hc⟩ := Cert.FoxPre.decode _ _ _ _ _ (hf c)
  rw [arr_eq m c _ _ _ hq hk hc]
  funext y
  obtain ⟨b, t, l, rfl⟩ : ∃ (b : Fin 8) (t : Fin 4096) (l : Fin 256), y = ix3 b t l := ⟨y 0, y 1, y 2, by idx_vars y⟩
  rw [← h0] at hq
  rw [← h1] at hk
  rw [← h3] at hc
  rw [Cert.ReferenceIdeal.Fox.ref_apply m' c _ _ _ hq hk hc b t l, h0, h1, h2, h3, h4]
  rfl

end Cert.KernelIdeal.Fox
-- ==== Proof.MixRow.lean ====
/- The gated linear recurrence and the short convolution of one sequence, over the extended reals. Both programs are
   read against these functions. A sequence is indexed by its time, a natural number. -/
module

public import Idealize.ShloMosaic.Lib.Pipeline.ValueKit
public import Idealize.ShloMosaic.Lib.Pointwise

@[expose] public section

noncomputable section

namespace Cert.MixRow

open Idealize.ShloMosaic

/-- The weights of the two groups. -/
structure Wts where
  /-- the gain of the row's norm -/
  g : Fin 1024 → EReal
  /-- the first 1280 columns of the input projection -/
  w : Fin 1024 → Fin 1280 → EReal
  /-- the four taps of the recurrence's convolution -/
  cw : Fin 4 → Fin 256 → EReal
  /-- and its bias -/
  cb : Fin 256 → EReal
  /-- the two gates' blocks, one 64 by 64 block for each head -/
  wg : Fin 2 → Fin 4 → Fin 64 → Fin 64 → EReal
  /-- the two gates' biases -/
  bg : Fin 2 → Fin 256 → EReal
  /-- the recurrence's parameter -/
  lam : Fin 256 → EReal
  /-- the three taps of the short convolution -/
  scw : Fin 3 → Fin 256 → EReal
  /-- the gains of the two groups' norms -/
  on : Fin 2 → Fin 256 → EReal

/-- The value `d` steps before `t`, zero before the first time. -/
def tap (s : ℕ → EReal) (t d : ℕ) : EReal := if d ≤ t then s (t - d) else 0

/-- The row `x` divided by its root mean square and multiplied by the gain. -/
def normed (x g : Fin 1024 → EReal) (n : Fin 1024) : EReal :=
  x n * Ideal.rsqrt (Ideal.div (∑ k, x k * x k) (Ideal.ofBits FTy.f32 1149239296#32) + Ideal.ofBits FTy.f32 897988541#32) * g n

/-- The same for a row of 256. -/
def normed256 (y g : Fin 256 → EReal) (n : Fin 256) : EReal :=
  y n * Ideal.rsqrt (Ideal.div (∑ k, y k * y k) (Ideal.ofBits FTy.f32 1132462080#32) + Ideal.ofBits FTy.f32 897988541#32) * g n

/-- Column `j` of the projected row. -/
def zrow (W : Wts) (x : Fin 1024 → EReal) (j : Fin 1280) : EReal := ∑ k, normed x W.g k * W.w k j

/-- Part `p` of the projected rows of the sequence `X`: the recurrence's input, its output gate, and the short
    convolution's output gate, input gate and input. -/
def part (W : Wts) (X : ℕ → Fin 1024 → EReal) (p : Fin 5) (n : Fin 256) (t : ℕ) : EReal :=
  zrow W (X t) ⟨256 * p + n, by omega⟩

/-- The recurrence's input after its convolution. -/
def xc (W : Wts) (X : ℕ → Fin 1024 → EReal) (t : ℕ) (n : Fin 256) : EReal :=
  W.cb n + W.cw 3 n * part W X 0 n t + W.cw 0 n * tap (part W X 0 n) t 3 + W.cw 1 n * tap (part W X 0 n) t 2
    + W.cw 2 n * tap (part W X 0 n) t 1

/-- Gate `j` of the row `v`: a product with the head's block, the bias, the logistic. -/
def gate (W : Wts) (j : Fin 2) (v : Fin 256 → EReal) (n : Fin 256) : EReal :=
  Ideal.logistic (∑ i : Fin 64, v ⟨64 * (n / 64) + i, by omega⟩ * W.wg j ⟨n / 64, by omega⟩ i ⟨n % 64, by omega⟩ + W.bg j n)

/-- The softplus of `-l`, times minus eight. -/
def rate (l : EReal) : EReal :=
  Ideal.ofBits FTy.f32 3238002688#32 * (max (-l) 0 + Ideal.log1p (Ideal.exp (-(↑l.abs : EReal))))

/-- The logarithm of the recurrence's factor. -/
def logA (W : Wts) (X : ℕ → Fin 1024 → EReal) (n : Fin 256) (t : ℕ) : EReal := rate (W.lam n) * gate W 0 (xc W X t) n

/-- The recurrence's factor. -/
def fac (W : Wts) (X : ℕ → Fin 1024 → EReal) (n : Fin 256) (t : ℕ) : EReal := Ideal.exp (logA W X n t)

/-- The recurrence's input term, with the square root of `1 - exp (2 logA)`. -/
def inp (W : Wts) (X : ℕ → Fin 1024 → EReal) (n : Fin 256) (t : ℕ) : EReal :=
  Ideal.sqrt (-Ideal.expm1 (Ideal.ofBits FTy.f32 1073741824#32 * logA W X n t)) * (gate W 1 (xc W X t) n * xc W X t n)

/-- The recurrence with factors `a` and inputs `b`, from zero: its state before time `t`. -/
def hid (a b : ℕ → EReal) : ℕ → EReal
  | 0 => 0
  | t + 1 => a t * hid a b t + b t

/-- The tanh form of the Gaussian error unit. -/
def gelu (x : EReal) : EReal :=
  x * (Ideal.ofBits FTy.f32 1056964608#32 * (Ideal.ofBits FTy.f32 1065353216#32
    + Ideal.tanh (Ideal.ofBits FTy.f32 1061962282#32 * (x + Ideal.ofBits FTy.f32 1027024659#32 * (x * x * x)))))

/-- The recurrence group's row at time `t`, before its norm. -/
def ya (W : Wts) (X : ℕ → Fin 1024 → EReal) (t : ℕ) (n : Fin 256) : EReal :=
  hid (fac W X n) (inp W X n) (t + 1) * gelu (part W X 1 n t)

/-- The short convolution's input: the product of two parts. -/
def short (W : Wts) (X : ℕ → Fin 1024 → EReal) (n : Fin 256) (t : ℕ) : EReal := part W X 3 n t * part W X 4 n t

/-- The short convolution group's row at time `t`, before its norm. -/
def yb (W : Wts) (X : ℕ → Fin 1024 → EReal) (t : ℕ) (n : Fin 256) : EReal :=
  part W X 2 n t * (W.scw 2 n * short W X n t + W.scw 0 n * tap (short W X n) t 2 + W.scw 1 n * tap (short W X n) t 1)

/-- The two groups' normalised row at time `t`. -/
def out (W : Wts) (X : ℕ → Fin 1024 → EReal) (t : ℕ) (n : Fin 512) : EReal :=
  if h : (n : ℕ) < 256 then normed256 (ya W X t) (W.on 0) ⟨n, h⟩ else normed256 (yb W X t) (W.on 1) ⟨n - 256, by omega⟩

/-! The factor's square root -/

/-- The logistic is at least zero. -/
theorem logistic_nonneg (x : EReal) : 0 ≤ Ideal.logistic x := by
  induction x using EReal.rec with
  | bot => simp
  | top => simp
  | coe r =>
    rw [Ideal.logistic_coe]
    exact_mod_cast by positivity

/-- `log (1 + exp x)` is at least zero. -/
theorem log1p_exp_nonneg (x : EReal) : 0 ≤ Ideal.log1p (Ideal.exp x) := by
  induction x using EReal.rec with
  | bot =>
    show 0 ≤ Ideal.log (1 + 0)
    rw [add_zero, show (1 : EReal) = ((1 : ℝ) : EReal) from rfl, Ideal.log_coe, if_neg (by norm_num), Real.log_one]
    exact le_rfl
  | top =>
    show 0 ≤ Ideal.log (1 + ⊤)
    rw [show (1 : EReal) + ⊤ = ⊤ from rfl, Ideal.log_top]
    exact le_top
  | coe r =>
    have h := Real.exp_pos r
    have e : (1 : EReal) + ((Real.exp r : ℝ) : EReal) = ((1 + Real.exp r : ℝ) : EReal) := by norm_cast
    have e' : Ideal.log1p (Ideal.exp (r : EReal)) = if 1 + Real.exp r ≤ 0 then ⊥ else ((Real.log (1 + Real.exp r) : ℝ) : EReal) := by
      show Ideal.log (1 + ((Real.exp r : ℝ) : EReal)) = _
      rw [e]
      rfl
    rw [e', if_neg (by linarith)]
    exact_mod_cast Real.log_nonneg (by linarith)

/-- The rate is at most zero. -/
theorem rate_nonpos (l : EReal) : rate l ≤ 0 := by
  unfold rate
  have h8 : Ideal.ofBits FTy.f32 3238002688#32 = ((-8 : ℝ) : EReal) := by
    simp [Ideal.ofBits, Ideal.ieee, -EReal.coe_mul]; norm_num
  rw [h8]
  have h : (0 : EReal) ≤ max (-l) 0 + Ideal.log1p (Ideal.exp (-(↑l.abs : EReal))) :=
    add_nonneg (le_max_right _ _) (log1p_exp_nonneg _)
  exact EReal.mul_nonpos_iff.2 (.inr ⟨by exact_mod_cast (by norm_num : (-8 : ℝ) ≤ 0), h⟩)

/-- The logarithm of the factor is at most zero. -/
theorem logA_nonpos (W : Wts) (X : ℕ → Fin 1024 → EReal) (n : Fin 256) (t : ℕ) : logA W X n t ≤ 0 :=
  EReal.mul_nonpos_iff.2 (.inr ⟨rate_nonpos _, logistic_nonneg _⟩)

/-- The square root by a reciprocal root, of `-tanh L (exp L ² + 1)`, is the square root of `1 - exp (2 L)`. -/
theorem root_eq (L : EReal) (hL : L ≤ 0) :
    (if 0 < -Ideal.tanh L * (Ideal.exp L * Ideal.exp L + 1)
      then -Ideal.tanh L * (Ideal.exp L * Ideal.exp L + 1) * Ideal.rsqrt (-Ideal.tanh L * (Ideal.exp L * Ideal.exp L + 1)) else 0)
      = Ideal.sqrt (-Ideal.expm1 (Ideal.ofBits FTy.f32 1073741824#32 * L)) := by
  have h2 : Ideal.ofBits FTy.f32 1073741824#32 = ((2 : ℝ) : EReal) := by
    simp [Ideal.ofBits, Ideal.ieee, -EReal.coe_mul]; norm_num
  rw [h2]
  have key : ∀ g : ℝ, 0 ≤ g → (if 0 < (g : EReal) then (g : EReal) * Ideal.rsqrt (g : EReal) else 0) = Ideal.sqrt (g : EReal) := by
    intro g hg
    have hs : Ideal.sqrt (g : EReal) = ((Real.sqrt g : ℝ) : EReal) := by
      show (if g < 0 then (⊥ : EReal) else _) = _
      rw [if_neg (by linarith)]
    rw [hs]
    by_cases h : 0 < g
    · rw [if_pos (by exact_mod_cast h)]
      have hr : Ideal.rsqrt (g : EReal) = (((Real.sqrt g)⁻¹ : ℝ) : EReal) := by
        show (if g < 0 then (⊥ : EReal) else if g = 0 then ⊤ else _) = _
        rw [if_neg (by linarith), if_neg (by linarith)]
      rw [hr]
      norm_cast
      have : Real.sqrt g ≠ 0 := (Real.sqrt_pos.2 h).ne'
      field_simp
      exact (Real.sq_sqrt hg).symm
    · obtain rfl : g = 0 := le_antisymm (by linarith) hg
      simp
  induction L using EReal.rec with
  | bot =>
    have e1 : -Ideal.tanh ⊥ * (Ideal.exp ⊥ * Ideal.exp ⊥ + 1) = ((1 : ℝ) : EReal) := by
      simp
    have e2 : -Ideal.expm1 (((2 : ℝ) : EReal) * ⊥) = ((1 : ℝ) : EReal) := by
      rw [EReal.coe_mul_bot_of_pos (by norm_num)]
      simp [Ideal.expm1]
    rw [e1, e2]
    exact key 1 (by norm_num)
  | top => simp at hL
  | coe r =>
    have hr : r ≤ 0 := by exact_mod_cast hL
    have e1 : -Ideal.tanh (r : EReal) * (Ideal.exp (r : EReal) * Ideal.exp (r : EReal) + 1) = ((1 - Real.exp (2 * r) : ℝ) : EReal) := by
      show -((Real.tanh r : ℝ) : EReal) * (((Real.exp r : ℝ) : EReal) * ((Real.exp r : ℝ) : EReal) + 1) = _
      norm_cast
      rw [Real.tanh_eq_sinh_div_cosh, Real.sinh_eq, Real.cosh_eq, two_mul, Real.exp_add, Real.exp_neg]
      have h := Real.exp_pos r
      field_simp
      ring
    have e2 : -Ideal.expm1 (((2 : ℝ) : EReal) * (r : EReal)) = ((1 - Real.exp (2 * r) : ℝ) : EReal) := by
      rw [← EReal.coe_mul]
      show -(((Real.exp (2 * r) : ℝ) : EReal) - 1) = _
      norm_cast
      ring
    rw [e1, e2]
    exact key _ (by have := Real.exp_le_one_iff.2 (by linarith : 2 * r ≤ 0); linarith)

/-- The factor distributes over sums: it is a real number at least zero. -/
theorem exp_mul_add (L : EReal) (hL : L ≤ 0) (x y : EReal) : Ideal.exp L * (x + y) = Ideal.exp L * x + Ideal.exp L * y := by
  induction L using EReal.rec with
  | bot => simp
  | top => simp at hL
  | coe r =>
    show ((Real.exp r : ℝ) : EReal) * (x + y) = ((Real.exp r : ℝ) : EReal) * x + ((Real.exp r : ℝ) : EReal) * y
    exact EReal.left_distrib_of_nonneg_of_ne_top (by exact_mod_cast (Real.exp_pos r).le) (EReal.coe_ne_top _) x y

end Cert.MixRow
-- ==== Proof.MixOps.lean ====
/- The mixing kernel's operands, at an entry, of the arguments. -/
module

public import proofs.«01_k».proof.Proof.Gen.Kernel3Ideal.Frame.Runs
public import proofs.«01_k».proof.Proof.MixRow
public import Idealize.ShloMosaic.Lib.StableHlo.RunRead
public import Idealize.ShloMosaic.Lib.Pipeline.ValueKit
public import Idealize.ShloMosaic.Lib.Pointwise

@[expose] public section

set_option maxRecDepth 16384

noncomputable section

namespace Cert.Kernel3Ideal.Mix

open Cert.Kernel3Ideal Cert.Kernel3Ideal.Gen Idealize.ShloMosaic Idealize.ShloMosaic.TcCoe Idealize.SL.Sem

variable (m : (ℓ : Loc nD τ sig) → Buf (Elt Ideal) ℓ)

/-- The four by four identity. -/
def eyeF : FVec Ideal S4x4 .f32 :=
  uitofp .f32 (cmpi .eq (addi (iotaInDim S4x4 32 0) (broadcastInDim S4x4 ![] bcast_S_S4x4 (constantI S_ 32 0#32))) (iotaInDim S4x4 32 1))

/-- The identity matrix. -/
theorem eyeF_apply (a b : Fin 4) : eyeF (ix2 a b) = if a = b then 1 else 0 := by
  have e : eyeF (ix2 a b) = FloatOps.uitofp (F := Ideal) FTy.f32 (IntOp.cmpi CmpIPredicate.eq (IntOp.addi (BitVec.ofNat 32 (a : ℕ)) 0#32) (BitVec.ofNat 32 (b : ℕ))) := by
    unfold eyeF
    pointwise
  rw [e]
  have d : IntOp.cmpi CmpIPredicate.eq (IntOp.addi (BitVec.ofNat 32 (a : ℕ)) 0#32) (BitVec.ofNat 32 (b : ℕ)) = if a = b then 1#1 else 0#1 := by
    clear e; revert a b; decide +kernel
  rw [d]
  by_cases h : a = b
  · rw [if_pos h, if_pos h]; show (((1#1 : BitVec 1).toNat : ℝ) : EReal) = 1; simp
  · rw [if_neg h, if_neg h]; show (((0#1 : BitVec 1).toNat : ℝ) : EReal) = 0; simp

/-- A gate's blocks on the diagonal. -/
def diagF (w : FVec Ideal S4x64x64 .f32) : FVec Ideal S256x256 .f32 :=
  shapeCast S256x256 (mulf (broadcastInDim S4x64x4x64 ![0, 1, 2, 3] bcast_S4x1x4x1_S4x64x4x64_0_1_2_3 (broadcastInDim S4x1x4x1 ![0, 2] bcast_S4x4_S4x1x4x1_0_2 eyeF))
    (broadcastInDim S4x64x4x64 ![0, 1, 2, 3] bcast_S4x64x1x64_S4x64x4x64_0_1_2_3 (broadcastInDim S4x64x1x64 ![0, 1, 3] bcast_S4x64x64_S4x64x1x64_0_1_3 w))) shapeCasts_S4x64x4x64_S256x256

/-- The block-diagonal matrix. -/
theorem diagF_apply (w : FVec Ideal S4x64x64 .f32) (k n : Fin 256) :
    diagF w (ix2 k n) = if (k : ℕ) / 64 = n / 64 then w (ix3 ⟨k / 64, by omega⟩ ⟨k % 64, by omega⟩ ⟨n % 64, by omega⟩) else 0 := by
  have e : diagF w (ix2 k n) = eyeF (ix2 ⟨k / 64, by omega⟩ ⟨n / 64, by omega⟩) * w (ix3 ⟨k / 64, by omega⟩ ⟨k % 64, by omega⟩ ⟨n % 64, by omega⟩) := by
    unfold diagF
    generalize eyeF = y
    pointwise
  rw [e, eyeF_apply]
  by_cases h : (k : ℕ) / 64 = n / 64
  · rw [if_pos (Fin.ext h), if_pos h, one_mul]
  · rw [if_neg (fun q => h (congrArg Fin.val q)), if_neg h, zero_mul]

/-- The kernel’s operand: the input. -/
theorem V_x (c : Dev nD) : V m c main_arg0 = m (c, Proc.devRef .tc main_arg0) := by
  show StableHlo.after (List.flatten [hostOps0, hostOps0_1, hostOps0_2]) (fun b => m (c, b)) (Proc.devRef .tc main_arg0) = _
  simp only [List.flatten_cons, List.flatten_nil, List.append_nil, StableHlo.after_append]
  after_reads_simp

/-- The kernel’s operand: the norm’s gain. -/
theorem V_g (c : Dev nD) : V m c main_v88 = broadcastInDim S1x1024 ![1] bcast_S1024_S1x1024_1 (m (c, Proc.devRef .tc main_arg1) : FVec Ideal S1024 .f32) := by
  show StableHlo.after (List.flatten [hostOps0, hostOps0_1, hostOps0_2]) (fun b => m (c, b)) (Proc.devRef .tc main_v88) = _
  simp only [List.flatten_cons, List.flatten_nil, List.append_nil, StableHlo.after_append]
  after_reads_simp

/-- The kernel’s operand: the convolution’s weights. -/
theorem V_cw (c : Dev nD) : V m c main_arg3 = (m (c, Proc.devRef .tc main_arg3) : FVec Ideal S4x256 .f32) := by
  show StableHlo.after (List.flatten [hostOps0, hostOps0_1, hostOps0_2]) (fun b => m (c, b)) (Proc.devRef .tc main_arg3) = _
  simp only [List.flatten_cons, List.flatten_nil, List.append_nil, StableHlo.after_append]
  after_reads_simp

/-- The kernel’s operand: the convolution’s bias. -/
theorem V_cb (c : Dev nD) : V m c main_v89 = broadcastInDim S1x256 ![1] bcast_S256_S1x256_1 (m (c, Proc.devRef .tc main_arg4) : FVec Ideal S256 .f32) := by
  show StableHlo.after (List.flatten [hostOps0, hostOps0_1, hostOps0_2]) (fun b => m (c, b)) (Proc.devRef .tc main_v89) = _
  simp only [List.flatten_cons, List.flatten_nil, List.append_nil, StableHlo.after_append]
  after_reads_simp

/-- The kernel’s operand: the gates’ biases. -/
theorem V_bg (c : Dev nD) : V m c main_v47 = shapeCast S1x512 (m (c, Proc.devRef .tc main_arg6) : FVec Ideal S2x256 .f32) shapeCasts_S2x256_S1x512 := by
  show StableHlo.after (List.flatten [hostOps0, hostOps0_1, hostOps0_2]) (fun b => m (c, b)) (Proc.devRef .tc main_v47) = _
  simp only [List.flatten_cons, List.flatten_nil, List.append_nil, StableHlo.after_append]
  after_reads_simp
  rfl

/-- The kernel’s operand: the decay’s parameter. -/
theorem V_lam (c : Dev nD) : V m c main_v90 = broadcastInDim S1x256 ![1] bcast_S256_S1x256_1 (m (c, Proc.devRef .tc main_arg7) : FVec Ideal S256 .f32) := by
  show StableHlo.after (List.flatten [hostOps0, hostOps0_1, hostOps0_2]) (fun b => m (c, b)) (Proc.devRef .tc main_v90) = _
  simp only [List.flatten_cons, List.flatten_nil, List.append_nil, StableHlo.after_append]
  after_reads_simp

/-- The kernel’s operand: the short convolution’s weights. -/
theorem V_scw (c : Dev nD) : V m c main_arg8 = (m (c, Proc.devRef .tc main_arg8) : FVec Ideal S3x256 .f32) := by
  show StableHlo.after (List.flatten [hostOps0, hostOps0_1, hostOps0_2]) (fun b => m (c, b)) (Proc.devRef .tc main_arg8) = _
  simp only [List.flatten_cons, List.flatten_nil, List.append_nil, StableHlo.after_append]
  after_reads_simp

/-- The kernel’s operand: the two groups’ gains. -/
theorem V_on (c : Dev nD) : V m c main_v92 = shapeCast S1x512 (extractStridedSlice S2x256 ![0, 0] (m (c, Proc.devRef .tc main_arg13) : FVec Ideal S4x256 .f32) slices_S4x256_S2x256_0_0) shapeCasts_S2x256_S1x512 := by
  show StableHlo.after (List.flatten [hostOps0, hostOps0_1, hostOps0_2]) (fun b => m (c, b)) (Proc.devRef .tc main_v92) = _
  simp only [List.flatten_cons, List.flatten_nil, List.append_nil, StableHlo.after_append]
  after_reads_simp
  rfl

/-- The input projection's columns as the kernel takes them: the first 1792 as they come, then the others. -/
def wcat (w : FVec Ideal S1024x2704 .f32) (p : FVec Ideal S1024x512 .f32) (q : FVec Ideal S1024x640 .f32) (r : FVec Ideal S1024x128 .f32) : FVec Ideal S1024x3072 .bf16 :=
  truncf .bf16 (concatenate S1024x3072 1 [⟨S1024x1792, extractStridedSlice S1024x1792 ![0, 0] w slices_S1024x2704_S1024x1792_0_0⟩, ⟨S1024x512, p⟩, ⟨S1024x640, q⟩, ⟨S1024x128, r⟩] concatenates_S1024x1792_S1024x512_S1024x640_S1024x128_S1024x3072_d1) bitsLt_bf16_f32

/-- The permuted weights’ first columns are the weights’. -/
theorem wcat_apply (w : FVec Ideal S1024x2704 .f32) (p q r) (k : Fin 1024) (j : Fin 3072) (h : (j : ℕ) < 1280) : wcat w p q r (ix2 k j) = w (ix2 k ⟨j, by omega⟩) := by
  unfold wcat
  pointwise
  rw [dif_pos (by omega)]

/-- The kernel’s operand: the projection’s weights. -/
theorem V_w (c : Dev nD) : ∃ p q r, V m c main_v16 = wcat (m (c, Proc.devRef .tc main_arg2)) p q r := by
  show ∃ p q r, StableHlo.after (List.flatten [hostOps0, hostOps0_1, hostOps0_2]) (fun b => m (c, b)) (Proc.devRef .tc main_v16) = wcat _ p q r
  simp only [List.flatten_cons, List.flatten_nil, List.append_nil, StableHlo.after_append]
  after_reads_simp
  exact ⟨_, _, _, rfl⟩
/-- The two gates side by side, each with its blocks on the diagonal. -/
def gcat (w : FVec Ideal S2x4x64x64 .f32) : FVec Ideal S256x512 .bf16 :=
  truncf .bf16 (concatenate S256x512 1 [⟨S256x256, diagF (shapeCast S4x64x64 (extractStridedSlice S1x4x64x64 ![0, 0, 0, 0] w slices_S2x4x64x64_S1x4x64x64_0_0_0_0) shapeCasts_S1x4x64x64_S4x64x64)⟩, ⟨S256x256, diagF (shapeCast S4x64x64 (extractStridedSlice S1x4x64x64 ![1, 0, 0, 0] w slices_S2x4x64x64_S1x4x64x64_1_0_0_0) shapeCasts_S1x4x64x64_S4x64x64)⟩] concatenates_S256x256_S256x256_S256x512_d1) bitsLt_bf16_f32

/-- The two gates’ matrices side by side. -/
theorem gcat_apply (w : FVec Ideal S2x4x64x64 .f32) (j : Fin 2) (k n : Fin 256) : gcat w (ix2 k ⟨256 * j + n, by omega⟩) = if (k : ℕ) / 64 = n / 64 then w (ix4 j ⟨k / 64, by omega⟩ ⟨k % 64, by omega⟩ ⟨n % 64, by omega⟩) else 0 := by
  have e0 : ∀ (u v : FVec Ideal S256x256 .f32) (q : Fin 512), (truncf .bf16 (concatenate S256x512 1 [⟨S256x256, u⟩, ⟨S256x256, v⟩] concatenates_S256x256_S256x256_S256x512_d1) bitsLt_bf16_f32 : FVec Ideal S256x512 .bf16) (ix2 k q)
      = if h : (q : ℕ) < 256 then u (ix2 k ⟨q, h⟩) else v (ix2 k ⟨q - 256, by omega⟩) := by
    intro u v q
    pointwise
  have e1 : ∀ a b d, (shapeCast S4x64x64 (extractStridedSlice S1x4x64x64 ![0, 0, 0, 0] w slices_S2x4x64x64_S1x4x64x64_0_0_0_0) shapeCasts_S1x4x64x64_S4x64x64) (ix3 a b d) = w (ix4 0 a b d) := by
    intro a b d
    pointwise
  have e2 : ∀ a b d, (shapeCast S4x64x64 (extractStridedSlice S1x4x64x64 ![1, 0, 0, 0] w slices_S2x4x64x64_S1x4x64x64_1_0_0_0) shapeCasts_S1x4x64x64_S4x64x64) (ix3 a b d) = w (ix4 1 a b d) := by
    intro a b d
    pointwise
  unfold gcat
  rw [e0]
  obtain ⟨j, hj⟩ := j
  obtain rfl | rfl : j = 0 ∨ j = 1 := by omega
  · rw [dif_pos (by show 256 * 0 + (n : ℕ) < 256; omega), diagF_apply, e1]
    simp
  · rw [dif_neg (by show ¬ 256 * 1 + (n : ℕ) < 256; omega), diagF_apply, e2]
    simp

/-- The kernel’s operand: the gates’ weights. -/
theorem V_wg (c : Dev nD) : V m c main_v46 = gcat (m (c, Proc.devRef .tc main_arg5)) := by
  show StableHlo.after (List.flatten [hostOps0, hostOps0_1, hostOps0_2]) (fun b => m (c, b)) (Proc.devRef .tc main_v46) = _
  simp only [List.flatten_cons, List.flatten_nil, List.append_nil, StableHlo.after_append]
  after_reads_simp
  rfl

end Cert.Kernel3Ideal.Mix
-- ==== Proof.MixIn.lean ====
/- The mixing kernel: the blocks its points read, of the arguments. -/
module

public import proofs.«01_k».proof.Proof.MixOps
public import Idealize.ShloMosaic.Lib.Pipeline.ValueKit

@[expose] public section

set_option maxRecDepth 16384

noncomputable section

namespace Cert.Kernel3Ideal.Mix

open Cert.Kernel3Ideal Cert.Kernel3Ideal.Gen Idealize.ShloMosaic Idealize.ShloMosaic.TcCoe Idealize.SL.Sem

variable (m : (ℓ : Loc nD τ sig) → Buf (Elt Ideal) ℓ)

/-- Where the windows' blocks lie: the input's and the output's move with the point, the constants stay. -/
theorem idx : ∀ t, win0_0.index t = ![(grid0.coords t 0).val, (grid0.coords t 1).val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_17.index t = ![(grid0.coords t 0).val, (grid0.coords t 1).val, 0] := by decide +kernel

/-- Point `t` is block `t % 8` of sequence `t / 8`. -/
theorem pt : ∀ t : Fin cfg0.N, (grid0.coords t 0).val = t.val / 8 ∧ (grid0.coords t 1).val = t.val % 8 := by decide +kernel

/-- Two rows of 256 laid out as one of 512. -/
theorem two_rows (y : FVec Ideal S2x256 .f32) (q : Fin 512) : shapeCast S1x512 y shapeCasts_S2x256_S1x512 (ix2 0 q) = y (ix2 ⟨q / 256, by omega⟩ ⟨q % 256, by omega⟩) := by
  pointwise

/-- The first two rows of the gains laid out as one. -/
theorem first_rows (y : FVec Ideal S4x256 .f32) (j : Fin 2) (n : Fin 256) : extractStridedSlice S2x256 ![0, 0] y slices_S4x256_S2x256_0_0 (ix2 j n) = y (ix2 ⟨j, by omega⟩ n) := by
  pointwise

/-- The same, at a row and a column. -/
theorem two_rows_at (y : FVec Ideal S2x256 .f32) (j : Fin 2) (n : Fin 256) : shapeCast S1x512 y shapeCasts_S2x256_S1x512 (ix2 0 ⟨256 * j + n, by omega⟩) = y (ix2 j n) := by
  rw [two_rows]
  have h1 : ((256 * (j : ℕ) + n) / 256) = j := by omega
  have h2 : ((256 * (j : ℕ) + n) % 256) = n := by omega
  exact congrArg₂ (fun a b => y (ix2 a b)) (Fin.ext h1) (Fin.ext h2)

/-- The block of the input. -/
theorem read0 (c : Dev nD) (t : Fin cfg0.N) (r : Fin 512) (k : Fin 1024) (b : Fin 8) (q : Fin 4096) (hb : b.val = t.val / 8) (hq : q.val = 512 * (t.val % 8) + r.val) :
    iblk m c 0 t (ix3 0 r k) = (m (c, Proc.devRef .tc main_arg0) : FVec Ideal S8x4096x1024 .f32) (ix3 b q k) := by
  rw [← (pt t).1] at hb
  rw [← (pt t).2] at hq
  have e : iblk m c 0 t (ix3 0 r k) = V m c main_arg0 (ix3 b q k) := by
    blk_ext [iblk, idx t]
  rw [e, V_x]

/-- The gain of the norm. -/
theorem read1 (c : Dev nD) (t : Fin cfg0.N) (k : Fin 1024) : iblk m c 1 t (ix2 0 k) = (m (c, Proc.devRef .tc main_arg1) : FVec Ideal S1024 .f32) (ix1 k) := by
  have e : iblk m c 1 t (ix2 0 k) = V m c main_v88 (ix2 0 k) := by
    blk_ext [iblk, idx t]
  rw [e, V_g]
  generalize (m (c, Proc.devRef .tc main_arg1) : FVec Ideal S1024 .f32) = y
  pointwise

/-- The first 1280 columns of the projection’s weights. -/
theorem read2 (c : Dev nD) (t : Fin cfg0.N) (k : Fin 1024) (j : Fin 1280) :
    iblk m c 2 t (ix2 k ⟨j, by omega⟩) = (m (c, Proc.devRef .tc main_arg2) : FVec Ideal S1024x2704 .f32) (ix2 k ⟨j, by omega⟩) := by
  have e : iblk m c 2 t (ix2 k ⟨j, by omega⟩) = V m c main_v16 (ix2 k ⟨j, by omega⟩) := by
    blk_ext [iblk, idx t]
  obtain ⟨p, q, r, h⟩ := V_w m c
  rw [e, h, wcat_apply _ _ _ _ k ⟨j, by omega⟩ j.isLt]

/-- The weights of the four-tap convolution. -/
theorem read3 (c : Dev nD) (t : Fin cfg0.N) (j : Fin 4) (n : Fin 256) : iblk m c 3 t (ix2 j n) = (m (c, Proc.devRef .tc main_arg3) : FVec Ideal S4x256 .f32) (ix2 j n) := by
  have e : iblk m c 3 t (ix2 j n) = V m c main_arg3 (ix2 j n) := by
    blk_ext [iblk, idx t]
  rw [e, V_cw]

/-- The bias of the convolution. -/
theorem read4 (c : Dev nD) (t : Fin cfg0.N) (n : Fin 256) : iblk m c 4 t (ix2 0 n) = (m (c, Proc.devRef .tc main_arg4) : FVec Ideal S256 .f32) (ix1 n) := by
  have e : iblk m c 4 t (ix2 0 n) = V m c main_v89 (ix2 0 n) := by
    blk_ext [iblk, idx t]
  rw [e, V_cb]
  generalize (m (c, Proc.devRef .tc main_arg4) : FVec Ideal S256 .f32) = y
  pointwise

/-- The gates’ weights: blocks on the diagonal, zero elsewhere. -/
theorem read5 (c : Dev nD) (t : Fin cfg0.N) (j : Fin 2) (k n : Fin 256) :
    iblk m c 5 t (ix2 k ⟨256 * j + n, by omega⟩) = (if (k : ℕ) / 64 = n / 64 then (m (c, Proc.devRef .tc main_arg5) : FVec Ideal S2x4x64x64 .f32) (ix4 j ⟨k / 64, by omega⟩ ⟨k % 64, by omega⟩ ⟨n % 64, by omega⟩) else (0 : EReal) : EReal) := by
  have e : iblk m c 5 t (ix2 k ⟨256 * j + n, by omega⟩) = V m c main_v46 (ix2 k ⟨256 * j + n, by omega⟩) := by
    blk_ext [iblk, idx t]
  rw [e, V_wg, gcat_apply]

/-- The gates’ biases. -/
theorem read6 (c : Dev nD) (t : Fin cfg0.N) (j : Fin 2) (n : Fin 256) : iblk m c 6 t (ix2 0 ⟨256 * j + n, by omega⟩) = (m (c, Proc.devRef .tc main_arg6) : FVec Ideal S2x256 .f32) (ix2 j n) := by
  have e : iblk m c 6 t (ix2 0 ⟨256 * j + n, by omega⟩) = V m c main_v47 (ix2 0 ⟨256 * j + n, by omega⟩) := by
    blk_ext [iblk, idx t]
  rw [e, V_bg]
  exact two_rows_at _ j n

/-- The decay’s parameter. -/
theorem read7 (c : Dev nD) (t : Fin cfg0.N) (n : Fin 256) : iblk m c 7 t (ix2 0 n) = (m (c, Proc.devRef .tc main_arg7) : FVec Ideal S256 .f32) (ix1 n) := by
  have e : iblk m c 7 t (ix2 0 n) = V m c main_v90 (ix2 0 n) := by
    blk_ext [iblk, idx t]
  rw [e, V_lam]
  generalize (m (c, Proc.devRef .tc main_arg7) : FVec Ideal S256 .f32) = y
  pointwise

/-- The weights of the short convolution. -/
theorem read8 (c : Dev nD) (t : Fin cfg0.N) (j : Fin 3) (n : Fin 256) : iblk m c 8 t (ix2 j n) = (m (c, Proc.devRef .tc main_arg8) : FVec Ideal S3x256 .f32) (ix2 j n) := by
  have e : iblk m c 8 t (ix2 j n) = V m c main_arg8 (ix2 j n) := by
    blk_ext [iblk, idx t]
  rw [e, V_scw]

/-- The two groups’ gains. -/
theorem read9 (c : Dev nD) (t : Fin cfg0.N) (j : Fin 2) (n : Fin 256) : iblk m c 9 t (ix2 0 ⟨256 * j + n, by omega⟩) = (m (c, Proc.devRef .tc main_arg13) : FVec Ideal S4x256 .f32) (ix2 ⟨j, by omega⟩ n) := by
  have e : iblk m c 9 t (ix2 0 ⟨256 * j + n, by omega⟩) = V m c main_v92 (ix2 0 ⟨256 * j + n, by omega⟩) := by
    blk_ext [iblk, idx t]
  rw [e, V_on]
  exact (two_rows_at _ j n).trans (first_rows _ j n)

end Cert.Kernel3Ideal.Mix
-- ==== Proof.MixScan.lean ====
/- A linear recurrence computed in doubling steps within segments of 32, and then segment by segment. -/
module

public import proofs.«01_k».proof.Proof.MixRow

@[expose] public section

noncomputable section

namespace Cert.MixScan

open Idealize.ShloMosaic

/-- Multiplying by `a` distributes over sums. -/
def Dist (a : EReal) : Prop := ∀ x y : EReal, a * (x + y) = a * x + a * y

/-- One distributes. -/
theorem dist_one : Dist 1 := fun x y => by simp

/-- A product of factors that distribute distributes. -/
theorem dist_mul {a b : EReal} (ha : Dist a) (hb : Dist b) : Dist (a * b) := fun x y => by
  rw [mul_assoc, hb, ha, mul_assoc, mul_assoc]

/-- The pair `(A, B)` spans `w` steps of the sequence `G`, but none before the row's segment. -/
def Spans (G : ℕ → EReal) (w : ℕ) (A B : Fin 512 → EReal) : Prop :=
  ∀ r : Fin 512, Dist (A r) ∧ G (r + 1) = A r * G (r + 1 - min w (r % 32 + 1)) + B r

/-- The factors spanning twice as many steps. -/
def stepA (w : ℕ) (A : Fin 512 → EReal) (r : Fin 512) : EReal :=
  A r * (if w ≤ (r : ℕ) % 32 then A ⟨r - w, by omega⟩ else 1)

/-- And the inputs. -/
def stepB (w : ℕ) (A B : Fin 512 → EReal) (r : Fin 512) : EReal :=
  A r * (if w ≤ (r : ℕ) % 32 then B ⟨r - w, by omega⟩ else 0) + B r

/-- A recurrence spans one step. -/
theorem spans_one (G : ℕ → EReal) (a b : Fin 512 → EReal) (ha : ∀ r, Dist (a r))
    (h : ∀ r : Fin 512, G (r + 1) = a r * G r + b r) : Spans G 1 a b := by
  intro r
  refine ⟨ha r, ?_⟩
  rw [show min 1 ((r : ℕ) % 32 + 1) = 1 by omega, Nat.add_sub_cancel]
  exact h r

/-- A step doubles the span. -/
theorem spans_step (G : ℕ → EReal) (w : ℕ) (hw : w ≤ 16) (A B : Fin 512 → EReal) (h : Spans G w A B) :
    Spans G (2 * w) (stepA w A) (stepB w A B) := by
  intro r
  obtain ⟨hd, hr⟩ := h r
  unfold stepA stepB
  by_cases hk : w ≤ (r : ℕ) % 32
  · have hr2 : (r : ℕ) % 32 ≤ r := Nat.mod_le _ _
    obtain ⟨hd', hr'⟩ := h ⟨r - w, by omega⟩
    rw [if_pos hk, if_pos hk]
    refine ⟨dist_mul hd hd', ?_⟩
    rw [hr, show (r : ℕ) + 1 - min w ((r : ℕ) % 32 + 1) = r - w + 1 by omega]
    rw [show ((⟨r - w, by omega⟩ : Fin 512) : ℕ) = r - w from rfl] at hr'
    rw [hr', hd, show (r : ℕ) - w + 1 - min w (((r : ℕ) - w) % 32 + 1) = r + 1 - min (2 * w) ((r : ℕ) % 32 + 1) by omega,
      ← mul_assoc, add_assoc]
  · rw [if_neg hk, if_neg hk, mul_one, mul_zero, zero_add]
    refine ⟨hd, ?_⟩
    rw [hr, show min w ((r : ℕ) % 32 + 1) = min (2 * w) ((r : ℕ) % 32 + 1) by omega]

/-- The factors after the five steps. -/
def allA (a : Fin 512 → EReal) : Fin 512 → EReal := stepA 16 (stepA 8 (stepA 4 (stepA 2 (stepA 1 a))))

/-- And the inputs. -/
def allB (a b : Fin 512 → EReal) : Fin 512 → EReal :=
  stepB 16 (stepA 8 (stepA 4 (stepA 2 (stepA 1 a)))) (stepB 8 (stepA 4 (stepA 2 (stepA 1 a)))
    (stepB 4 (stepA 2 (stepA 1 a)) (stepB 2 (stepA 1 a) (stepB 1 a b))))

/-- After five steps every row is given by the state before its segment. -/
theorem spans_all (G : ℕ → EReal) (a b : Fin 512 → EReal) (ha : ∀ r, Dist (a r))
    (h : ∀ r : Fin 512, G (r + 1) = a r * G r + b r) (r : Fin 512) :
    G (r + 1) = allA a r * G (r - r % 32) + allB a b r := by
  have h5 := spans_step G 16 (by omega) _ _ (spans_step G 8 (by omega) _ _ (spans_step G 4 (by omega) _ _
    (spans_step G 2 (by omega) _ _ (spans_step G 1 (by omega) _ _ (spans_one G a b ha h)))))
  have := (h5 r).2
  rw [show (r : ℕ) + 1 - min (2 * 16) ((r : ℕ) % 32 + 1) = r - r % 32 by omega] at this
  exact this

end Cert.MixScan
-- ==== Proof.MixBlock.lean ====
/- The vectors one grid point of the projection and mixing call forms for the first two groups, read at an entry. -/
module

public import proofs.«01_k».proof.Proof.MixScan
public import proofs.«01_k».proof.Proof.Gen.Kernel3Ideal.Skeleton

@[expose] public section

set_option maxRecDepth 16384

noncomputable section

namespace Cert.Kernel3Ideal.Mix

open Cert.Kernel3Ideal Cert.Kernel3Ideal.Gen Idealize.ShloMosaic Idealize.ShloMosaic.TcCoe Idealize.SL.Sem

/-- The first 1280 columns of the block's projected rows. -/
theorem pay7_apply (x0 : Vec Ideal S1x512x1024 .f32) (x1 : Vec Ideal S1x1024 .f32) (w : Vec Ideal S1024x1280 .bf16) (r : Fin 512) (j : Fin 1280) :
    k0_pay7 x0 x1 w (ix2 r j) = ∑ k, MixRow.normed (fun k => x0 (ix3 0 r k)) (fun k => x1 (ix2 0 k)) k * w (ix2 k j) := by
  unfold k0_pay7 k0_pay6 MixRow.normed
  pointwise

/-- The recurrence's convolution. -/
theorem pay119_apply (v638 : FVec Ideal S512x256 .f32) (v646 v648 v653 : Vec Ideal S1x256 .f32) (v654 : Vec Ideal S512x256 .f32) (v658 : Vec Ideal S1x256 .f32) (v659 : Vec Ideal S512x256 .f32) (v663 : Vec Ideal S1x256 .f32) (v664 : Vec Ideal S512x256 .f32) (r : Fin 512) (n : Fin 256) :
    k0_pay119 v638 v646 v648 v653 v654 v658 v659 v663 v664 (ix2 r n) = v646 (ix2 0 n) + v648 (ix2 0 n) * v638 (ix2 r n)
      + v653 (ix2 0 n) * v654 (ix2 r n) + v658 (ix2 0 n) * v659 (ix2 r n) + v663 (ix2 0 n) * v664 (ix2 r n) := by
  unfold k0_pay119
  pointwise

/-- The five parts of the projected rows. -/
theorem pay113_apply (z : FVec Ideal S512x1280 .f32) (r : Fin 512) (n : Fin 256) : k0_pay113 z (ix2 r n) = z (ix2 r ⟨n, by omega⟩) := by
  unfold k0_pay113
  pointwise

/-- The second column group of the projection. -/
theorem pay114_apply (z : FVec Ideal S512x1280 .f32) (r : Fin 512) (n : Fin 256) : k0_pay114 z (ix2 r n) = z (ix2 r ⟨256 + n, by omega⟩) := by
  unfold k0_pay114
  pointwise

/-- The third column group of the projection. -/
theorem pay115_apply (z : FVec Ideal S512x1280 .f32) (r : Fin 512) (n : Fin 256) : k0_pay115 z (ix2 r n) = z (ix2 r ⟨512 + n, by omega⟩) := by
  unfold k0_pay115
  pointwise

/-- The fourth column group of the projection. -/
theorem pay116_apply (z : FVec Ideal S512x1280 .f32) (r : Fin 512) (n : Fin 256) : k0_pay116 z (ix2 r n) = z (ix2 r ⟨768 + n, by omega⟩) := by
  unfold k0_pay116
  pointwise

/-- The fifth column group of the projection. -/
theorem pay117_apply (z : FVec Ideal S512x1280 .f32) (r : Fin 512) (n : Fin 256) : k0_pay117 z (ix2 r n) = z (ix2 r ⟨1024 + n, by omega⟩) := by
  unfold k0_pay117
  pointwise

/-- A block’s rows, as they are stored. -/
theorem pay118_apply (v : FVec Ideal S512x256 .f32) (r : Fin 512) (n : Fin 256) : k0_pay118 v (ix2 r n) = v (ix2 r n) := by
  unfold k0_pay118
  pointwise

/-- The last eight rows of a block. -/
theorem pay120_apply (v : FVec Ideal S512x256 .f32) (r : Fin 8) (n : Fin 256) : k0_pay120 v (ix2 r n) = v (ix2 ⟨504 + r, by omega⟩ n) := by
  unfold k0_pay120
  pointwise

/-- The short convolution’s input: a product of two groups. -/
theorem pay156_apply (v w : FVec Ideal S512x256 .f32) (r : Fin 512) (n : Fin 256) : k0_pay156 v w (ix2 r n) = v (ix2 r n) * w (ix2 r n) := by
  unfold k0_pay156 k0_pay155
  pointwise

/-- The last eight rows of that product. -/
theorem pay157_apply (v w : FVec Ideal S512x256 .f32) (r : Fin 8) (n : Fin 256) :
    k0_pay157 v w (ix2 r n) = v (ix2 ⟨504 + r, by omega⟩ n) * w (ix2 ⟨504 + r, by omega⟩ n) := by
  unfold k0_pay157 k0_pay155
  pointwise

/-- The two gates' products with the blocks, over the rows `k0_pay119`. -/
theorem pay121_apply (v638 : FVec Ideal S512x256 .f32) (v646 v648 v653 : Vec Ideal S1x256 .f32) (v654 : Vec Ideal S512x256 .f32) (v658 : Vec Ideal S1x256 .f32) (v659 : Vec Ideal S512x256 .f32) (v663 : Vec Ideal S1x256 .f32) (v664 : Vec Ideal S512x256 .f32) (x5 : Vec Ideal S256x512 .bf16) (r : Fin 512) (n : Fin 512) :
    k0_pay121 v638 v646 v648 v653 v654 v658 v659 v663 v664 x5 (ix2 r n)
      = ∑ k, k0_pay119 v638 v646 v648 v653 v654 v658 v659 v663 v664 (ix2 r k) * x5 (ix2 k n) := by
  unfold k0_pay121
  generalize k0_pay119 v638 v646 v648 v653 v654 v658 v659 v663 v664 = X
  pointwise

/-- The bias of the gates, on every row. -/
theorem pay122_apply (x6 : Vec Ideal S1x512 .f32) (r : Fin 512) (n : Fin 512) : k0_pay122 x6 (ix2 r n) = x6 (ix2 0 n) := by
  unfold k0_pay122
  pointwise

/-- The absolute value. -/
theorem abs_eq (x : EReal) : (x.abs : EReal) = max x (-x) := by
  induction x with
  | bot => simp
  | top => simp
  | coe x =>
    rw [EReal.coe_abs, abs_eq_max_neg]
    norm_cast

/-- The logarithm of the factor. -/
theorem pay124_apply (v675 v678 : FVec Ideal S512x512 .f32) (lam : Vec Ideal S1x256 .f32) (r : Fin 512) (n : Fin 256) :
    k0_pay124 v675 v678 lam (ix2 r n) = MixRow.rate (lam (ix2 0 n)) * Ideal.logistic (v675 (ix2 r ⟨n, by omega⟩) + v678 (ix2 r ⟨n, by omega⟩)) := by
  have e : ((lam (ix2 0 n) : EReal).abs : EReal) = FloatOps.absf (F := Ideal) (φ := .f32) (lam (ix2 0 n)) := abs_eq _
  unfold k0_pay124 k0_pay123 MixRow.rate
  rw [e]
  pointwise
  simp only [zero_sub]

/-- The factor. -/
theorem pay125_apply (v675 v678 : FVec Ideal S512x512 .f32) (lam : Vec Ideal S1x256 .f32) (r : Fin 512) (n : Fin 256) :
    k0_pay125 v675 v678 lam (ix2 r n) = Ideal.exp (k0_pay124 v675 v678 lam (ix2 r n)) := by
  unfold k0_pay125
  generalize k0_pay124 v675 v678 lam = X
  pointwise

/-- The mask of a step. -/
theorem mask_eq (d : Fin 17) (r : Fin 512) (x y : EReal) :
    Scalar.select (IntOp.cmpi CmpIPredicate.sge (IntOp.andi (BitVec.ofNat 32 ↑r) 31#32) (BitVec.ofNat 32 d)) x y
      = if (d : ℕ) ≤ (r : ℕ) % 32 then x else y := by
  have h : ∀ (d : Fin 17) (r : Fin 512), IntOp.cmpi CmpIPredicate.sge (IntOp.andi (BitVec.ofNat 32 ↑r) 31#32) (BitVec.ofNat 32 d)
      = if (d : ℕ) ≤ (r : ℕ) % 32 then 1#1 else 0#1 := by decide +kernel
  rw [h]
  split <;> rfl

/-- The choice in the step over 1 rows: by whether the row lies at least 1 rows into its segment. -/
theorem mask1 (r : Fin 512) (x y : EReal) :
    Scalar.select (IntOp.cmpi CmpIPredicate.sge (IntOp.andi (BitVec.ofNat 32 ↑r) 31#32) 1#32) x y = if 1 ≤ (r : ℕ) % 32 then x else y := mask_eq 1 r x y

/-- The choice in the step over 2 rows: by whether the row lies at least 2 rows into its segment. -/
theorem mask2 (r : Fin 512) (x y : EReal) :
    Scalar.select (IntOp.cmpi CmpIPredicate.sge (IntOp.andi (BitVec.ofNat 32 ↑r) 31#32) 2#32) x y = if 2 ≤ (r : ℕ) % 32 then x else y := mask_eq 2 r x y

/-- The choice in the step over 4 rows: by whether the row lies at least 4 rows into its segment. -/
theorem mask4 (r : Fin 512) (x y : EReal) :
    Scalar.select (IntOp.cmpi CmpIPredicate.sge (IntOp.andi (BitVec.ofNat 32 ↑r) 31#32) 4#32) x y = if 4 ≤ (r : ℕ) % 32 then x else y := mask_eq 4 r x y

/-- The choice in the step over 8 rows: by whether the row lies at least 8 rows into its segment. -/
theorem mask8 (r : Fin 512) (x y : EReal) :
    Scalar.select (IntOp.cmpi CmpIPredicate.sge (IntOp.andi (BitVec.ofNat 32 ↑r) 31#32) 8#32) x y = if 8 ≤ (r : ℕ) % 32 then x else y := mask_eq 8 r x y

/-- The choice in the step over 16 rows: by whether the row lies at least 16 rows into its segment. -/
theorem mask16 (r : Fin 512) (x y : EReal) :
    Scalar.select (IntOp.cmpi CmpIPredicate.sge (IntOp.andi (BitVec.ofNat 32 ↑r) 31#32) 16#32) x y = if 16 ≤ (r : ℕ) % 32 then x else y := mask_eq 16 r x y

/-- A value rotated down by `d` rows, where the mask keeps it. -/
theorem rot_eq (v : Fin 512 → EReal) (d : ℕ) (hd : d ≤ 16) (r : Fin 512) (c : EReal) :
    (if d ≤ (r : ℕ) % 32 then v ⟨(r + 512 - d) % 512, by omega⟩ else c) = if d ≤ (r : ℕ) % 32 then v ⟨r - d, by omega⟩ else c := by
  split
  · congr 2
    have := Nat.mod_le (r : ℕ) 32
    omega
  · rfl

/-- The choice the kernel makes by comparing. -/
theorem ogt_eq (g : EReal) (x : EReal) : Scalar.select (FloatOps.cmpf (F := Ideal) (φ := .f32) .ogt g 0) x 0 = if 0 < g then x else 0 := by
  unfold Scalar.select
  simp only [FloatOps.cmpf, Ideal.cmp]
  by_cases h : 0 < g <;> simp [h]

/-- The recurrence's input term. -/
theorem pay126_apply (v667 : FVec Ideal S512x256 .f32) (v675 v678 : FVec Ideal S512x512 .f32) (lam : Vec Ideal S1x256 .f32) (r : Fin 512) (n : Fin 256) :
    k0_pay126 v667 v675 v678 lam (ix2 r n)
      = Ideal.sqrt (-Ideal.expm1 (Ideal.ofBits FTy.f32 1073741824#32 * k0_pay124 v675 v678 lam (ix2 r n)))
        * (Ideal.logistic (v675 (ix2 r ⟨256 + n, by omega⟩) + v678 (ix2 r ⟨256 + n, by omega⟩)) * v667 (ix2 r n)) := by
  have hX : ∀ (r : Fin 512) (n : Fin 256), k0_pay125 v675 v678 lam (ix2 r n) = Ideal.exp (k0_pay124 v675 v678 lam (ix2 r n)) := pay125_apply v675 v678 lam
  have hL : ∀ (r : Fin 512) (n : Fin 256), k0_pay124 v675 v678 lam (ix2 r n) ≤ 0 := fun r n => by
    rw [pay124_apply]
    exact EReal.mul_nonpos_iff.2 (.inr ⟨MixRow.rate_nonpos _, MixRow.logistic_nonneg _⟩)
  unfold k0_pay126 k0_pay123
  generalize k0_pay125 v675 v678 lam = X at hX ⊢
  generalize k0_pay124 v675 v678 lam = L at hX hL ⊢
  have hr := MixRow.root_eq (L (ix2 r n)) (hL r n)
  pointwise
  simp only [zero_sub, ogt_eq, hX, hr]

/-- One step of the factors, as the block forms it. -/
def stepABlk (w : BitVec 32) (A : FVec Ideal S512x256 .f32) : FVec Ideal S512x256 .f32 :=
  mulf A (select (cmpi .sge k0_pay127 (broadcast S512x256 w)) (dynamicRotate 0 w none A rotates_S512x256_d0)
    (broadcast S512x256 (Scalar.ofBits (F := Ideal) .f32 0x3F800000#32)))

/-- The products’ step over 1 rows. -/
theorem stepABlk_1 (A : FVec Ideal S512x256 .f32) (r : Fin 512) (n : Fin 256) :
    stepABlk 1#32 A (ix2 r n) = MixScan.stepA 1 (fun r => A (ix2 r n)) r := by
  unfold MixScan.stepA
  rw [← rot_eq (fun r => A (ix2 r n)) 1 (by omega) r 1]
  unfold stepABlk k0_pay127
  pointwise
  simp only [mask1]

/-- The products’ step over 2 rows. -/
theorem stepABlk_2 (A : FVec Ideal S512x256 .f32) (r : Fin 512) (n : Fin 256) :
    stepABlk 2#32 A (ix2 r n) = MixScan.stepA 2 (fun r => A (ix2 r n)) r := by
  unfold MixScan.stepA
  rw [← rot_eq (fun r => A (ix2 r n)) 2 (by omega) r 1]
  unfold stepABlk k0_pay127
  pointwise
  simp only [mask2]

/-- The products’ step over 4 rows. -/
theorem stepABlk_4 (A : FVec Ideal S512x256 .f32) (r : Fin 512) (n : Fin 256) :
    stepABlk 4#32 A (ix2 r n) = MixScan.stepA 4 (fun r => A (ix2 r n)) r := by
  unfold MixScan.stepA
  rw [← rot_eq (fun r => A (ix2 r n)) 4 (by omega) r 1]
  unfold stepABlk k0_pay127
  pointwise
  simp only [mask4]

/-- The products’ step over 8 rows. -/
theorem stepABlk_8 (A : FVec Ideal S512x256 .f32) (r : Fin 512) (n : Fin 256) :
    stepABlk 8#32 A (ix2 r n) = MixScan.stepA 8 (fun r => A (ix2 r n)) r := by
  unfold MixScan.stepA
  rw [← rot_eq (fun r => A (ix2 r n)) 8 (by omega) r 1]
  unfold stepABlk k0_pay127
  pointwise
  simp only [mask8]

/-- The products’ step over 16 rows. -/
theorem stepABlk_16 (A : FVec Ideal S512x256 .f32) (r : Fin 512) (n : Fin 256) :
    stepABlk 16#32 A (ix2 r n) = MixScan.stepA 16 (fun r => A (ix2 r n)) r := by
  unfold MixScan.stepA
  rw [← rot_eq (fun r => A (ix2 r n)) 16 (by omega) r 1]
  unfold stepABlk k0_pay127
  pointwise
  simp only [mask16]

/-- One step of the inputs, as the block forms it. -/
def stepBlk (w : BitVec 32) (A B : FVec Ideal S512x256 .f32) : FVec Ideal S512x256 .f32 :=
  addf (mulf A (select (cmpi .sge k0_pay127 (broadcast S512x256 w)) (dynamicRotate 0 w none B rotates_S512x256_d0)
    (broadcast S512x256 (Scalar.ofBits (F := Ideal) .f32 0x00000000#32)))) B

/-- The sums’ step over 1 rows. -/
theorem stepBlk_1 (A B : FVec Ideal S512x256 .f32) (r : Fin 512) (n : Fin 256) :
    stepBlk 1#32 A B (ix2 r n) = MixScan.stepB 1 (fun r => A (ix2 r n)) (fun r => B (ix2 r n)) r := by
  unfold MixScan.stepB
  rw [← rot_eq (fun r => B (ix2 r n)) 1 (by omega) r 0]
  unfold stepBlk k0_pay127
  pointwise
  simp only [mask1]
  split <;> simp

/-- The sums’ step over 2 rows. -/
theorem stepBlk_2 (A B : FVec Ideal S512x256 .f32) (r : Fin 512) (n : Fin 256) :
    stepBlk 2#32 A B (ix2 r n) = MixScan.stepB 2 (fun r => A (ix2 r n)) (fun r => B (ix2 r n)) r := by
  unfold MixScan.stepB
  rw [← rot_eq (fun r => B (ix2 r n)) 2 (by omega) r 0]
  unfold stepBlk k0_pay127
  pointwise
  simp only [mask2]
  split <;> simp

/-- The sums’ step over 4 rows. -/
theorem stepBlk_4 (A B : FVec Ideal S512x256 .f32) (r : Fin 512) (n : Fin 256) :
    stepBlk 4#32 A B (ix2 r n) = MixScan.stepB 4 (fun r => A (ix2 r n)) (fun r => B (ix2 r n)) r := by
  unfold MixScan.stepB
  rw [← rot_eq (fun r => B (ix2 r n)) 4 (by omega) r 0]
  unfold stepBlk k0_pay127
  pointwise
  simp only [mask4]
  split <;> simp

/-- The sums’ step over 8 rows. -/
theorem stepBlk_8 (A B : FVec Ideal S512x256 .f32) (r : Fin 512) (n : Fin 256) :
    stepBlk 8#32 A B (ix2 r n) = MixScan.stepB 8 (fun r => A (ix2 r n)) (fun r => B (ix2 r n)) r := by
  unfold MixScan.stepB
  rw [← rot_eq (fun r => B (ix2 r n)) 8 (by omega) r 0]
  unfold stepBlk k0_pay127
  pointwise
  simp only [mask8]
  split <;> simp

/-- The sums’ step over 16 rows. -/
theorem stepBlk_16 (A B : FVec Ideal S512x256 .f32) (r : Fin 512) (n : Fin 256) :
    stepBlk 16#32 A B (ix2 r n) = MixScan.stepB 16 (fun r => A (ix2 r n)) (fun r => B (ix2 r n)) r := by
  unfold MixScan.stepB
  rw [← rot_eq (fun r => B (ix2 r n)) 16 (by omega) r 0]
  unfold stepBlk k0_pay127
  pointwise
  simp only [mask16]
  split <;> simp

/-- The factors after the first four steps, and the inputs, as the block forms them. -/
abbrev midA (a : FVec Ideal S512x256 .f32) : FVec Ideal S512x256 .f32 :=
  k0_pay137 a k0_pay127 k0_pay128 (dynamicRotate 0 1#32 none a rotates_S512x256_d0) (Scalar.ofBits (F := Ideal) .f32 0x3F800000#32)

/-- The sums after the scan’s middle steps. -/
abbrev midB (a b : FVec Ideal S512x256 .f32) : FVec Ideal S512x256 .f32 :=
  k0_pay136 a b k0_pay127 k0_pay128 (dynamicRotate 0 1#32 none a rotates_S512x256_d0) (Scalar.ofBits (F := Ideal) .f32 0x3F800000#32)

/-- The products after all the scan’s steps, step by step. -/
theorem endA_eq (a : FVec Ideal S512x256 .f32) :
    k0_pay141 k0_pay127 (midA a) k0_pay138 = stepABlk 16#32 (stepABlk 8#32 (stepABlk 4#32 (stepABlk 2#32 (stepABlk 1#32 a)))) := rfl

/-- The sums after all the scan’s steps, step by step. -/
theorem endB_eq (a b : FVec Ideal S512x256 .f32) :
    k0_pay140 k0_pay127 (midB a b) (midA a) k0_pay138
      = stepBlk 16#32 (stepABlk 8#32 (stepABlk 4#32 (stepABlk 2#32 (stepABlk 1#32 a))))
        (stepBlk 8#32 (stepABlk 4#32 (stepABlk 2#32 (stepABlk 1#32 a)))
        (stepBlk 4#32 (stepABlk 2#32 (stepABlk 1#32 a)) (stepBlk 2#32 (stepABlk 1#32 a) (stepBlk 1#32 a b)))) := rfl

/-- The factors and the inputs after all five steps, from a block's own. -/
theorem scan_steps (a b : FVec Ideal S512x256 .f32) (r : Fin 512) (n : Fin 256) :
    k0_pay141 k0_pay127 (midA a) k0_pay138 (ix2 r n) = MixScan.allA (fun r => a (ix2 r n)) r
    ∧ k0_pay140 k0_pay127 (midB a b) (midA a) k0_pay138 (ix2 r n)
      = MixScan.allB (fun r => a (ix2 r n)) (fun r => b (ix2 r n)) r := by
  rw [endA_eq, endB_eq, stepBlk_16, stepABlk_16]
  simp only [stepBlk_8, stepBlk_4, stepBlk_2, stepBlk_1, stepABlk_8, stepABlk_4, stepABlk_2, stepABlk_1]
  exact ⟨rfl, rfl⟩

/-! The segments -/

/-- Segment `k` holds the states after its 32 rows. -/
def SegOk (G : Fin 256 → ℕ → EReal) (k : ℕ) (S : FVec Ideal S32x256 .f32) : Prop :=
  ∀ (i : Fin 32) (n : Fin 256), S (ix2 i n) = G n (32 * k + i + 1)

/-- A segment’s rows, once its entering state is right. -/
theorem seg_ok (G : Fin 256 → ℕ → EReal) (A B : FVec Ideal S512x256 .f32)
    (H : ∀ (r : Fin 512) (n : Fin 256), G n (r + 1) = A (ix2 r n) * G n (r - r % 32) + B (ix2 r n)) (k o : ℕ) (hk : k < 16) (ho : o = 32 * k)
    (hs : S512x256.Slices ![o, 0] S32x256) (h : FVec Ideal S1x256 .f32) (hh : ∀ n, h (ix2 0 n) = G n (32 * k)) :
    SegOk G k (addf (extractStridedSlice S32x256 ![o, 0] B hs) (mulf (extractStridedSlice S32x256 ![o, 0] A hs) (broadcastTo S32x256 h broadcasts_S1x256_S32x256))) := by
  intro i n
  have := H ⟨32 * k + i, by omega⟩ n
  simp only at this
  rw [this, show 32 * k + (i : ℕ) - (32 * k + i) % 32 = 32 * k by omega, ← hh]
  subst ho
  pointwise
  rw [add_comm]

/-- The state after a segment is its last row. -/
theorem last_ok (G : Fin 256 → ℕ → EReal) (k : ℕ) (S : FVec Ideal S32x256 .f32) (h : SegOk G k S) (n : Fin 256) :
    extractStridedSlice S1x256 ![31, 0] S slices_S32x256_o31_0_S1x256 (ix2 0 n) = G n (32 * (k + 1)) := by
  have := h 31 n
  rw [show 32 * (k + 1) = 32 * k + ((31 : Fin 32) : ℕ) + 1 by simp; omega, ← this]
  pointwise

/-- The segments laid one after the other are the block’s states. -/
theorem concat_ok (G : Fin 256 → ℕ → EReal) (S : Fin 16 → FVec Ideal S32x256 .f32) (h : ∀ k : Fin 16, SegOk G k (S k)) (r : Fin 512) (n : Fin 256) :
    concatenate S512x256 0 [⟨S32x256, S 0⟩, ⟨S32x256, S 1⟩, ⟨S32x256, S 2⟩, ⟨S32x256, S 3⟩, ⟨S32x256, S 4⟩, ⟨S32x256, S 5⟩, ⟨S32x256, S 6⟩, ⟨S32x256, S 7⟩, ⟨S32x256, S 8⟩, ⟨S32x256, S 9⟩, ⟨S32x256, S 10⟩, ⟨S32x256, S 11⟩, ⟨S32x256, S 12⟩, ⟨S32x256, S 13⟩, ⟨S32x256, S 14⟩, ⟨S32x256, S 15⟩] concatenates_S32x256_S32x256_S32x256_S32x256_S32x256_S32x256_S32x256_S32x256_S32x256_S32x256_S32x256_S32x256_S32x256_S32x256_S32x256_S32x256_S512x256_d0 (ix2 r n)
      = G n (r + 1) := by
  have e : S ⟨r / 32, by omega⟩ (ix2 ⟨r % 32, by omega⟩ n) = G n (r + 1) := by
    rw [h]
    congr 1
    simp only
    omega
  rw [← e]
  exact concatenate_ofFn_apply (t := S512x256) (s₁ := S32x256) 0 S _ rfl 32 rfl (ix2 r n) ⟨r / 32, by omega⟩ rfl (ix2 ⟨r % 32, by omega⟩ n) rfl
    (fun b hb => by fin_cases b <;> [exact absurd rfl hb; rfl])

end Cert.Kernel3Ideal.Mix
-- ==== Proof.MixSeg.lean ====
/- The states a grid point of the mixing call leaves, from its factors and inputs after the five steps, and the rows it stores. -/
module

public import proofs.«01_k».proof.Proof.MixBlock

@[expose] public section

set_option maxRecDepth 16384

noncomputable section

namespace Cert.Kernel3Ideal.Mix

open Cert.Kernel3Ideal Cert.Kernel3Ideal.Gen Idealize.ShloMosaic Idealize.ShloMosaic.TcCoe Idealize.SL.Sem

/-- The states of all rows, from the state entering the block: each of the sixteen segments takes the state after the one before it. -/
theorem pay151_apply (G : Fin 256 → ℕ → EReal) (v716 : Vec Ideal S1x256 .f32) (v719 v764 : IVec S512x256 32) (v762 v763 : FVec Ideal S512x256 .f32)
    (H : ∀ (r : Fin 512) (n : Fin 256), G n (r + 1) = k0_pay141 v719 v763 v764 (ix2 r n) * G n (r - r % 32) + k0_pay140 v719 v762 v763 v764 (ix2 r n))
    (h0 : ∀ n, v716 (ix2 0 n) = G n 0) (r : Fin 512) (n : Fin 256) :
    k0_pay151 (k0_pay140 v719 v762 v763 v764) (k0_pay141 v719 v763 v764) (k0_pay142 v716 v719 v762 v763 v764) (k0_pay143 v716 v719 v762 v763 v764)
      (k0_pay144 v716 v719 v762 v763 v764) (k0_pay145 v716 v719 v762 v763 v764) (k0_pay146 v716 v719 v762 v763 v764)
      (k0_pay147 v716 v719 v762 v763 v764) (k0_pay148 v716 v719 v762 v763 v764) (k0_pay149 v719 v762 v763 v764)
      (k0_pay150 v716 v719 v762 v763 v764) (ix2 r n) = G n (r + 1) := by
  have s0 : SegOk G 0 (k0_pay142 v716 v719 v762 v763 v764) := seg_ok G _ _ H 0 0 (by omega) rfl slices_S512x256_o0_0_S32x256 v716 h0
  have s1 : SegOk G 1 (k0_pay143 v716 v719 v762 v763 v764) := seg_ok G _ _ H 1 32 (by omega) rfl slices_S512x256_o32_0_S32x256 _ (last_ok G 0 _ s0)
  have s2 : SegOk G 2 (k0_pay144 v716 v719 v762 v763 v764) := seg_ok G _ _ H 2 64 (by omega) rfl slices_S512x256_o64_0_S32x256 _ (last_ok G 1 _ s1)
  have s3 : SegOk G 3 (k0_pay145 v716 v719 v762 v763 v764) := seg_ok G _ _ H 3 96 (by omega) rfl slices_S512x256_o96_0_S32x256 _ (last_ok G 2 _ s2)
  have s4 : SegOk G 4 (k0_pay146 v716 v719 v762 v763 v764) := seg_ok G _ _ H 4 128 (by omega) rfl slices_S512x256_o128_0_S32x256 _ (last_ok G 3 _ s3)
  have s5 : SegOk G 5 (k0_pay147 v716 v719 v762 v763 v764) := seg_ok G _ _ H 5 160 (by omega) rfl slices_S512x256_o160_0_S32x256 _ (last_ok G 4 _ s4)
  have s6 : SegOk G 6 (k0_pay148 v716 v719 v762 v763 v764) := seg_ok G _ _ H 6 192 (by omega) rfl slices_S512x256_o192_0_S32x256 _ (last_ok G 5 _ s5)
  have s7 : SegOk G 7 (addf (k0_pay149 v719 v762 v763 v764) (k0_pay150 v716 v719 v762 v763 v764)) := seg_ok G _ _ H 7 224 (by omega) rfl slices_S512x256_o224_0_S32x256 _ (last_ok G 6 _ s6)
  generalize k0_pay142 v716 v719 v762 v763 v764 = S0 at s0 ⊢
  generalize k0_pay143 v716 v719 v762 v763 v764 = S1 at s1 ⊢
  generalize k0_pay144 v716 v719 v762 v763 v764 = S2 at s2 ⊢
  generalize k0_pay145 v716 v719 v762 v763 v764 = S3 at s3 ⊢
  generalize k0_pay146 v716 v719 v762 v763 v764 = S4 at s4 ⊢
  generalize k0_pay147 v716 v719 v762 v763 v764 = S5 at s5 ⊢
  generalize k0_pay148 v716 v719 v762 v763 v764 = S6 at s6 ⊢
  generalize k0_pay149 v719 v762 v763 v764 = P at s7 ⊢
  generalize k0_pay150 v716 v719 v762 v763 v764 = Q at s7 ⊢
  generalize k0_pay141 v719 v763 v764 = A at H ⊢
  generalize k0_pay140 v719 v762 v763 v764 = B at H ⊢
  have s8 := seg_ok G _ _ H 8 256 (by omega) rfl slices_S512x256_o256_0_S32x256 _ (last_ok G 7 _ s7)
  have s9 := seg_ok G _ _ H 9 288 (by omega) rfl slices_S512x256_o288_0_S32x256 _ (last_ok G 8 _ s8)
  have s10 := seg_ok G _ _ H 10 320 (by omega) rfl slices_S512x256_o320_0_S32x256 _ (last_ok G 9 _ s9)
  have s11 := seg_ok G _ _ H 11 352 (by omega) rfl slices_S512x256_o352_0_S32x256 _ (last_ok G 10 _ s10)
  have s12 := seg_ok G _ _ H 12 384 (by omega) rfl slices_S512x256_o384_0_S32x256 _ (last_ok G 11 _ s11)
  have s13 := seg_ok G _ _ H 13 416 (by omega) rfl slices_S512x256_o416_0_S32x256 _ (last_ok G 12 _ s12)
  have s14 := seg_ok G _ _ H 14 448 (by omega) rfl slices_S512x256_o448_0_S32x256 _ (last_ok G 13 _ s13)
  have s15 := seg_ok G _ _ H 15 480 (by omega) rfl slices_S512x256_o480_0_S32x256 _ (last_ok G 14 _ s14)
  exact concat_ok G ![S0, S1, S2, S3, S4, S5, S6, addf P Q, _, _, _, _, _, _, _, _]
    (fun k => by fin_cases k <;> [exact s0; exact s1; exact s2; exact s3; exact s4; exact s5; exact s6; exact s7; exact s8; exact s9; exact s10; exact s11; exact s12; exact s13; exact s14; exact s15]) r n

/-- The row kept for the next block holds the state after the block's last row. -/
theorem pay152_apply (v773 v774 : FVec Ideal S512x256 .f32) (a b c d e f g h i : FVec Ideal S32x256 .f32) (r : Fin 8) (n : Fin 256) :
    k0_pay152 v773 v774 a b c d e f g h i (ix2 r n) = k0_pay151 v773 v774 a b c d e f g h i (ix2 511 n) := by
  unfold k0_pay152
  generalize k0_pay151 v773 v774 a b c d e f g h i = X
  pointwise

/-- The recurrence's output, normalised: `y` is the state times the gate through GELU. -/
theorem pay160_apply (v639 v870 : FVec Ideal S512x256 .f32) (x9 : Vec Ideal S1x256 .f32) (r : Fin 512) (n : Fin 256) :
    k0_pay160 (k0_pay154 v639 v870 (k0_pay153 v639)) (k0_pay159 v639 v870 (k0_pay153 v639)) (Scalar.ofBits (F := Ideal) .f32 0x43800000#32) x9 (ix3 0 r n)
      = MixRow.normed256 (fun n => v870 (ix2 r n) * MixRow.gelu (v639 (ix2 r n))) (fun n => x9 (ix2 0 n)) n := by
  unfold k0_pay160 k0_pay159 k0_pay154 k0_pay153 MixRow.normed256 MixRow.gelu
  pointwise

/-- The short convolution group before its normalisation. -/
theorem pay158_apply (v640 v641 v642 : FVec Ideal S512x256 .f32) (v895 v898 v903 : Vec Ideal S1x256 .f32) (v899 v904 : Vec Ideal S512x256 .f32) (r : Fin 512) (n : Fin 256) :
    k0_pay158 v640 v641 v642 v895 v898 v899 v903 v904 (ix2 r n)
      = v640 (ix2 r n) * (v895 (ix2 0 n) * (v641 (ix2 r n) * v642 (ix2 r n)) + v898 (ix2 0 n) * v899 (ix2 r n) + v903 (ix2 0 n) * v904 (ix2 r n)) := by
  unfold k0_pay158 k0_pay155
  pointwise

/-- An entry of the result’s block: the two groups’ norms. -/
theorem pay1_apply (v912 : FVec Ideal S512x256 .f32) (x9 : Vec Ideal S1x256 .f32) (r : Fin 512) (n : Fin 256) :
    k0_pay1 (k0_pay161 v912) x9 (ix3 0 r n) = MixRow.normed256 (fun n => v912 (ix2 r n)) (fun n => x9 (ix2 0 n)) n := by
  unfold k0_pay1 k0_pay161 MixRow.normed256
  pointwise

end Cert.Kernel3Ideal.Mix
-- ==== Proof.MixChain.lean ====
/- The mixing kernel: the vectors a grid point computes, of the rows of a sequence from a time on. -/
module

public import proofs.«01_k».proof.Proof.MixSeg
public import proofs.«01_k».proof.Proof.MixBlock
public import proofs.«01_k».proof.Proof.MixRow

@[expose] public section

set_option maxRecDepth 16384

noncomputable section

namespace Cert.Kernel3Ideal.Mix

open Cert.Kernel3Ideal Cert.Kernel3Ideal.Gen Idealize.ShloMosaic Idealize.ShloMosaic.TcCoe Idealize.SL.Sem

/-- A product with a column that is zero off its head's block is the product with the block. -/
theorem block_sum (f : Fin 256 → EReal) (g : Fin 4 → Fin 64 → EReal) (q : Fin 4) :
    ∑ k : Fin 256, f k * (if (k : ℕ) / 64 = q then g ⟨k / 64, by omega⟩ ⟨k % 64, by omega⟩ else 0)
      = ∑ i : Fin 64, f ⟨64 * q + i, by omega⟩ * g q i := by
  symm
  refine Finset.sum_of_injOn (fun i : Fin 64 => (⟨64 * q + i, by omega⟩ : Fin 256)) ?_ ?_ ?_ ?_
  · intro i _ j _ h
    have := congrArg Fin.val h
    simp only at this
    exact Fin.ext (by omega)
  · intro i _
    simp
  · intro k _ hk
    rw [if_neg, mul_zero]
    intro h
    refine hk ⟨⟨k % 64, by omega⟩, by simp, ?_⟩
    refine Fin.ext ?_
    show 64 * (q : ℕ) + k % 64 = k
    omega
  · intro i _
    have h1 : (64 * (q : ℕ) + i) / 64 = q := by omega
    have h2 : (64 * (q : ℕ) + i) % 64 = i := by omega
    show _ = f ⟨64 * q + i, _⟩ * (if (64 * (q : ℕ) + i) / 64 = q then g ⟨(64 * (q : ℕ) + i) / 64, _⟩ ⟨(64 * (q : ℕ) + i) % 64, _⟩ else 0)
    rw [if_pos h1]
    congr 2
    · exact Fin.ext h1.symm
    · exact Fin.ext h2.symm

/-- What a grid point reads, for the weights `W` and the sequence `X` from time `T` on: the projected rows, the
    constants, the rows before the block and the recurrence's state. -/
structure Reads (W : MixRow.Wts) (X : ℕ → Fin 1024 → EReal) (T : ℕ) (z : FVec Ideal S512x1280 .f32)
    (cb c3 c0 c1 c2 lam st s2 s0 s1 n0 n1 : Vec Ideal S1x256 .f32) (h5 h6 h7 g6 g7 : Vec Ideal S512x256 .f32)
    (wg : Vec Ideal S256x512 .bf16) (bg : Vec Ideal S1x512 .f32) : Prop where
  z : ∀ r j, z (ix2 r j) = MixRow.zrow W (X (T + r)) j
  cb : ∀ n, cb (ix2 0 n) = W.cb n
  c3 : ∀ n, c3 (ix2 0 n) = W.cw 3 n
  c0 : ∀ n, c0 (ix2 0 n) = W.cw 0 n
  c1 : ∀ n, c1 (ix2 0 n) = W.cw 1 n
  c2 : ∀ n, c2 (ix2 0 n) = W.cw 2 n
  lam : ∀ n, lam (ix2 0 n) = W.lam n
  st : ∀ n, st (ix2 0 n) = MixRow.hid (MixRow.fac W X n) (MixRow.inp W X n) T
  s2 : ∀ n, s2 (ix2 0 n) = W.scw 2 n
  s0 : ∀ n, s0 (ix2 0 n) = W.scw 0 n
  s1 : ∀ n, s1 (ix2 0 n) = W.scw 1 n
  n0 : ∀ n, n0 (ix2 0 n) = W.on 0 n
  n1 : ∀ n, n1 (ix2 0 n) = W.on 1 n
  h5 : ∀ (r : Fin 512) n, h5 (ix2 r n) = MixRow.tap (MixRow.part W X 0 n) (T + r) 3
  h6 : ∀ (r : Fin 512) n, h6 (ix2 r n) = MixRow.tap (MixRow.part W X 0 n) (T + r) 2
  h7 : ∀ (r : Fin 512) n, h7 (ix2 r n) = MixRow.tap (MixRow.part W X 0 n) (T + r) 1
  g6 : ∀ (r : Fin 512) n, g6 (ix2 r n) = MixRow.tap (MixRow.short W X n) (T + r) 2
  g7 : ∀ (r : Fin 512) n, g7 (ix2 r n) = MixRow.tap (MixRow.short W X n) (T + r) 1
  wg : ∀ (j : Fin 2) (k n : Fin 256), wg (ix2 k ⟨256 * j + n, by omega⟩)
    = if (k : ℕ) / 64 = n / 64 then W.wg j ⟨k / 64, by omega⟩ ⟨k % 64, by omega⟩ ⟨n % 64, by omega⟩ else 0
  bg : ∀ (j : Fin 2) (n : Fin 256), bg (ix2 0 ⟨256 * j + n, by omega⟩) = W.bg j n

variable {W : MixRow.Wts} {X : ℕ → Fin 1024 → EReal} {T : ℕ} {z : FVec Ideal S512x1280 .f32}
  {cb c3 c0 c1 c2 lam st s2 s0 s1 n0 n1 : Vec Ideal S1x256 .f32} {h5 h6 h7 g6 g7 : Vec Ideal S512x256 .f32}
  {wg : Vec Ideal S256x512 .bf16} {bg : Vec Ideal S1x512 .f32}
  (R : Reads W X T z cb c3 c0 c1 c2 lam st s2 s0 s1 n0 n1 h5 h6 h7 g6 g7 wg bg)

include R

/-- Column group 0 of the projection, on a block. -/
theorem part0 (r : Fin 512) (n : Fin 256) : k0_pay113 z (ix2 r n) = MixRow.part W X 0 n (T + r) := by
  rw [pay113_apply, R.z]
  exact congrArg (MixRow.zrow W _) (Fin.ext (by show (n : ℕ) = 256 * 0 + n; omega))

/-- Column group 1 of the projection, on a block. -/
theorem part1 (r : Fin 512) (n : Fin 256) : k0_pay114 z (ix2 r n) = MixRow.part W X 1 n (T + r) := by
  rw [pay114_apply, R.z]; rfl

/-- Column group 2 of the projection, on a block. -/
theorem part2 (r : Fin 512) (n : Fin 256) : k0_pay115 z (ix2 r n) = MixRow.part W X 2 n (T + r) := by
  rw [pay115_apply, R.z]; rfl

/-- Column group 3 of the projection, on a block. -/
theorem part3 (r : Fin 512) (n : Fin 256) : k0_pay116 z (ix2 r n) = MixRow.part W X 3 n (T + r) := by
  rw [pay116_apply, R.z]; rfl

/-- Column group 4 of the projection, on a block. -/
theorem part4 (r : Fin 512) (n : Fin 256) : k0_pay117 z (ix2 r n) = MixRow.part W X 4 n (T + r) := by
  rw [pay117_apply, R.z]; rfl

/-- The block after the recurrence's convolution. -/
theorem xc_blk (r : Fin 512) (n : Fin 256) :
    k0_pay119 (k0_pay113 z) cb c3 c0 h5 c1 h6 c2 h7 (ix2 r n) = MixRow.xc W X (T + r) n := by
  rw [pay119_apply, part0 R, R.cb, R.c3, R.c0, R.c1, R.c2, R.h5, R.h6, R.h7]
  rfl

/-- A gate of the block. -/
theorem gate_blk (j : Fin 2) (r : Fin 512) (n : Fin 256) :
    Ideal.logistic (k0_pay121 (k0_pay113 z) cb c3 c0 h5 c1 h6 c2 h7 wg (ix2 r ⟨256 * j + n, by omega⟩) + k0_pay122 bg (ix2 r ⟨256 * j + n, by omega⟩))
      = MixRow.gate W j (MixRow.xc W X (T + r)) n := by
  rw [pay121_apply, pay122_apply, R.bg]
  simp only [xc_blk R, R.wg]
  unfold MixRow.gate
  rw [← block_sum (MixRow.xc W X (T + r)) (fun a i => W.wg j a i ⟨n % 64, by omega⟩) ⟨n / 64, by omega⟩]

/-- The log of the decay, on a block. -/
theorem log_blk (r : Fin 512) (n : Fin 256) :
    k0_pay124 (k0_pay121 (k0_pay113 z) cb c3 c0 h5 c1 h6 c2 h7 wg) (k0_pay122 bg) lam (ix2 r n) = MixRow.logA W X n (T + r) := by
  have g := gate_blk R 0 r n
  rw [pay124_apply, R.lam]
  unfold MixRow.logA
  rw [← g]
  congr 4 <;> exact congrArg (ix2 r) (Fin.ext (by show (n : ℕ) = 256 * 0 + n; omega))

/-- The recurrence's factors. -/
theorem fac_blk (r : Fin 512) (n : Fin 256) :
    k0_pay125 (k0_pay121 (k0_pay113 z) cb c3 c0 h5 c1 h6 c2 h7 wg) (k0_pay122 bg) lam (ix2 r n) = MixRow.fac W X n (T + r) := by
  rw [pay125_apply, log_blk R]; rfl

/-- The recurrence's input terms. -/
theorem inp_blk (r : Fin 512) (n : Fin 256) :
    k0_pay126 (k0_pay119 (k0_pay113 z) cb c3 c0 h5 c1 h6 c2 h7) (k0_pay121 (k0_pay113 z) cb c3 c0 h5 c1 h6 c2 h7 wg) (k0_pay122 bg) lam (ix2 r n)
      = MixRow.inp W X n (T + r) := by
  have g := gate_blk R 1 r n
  rw [pay126_apply, log_blk R, xc_blk R]
  unfold MixRow.inp
  rw [← g]
  rfl

/-- The state after each row of the block, from the state before it: five doubling steps, then the segments. -/
theorem state_blk (a b : FVec Ideal S512x256 .f32) (ha : ∀ (r : Fin 512) n, a (ix2 r n) = MixRow.fac W X n (T + r))
    (hb : ∀ (r : Fin 512) n, b (ix2 r n) = MixRow.inp W X n (T + r)) (r : Fin 512) (n : Fin 256) :
    k0_pay151 (k0_pay140 k0_pay127 (midB a b) (midA a) k0_pay138) (k0_pay141 k0_pay127 (midA a) k0_pay138) (k0_pay142 st k0_pay127 (midB a b) (midA a) k0_pay138) (k0_pay143 st k0_pay127 (midB a b) (midA a) k0_pay138)
      (k0_pay144 st k0_pay127 (midB a b) (midA a) k0_pay138) (k0_pay145 st k0_pay127 (midB a b) (midA a) k0_pay138) (k0_pay146 st k0_pay127 (midB a b) (midA a) k0_pay138)
      (k0_pay147 st k0_pay127 (midB a b) (midA a) k0_pay138) (k0_pay148 st k0_pay127 (midB a b) (midA a) k0_pay138) (k0_pay149 k0_pay127 (midB a b) (midA a) k0_pay138)
      (k0_pay150 st k0_pay127 (midB a b) (midA a) k0_pay138) (ix2 r n) = MixRow.hid (MixRow.fac W X n) (MixRow.inp W X n) (T + r + 1) := by
  refine pay151_apply (fun n k => MixRow.hid (MixRow.fac W X n) (MixRow.inp W X n) (T + k)) st k0_pay127 k0_pay138 (midB a b) (midA a) ?_ ?_ r n
  · intro r n
    rw [(scan_steps a b r n).1, (scan_steps a b r n).2]
    refine MixScan.spans_all (fun k => MixRow.hid (MixRow.fac W X n) (MixRow.inp W X n) (T + k)) _ _ ?_ ?_ r
    · intro r x y
      simp only [ha]
      exact MixRow.exp_mul_add _ (MixRow.logA_nonpos W X n _) x y
    · intro r
      simp only [ha, hb]
      rfl
  · intro n
    exact R.st n

/-- The short convolution's group before its norm. -/
theorem yb_blk (r : Fin 512) (n : Fin 256) :
    k0_pay158 (k0_pay115 z) (k0_pay116 z) (k0_pay117 z) s2 s0 g6 s1 g7 (ix2 r n) = MixRow.yb W X (T + r) n := by
  rw [pay158_apply, part2 R, part3 R, part4 R, R.s2, R.s0, R.s1, R.g6, R.g7]
  rfl

/-- The output's second half. -/
theorem out1_blk (r : Fin 512) (n : Fin 256) :
    k0_pay1 (k0_pay161 (k0_pay158 (k0_pay115 z) (k0_pay116 z) (k0_pay117 z) s2 s0 g6 s1 g7)) n1 (ix3 0 r n) = MixRow.out W X (T + r) ⟨256 + n, by omega⟩ := by
  rw [pay1_apply]
  simp only [yb_blk R, R.n1]
  unfold MixRow.out
  rw [dif_neg (by show ¬ 256 + (n : ℕ) < 256; omega)]
  exact congrArg _ (Fin.ext (by show (n : ℕ) = 256 + n - 256; omega))

/-- The output's first half, from the block of states. -/
theorem out0_blk (S : FVec Ideal S512x256 .f32) (hS : ∀ (r : Fin 512) n, S (ix2 r n) = MixRow.hid (MixRow.fac W X n) (MixRow.inp W X n) (T + r + 1)) (r : Fin 512) (n : Fin 256) :
    k0_pay160 (k0_pay154 (k0_pay114 z) S (k0_pay153 (k0_pay114 z))) (k0_pay159 (k0_pay114 z) S (k0_pay153 (k0_pay114 z))) (Scalar.ofBits (F := Ideal) .f32 0x43800000#32) n0 (ix3 0 r n)
      = MixRow.out W X (T + r) ⟨n, by omega⟩ := by
  rw [pay160_apply]
  simp only [part1 R, hS, R.n0]
  unfold MixRow.out
  rw [dif_pos (by show (n : ℕ) < 256; omega)]
  rfl

/-- The rows kept for the next point: the recurrence's input. -/
theorem keep0 (r : Fin 8) (n : Fin 256) : k0_pay120 (k0_pay113 z) (ix2 r n) = MixRow.part W X 0 n (T + 504 + r) := by
  rw [pay120_apply, part0 R, Nat.add_assoc]

/-- And the short convolution's. -/
theorem keep1 (r : Fin 8) (n : Fin 256) : k0_pay157 (k0_pay116 z) (k0_pay117 z) (ix2 r n) = MixRow.short W X n (T + 504 + r) := by
  rw [pay157_apply, part3 R, part4 R, Nat.add_assoc]; rfl

end Cert.Kernel3Ideal.Mix
-- ==== Proof.MixPoint.lean ====
/- The mixing kernel: what a grid point leaves in its first output and in the rows it keeps. -/
module

public import proofs.«01_k».proof.Proof.Gen.Kernel3Ideal.Frame
public import proofs.«01_k».proof.Proof.MixChain
public import Idealize.ShloMosaic.Lib.Pipeline.ValueKit
public import Idealize.ShloMosaic.Lib.WritesUnit
public import Idealize.ShloMosaic.Lib.WholeRead

@[expose] public section

set_option maxRecDepth 16384

noncomputable section

namespace Cert.Kernel3Ideal.Mix

open Cert.Kernel3Ideal Cert.Kernel3Ideal.Gen Idealize.ShloMosaic Idealize.ShloMosaic.TcCoe Idealize.SL.Sem

/-- The constants' blocks hold the weights `W`. -/
structure Params (W : MixRow.Wts) (x1 : Vec Ideal S1x1024 .f32) (x2 : Vec Ideal S1024x3072 .bf16) (x3 : Vec Ideal S4x256 .f32) (x4 : Vec Ideal S1x256 .f32)
    (x5 : Vec Ideal S256x512 .bf16) (x6 : Vec Ideal S1x512 .f32) (x7 : Vec Ideal S1x256 .f32) (x8 : Vec Ideal S3x256 .f32) (x9 : Vec Ideal S1x512 .f32) : Prop where
  g : ∀ k, x1 (ix2 0 k) = W.g k
  w : ∀ k (j : Fin 1280), x2 (ix2 k ⟨j, by omega⟩) = W.w k j
  cw : ∀ j n, x3 (ix2 j n) = W.cw j n
  cb : ∀ n, x4 (ix2 0 n) = W.cb n
  wg : ∀ (j : Fin 2) (k n : Fin 256), x5 (ix2 k ⟨256 * j + n, by omega⟩)
    = if (k : ℕ) / 64 = n / 64 then W.wg j ⟨k / 64, by omega⟩ ⟨k % 64, by omega⟩ ⟨n % 64, by omega⟩ else 0
  bg : ∀ (j : Fin 2) (n : Fin 256), x6 (ix2 0 ⟨256 * j + n, by omega⟩) = W.bg j n
  lam : ∀ n, x7 (ix2 0 n) = W.lam n
  scw : ∀ j n, x8 (ix2 j n) = W.scw j n
  on : ∀ (j : Fin 2) (n : Fin 256), x9 (ix2 0 ⟨256 * j + n, by omega⟩) = W.on j n

/-- The first eight rows hold the eight values before `T`, zero before the first time. -/
def Tail (s : Fin 256 → ℕ → EReal) (T : ℕ) (B : Vec Ideal S520x256 .f32) : Prop :=
  ∀ (q : Fin 520) (n : Fin 256), (q : ℕ) < 8 → B (ix2 q n) = if 8 - (q : ℕ) ≤ T then s n (T - (8 - q)) else 0

/-- A load from a whole buffer reads the entry it names. -/
theorem rd2 {κ : Kind} {sp : Space} {d e : Fin 2 → ℕ} {φ : EltTy} {v : Memref sig κ sp ⟨2, d⟩ φ} (h : v.IsWhole) (X : (⟨2, d⟩ : Shape).Idx → Elt Ideal φ) {off : Fin 2 → ℕ}
    (inb : ∀ a : Fin 2, off a + e a ≤ d a) (x : (Rect.unit (s := ⟨2, d⟩) off e inb).toLoadRect.shape.Idx) (y : (⟨2, d⟩ : Shape).Idx)
    (h0 : (y (0 : Fin 2)).val = off 0 + (x (0 : Fin 2)).val) (h1 : (y (1 : Fin 2)).val = off 1 + (x (1 : Fin 2)).val) :
    View.readAt (Elt Ideal) v.view (Rect.unit (s := ⟨2, d⟩) off e inb).toLoadRect (h.unread X) x = X y := by
  rw [h.readAt_unread]
  refine congrArg X (funext (Fin.forall_fin_two.2 ⟨Fin.ext ?_, Fin.ext ?_⟩))
  · rw [h0]; show off 0 + 1 * _ = _; rw [Nat.one_mul]
  · rw [h1]; show off 1 + 1 * _ = _; rw [Nat.one_mul]

/-- The same at an index of three places. -/
theorem rd3 {κ : Kind} {sp : Space} {d e : Fin 3 → ℕ} {φ : EltTy} {v : Memref sig κ sp ⟨3, d⟩ φ} (h : v.IsWhole) (X : (⟨3, d⟩ : Shape).Idx → Elt Ideal φ) {off : Fin 3 → ℕ}
    (inb : ∀ a : Fin 3, off a + e a ≤ d a) (x : (Rect.unit (s := ⟨3, d⟩) off e inb).toLoadRect.shape.Idx) (y : (⟨3, d⟩ : Shape).Idx)
    (h0 : ∀ a : Fin 3, (y a).val = off a + (x a).val) :
    View.readAt (Elt Ideal) v.view (Rect.unit (s := ⟨3, d⟩) off e inb).toLoadRect (h.unread X) x = X y := by
  rw [h.readAt_unread]
  refine congrArg X (funext fun a => Fin.ext ?_)
  rw [h0 a]; show off a + 1 * _ = _; rw [Nat.one_mul]

/-- Rows `o` to `o + 511` of a buffer whose rows from 8 on hold the block from `T` on and whose first rows hold the
    values before it: the values `8 - o` steps back. -/
theorem load_rows {κ : Kind} {sp : Space} (v : View sig κ sp S520x256 .f32) (f : v.ty.Contents (Elt Ideal)) (L : List (View.Piece (Elt Ideal) S520x256 .f32))
    (w : FVec Ideal S512x256 .f32) (s : Fin 256 → ℕ → EReal) (T o : ℕ) (ho : o ≤ 7) (inb : ∀ a : Fin 2, (![o, 0] : Fin 2 → ℕ) a + S512x256.size a ≤ S520x256.size a)
    (hw : ∀ (r : Fin 512) n, w (ix2 r n) = s n (T + r)) (hL : Tail s T (v.read (Elt Ideal) (v.writes (Elt Ideal) f L))) (r : Fin 512) (n : Fin 256) :
    View.readAt (Elt Ideal) v (Rect.unit (s := S520x256) ![o, 0] S512x256.size inb).toLoadRect
      (v.writes (Elt Ideal) f (⟨Rect.unit ![8, 0] S512x256.size inb_S520x256_S512x256_8_0, w⟩ :: L)) (ix2 r n) = MixRow.tap (s n) (T + r) (8 - o) := by
  have ei : (Rect.unit (s := S520x256) ![o, 0] S512x256.size inb).toLoadRect.idx (ix2 r n) = (ix2 ⟨o + r, by omega⟩ n : S520x256.Idx) := by
    refine funext (Fin.forall_fin_two.2 ⟨Fin.ext ?_, Fin.ext ?_⟩)
    · show o + 1 * (r : ℕ) = o + r; omega
    · show 0 + 1 * (n : ℕ) = n; omega
  show v.read (Elt Ideal) _ ((Rect.unit (s := S520x256) ![o, 0] S512x256.size inb).toLoadRect.idx (ix2 r n)) = _
  rw [ei]
  unfold MixRow.tap
  by_cases h : 8 ≤ o + (r : ℕ)
  · rw [View.read_writes_cons_rows_of_mem v f inb_S520x256_S512x256_8_0 w L (ix2 ⟨o + r, by omega⟩ n) (ix2 ⟨o + r - 8, by omega⟩ n) rfl (by show o + (r : ℕ) = 8 + (o + r - 8); omega) rfl,
      hw, if_pos (by omega)]
    exact congrArg (s n) (by show T + (o + (r : ℕ) - 8) = _; omega)
  · rw [View.read_writes_cons_rows_of_not_mem v f inb_S520x256_S512x256_8_0 w L (ix2 ⟨o + r, by omega⟩ n) rfl rfl (Or.inl (by show o + (r : ℕ) < 8; omega)),
      hL _ _ (by show o + (r : ℕ) < 8; omega)]
    refine if_congr ?_ (congrArg (s n) ?_) rfl
    · show 8 - (o + (r : ℕ)) ≤ T ↔ _; omega
    · show T - (8 - (o + (r : ℕ))) = _; omega

/-- The rows kept: the block's last eight, then stored over the first eight. -/
theorem tail_next {κ : Kind} {sp : Space} (v : View sig κ sp S520x256 .f32) (f : v.ty.Contents (Elt Ideal)) (L : List (View.Piece (Elt Ideal) S520x256 .f32))
    (w : FVec Ideal S8x256 .f32) (s : Fin 256 → ℕ → EReal) (T : ℕ) (hw : ∀ (r : Fin 8) n, w (ix2 r n) = s n (T + 504 + r)) :
    Tail s (T + 512) (v.read (Elt Ideal) (v.writes (Elt Ideal) f (⟨Rect.unit ![0, 0] S8x256.size inb_S520x256_S8x256_0_0, w⟩ :: L))) := by
  intro q n hq
  rw [View.read_writes_cons_rows_of_mem v f inb_S520x256_S8x256_0_0 w L (ix2 q n) (ix2 ⟨q, hq⟩ n) rfl (Nat.zero_add _).symm rfl, hw, if_pos (by omega)]
  exact congrArg (s n) (by show T + 504 + (q : ℕ) = _; omega)

/-- Before the first time the rows kept are zero. -/
theorem tail_zero {κ : Kind} {sp : Space} (v : View sig κ sp S520x256 .f32) (f : v.ty.Contents (Elt Ideal)) (w : FVec Ideal S8x256 .f32) (s : Fin 256 → ℕ → EReal)
    (hw : ∀ (r : Fin 8) n, w (ix2 r n) = 0) :
    Tail s 0 (v.read (Elt Ideal) (v.writes (Elt Ideal) f [⟨Rect.unit ![0, 0] S8x256.size inb_S520x256_S8x256_0_0, w⟩])) := by
  intro q n hq
  rw [View.read_writes_cons_rows_of_mem v f inb_S520x256_S8x256_0_0 w [] (ix2 q n) (ix2 ⟨q, hq⟩ n) rfl (Nat.zero_add _).symm rfl, hw, if_neg (by omega)]

/-- Kept rows start at zero. -/
theorem pay2_apply (r : Fin 8) (n : Fin 256) : (k0_pay2 : FVec Ideal S8x256 .f32) (ix2 r n) = 0 := by
  unfold k0_pay2
  pointwise

/-- Kept rows start at zero. -/
theorem pay3_apply (r : Fin 8) (n : Fin 256) : (k0_pay3 : FVec Ideal S8x256 .f32) (ix2 r n) = 0 := by
  unfold k0_pay3
  pointwise

/-- Kept rows start at zero. -/
theorem pay4_apply (r : Fin 8) (n : Fin 256) : (k0_pay4 : FVec Ideal S8x256 .f32) (ix2 r n) = 0 := by
  unfold k0_pay4
  pointwise

/-- The state before the first time is zero. -/
theorem zero_row {κ : Kind} {sp : Space} (v : View sig κ sp S8x256 .f32) (n : Fin 256) :
    View.readCov (Val := Elt Ideal) v [⟨Rect.unit ![0, 0] S8x256.size inb_S8x256_S8x256_0_0, (k0_pay4 : FVec Ideal S8x256 .f32)⟩] (Rect.unit (s := S8x256) ![0, 0] S1x256.size inb_S8x256_S1x256_0_0).toLoadRect (ix2 0 n) = 0 := by
  have ei : (Rect.unit (s := S8x256) ![0, 0] S1x256.size inb_S8x256_S1x256_0_0).toLoadRect.idx (ix2 0 n) = (ix2 0 n : S8x256.Idx) := by
    refine funext (Fin.forall_fin_two.2 ⟨Fin.ext rfl, Fin.ext ?_⟩)
    show 0 + 1 * (n : ℕ) = n; omega
  show v.read (Elt Ideal) _ ((Rect.unit (s := S8x256) ![0, 0] S1x256.size inb_S8x256_S1x256_0_0).toLoadRect.idx (ix2 0 n)) = _
  rw [ei, View.read_writes_cons_rows_of_mem v _ inb_S8x256_S8x256_0_0 _ [] (ix2 0 n) (ix2 0 n) rfl rfl rfl]
  exact pay4_apply 0 n

/-- The block of states of the values read. -/
def stBlk (z : FVec Ideal S512x1280 .f32) (cb c3 c0 c1 c2 lam st : Vec Ideal S1x256 .f32) (h5 h6 h7 : Vec Ideal S512x256 .f32)
    (wg : Vec Ideal S256x512 .bf16) (bg : Vec Ideal S1x512 .f32) : FVec Ideal S512x256 .f32 :=
  k0_pay151 (k0_pay140 k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay141 k0_pay127 (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay142 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay143 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay144 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay145 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay146 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay147 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay148 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay149 k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay150 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138)

/-- Its last row, kept. -/
def stLast (z : FVec Ideal S512x1280 .f32) (cb c3 c0 c1 c2 lam st : Vec Ideal S1x256 .f32) (h5 h6 h7 : Vec Ideal S512x256 .f32)
    (wg : Vec Ideal S256x512 .bf16) (bg : Vec Ideal S1x512 .f32) : FVec Ideal S8x256 .f32 :=
  k0_pay152 (k0_pay140 k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay141 k0_pay127 (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay142 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay143 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay144 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay145 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay146 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay147 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay148 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay149 k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138) (k0_pay150 st k0_pay127 (k0_pay136 (k0_pay125 (k0_pay121 (k0_pay113 z) cb c3 c0 h5 c1 h6 c2 h7 wg) (k0_pay122 bg) lam) (k0_pay126 (k0_pay119 (k0_pay113 z) cb c3 c0 h5 c1 h6 c2 h7) (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) (k0_pay137 (k0_pay125 (k0_pay121 (k0_pay113 z) cb c3 c0 h5 c1 h6 c2 h7 wg) (k0_pay122 bg) lam) k0_pay127 k0_pay128 (k0_pay129 (k0_pay121 (k0_pay113 z) cb c3 c0 h5 c1 h6 c2 h7 wg) (k0_pay122 bg) lam) (FloatOps.ofBits (F := Ideal) FTy.f32 1065353216#32)) k0_pay138)

variable {W : MixRow.Wts} {X : ℕ → Fin 1024 → EReal} {T : ℕ} {z : FVec Ideal S512x1280 .f32}
  {cb c3 c0 c1 c2 lam st s2 s0 s1 n0 n1 : Vec Ideal S1x256 .f32} {h5 h6 h7 g6 g7 : Vec Ideal S512x256 .f32}
  {wg : Vec Ideal S256x512 .bf16} {bg : Vec Ideal S1x512 .f32}

/-- The states of a block. -/
theorem stBlk_apply (R : Reads W X T z cb c3 c0 c1 c2 lam st s2 s0 s1 n0 n1 h5 h6 h7 g6 g7 wg bg) (r : Fin 512) (n : Fin 256) :
    stBlk z cb c3 c0 c1 c2 lam st h5 h6 h7 wg bg (ix2 r n) = MixRow.hid (MixRow.fac W X n) (MixRow.inp W X n) (T + r + 1) :=
  state_blk R _ _ (fac_blk R) (inp_blk R) r n

/-- The state after a block. -/
theorem stLast_apply (R : Reads W X T z cb c3 c0 c1 c2 lam st s2 s0 s1 n0 n1 h5 h6 h7 g6 g7 wg bg) (r : Fin 8) (n : Fin 256) :
    stLast z cb c3 c0 c1 c2 lam st h5 h6 h7 wg bg (ix2 r n) = MixRow.hid (MixRow.fac W X n) (MixRow.inp W X n) (T + 512) :=
  (pay152_apply _ _ _ _ _ _ _ _ _ _ _ r n).trans (stBlk_apply R 511 n)

/-- The two halves of the output, stored side by side. -/
theorem out_of (R : Reads W X T z cb c3 c0 c1 c2 lam st s2 s0 s1 n0 n1 h5 h6 h7 g6 g7 wg bg) {κ : Kind} {sp : Space} (v : View sig κ sp S1x512x512 .bf16) (f : v.ty.Contents (Elt Ideal)) (r : Fin 512) (n : Fin 512) :
    v.read (Elt Ideal) (v.writes (Elt Ideal) f [⟨Rect.unit ![0, 0, 256] ![1, 512, 256] inb_S1x512x512_S1x512x256_0_0_256,
        k0_pay1 (k0_pay161 (k0_pay158 (k0_pay115 z) (k0_pay116 z) (k0_pay117 z) s2 s0 g6 s1 g7)) n1⟩,
      ⟨Rect.unit ![0, 0, 0] S1x512x256.size inb_S1x512x512_S1x512x256_0_0_0,
        k0_pay160 (k0_pay154 (k0_pay114 z) (stBlk z cb c3 c0 c1 c2 lam st h5 h6 h7 wg bg) (k0_pay153 (k0_pay114 z)))
          (k0_pay159 (k0_pay114 z) (stBlk z cb c3 c0 c1 c2 lam st h5 h6 h7 wg bg) (k0_pay153 (k0_pay114 z))) (Scalar.ofBits (F := Ideal) .f32 0x43800000#32) n0⟩]) (ix3 0 r n)
      = MixRow.out W X (T + r) n := by
  by_cases h : (n : ℕ) < 256
  · rw [View.read_writes_cons_unit_of_not_mem v f inb_S1x512x512_S1x512x256_0_0_256 _ _ (ix3 0 r n) rfl (2 : Fin 3) (Or.inl h),
      View.read_writes_cons_unit_of_mem v f inb_S1x512x512_S1x512x256_0_0_0 _ _ (ix3 0 r n) (ix3 0 r ⟨n, h⟩) rfl
        (by intro a; fin_cases a; · rfl
            · exact (Nat.zero_add _).symm
            · exact (Nat.zero_add _).symm)]
    exact out0_blk R _ (stBlk_apply R) r ⟨n, h⟩
  · rw [View.read_writes_cons_unit_of_mem v f inb_S1x512x512_S1x512x256_0_0_256 _ _ (ix3 0 r n) (ix3 0 r ⟨n - 256, by omega⟩) rfl
        (by intro a; fin_cases a; · rfl
            · exact (Nat.zero_add _).symm
            · show (n : ℕ) = 256 + (n - 256); omega)]
    rw [out1_blk R]
    exact congrArg _ (Fin.ext (by show 256 + ((n : ℕ) - 256) = n; omega))

/-- The first point of a sequence: the output rows and the rows kept. -/
theorem point_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S3x256 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x512x512 .bf16) (harg19 : arg19.IsWhole) (arg20 : Memref sig .tc .vmem S1x4x512x128 .bf16) (harg20 : arg20.IsWhole) (arg21 : Memref sig .tc .vmem S1x4x512x128 .bf16) (harg21 : arg21.IsWhole) (arg22 : Memref sig .tc .vmem S1x4x512x128 .bf16) (harg22 : arg22.IsWhole) (arg23 : Memref sig .tc .vmem S1x4x512x128 .bf16) (harg23 : arg23.IsWhole) (arg24 : Memref sig .tc .vmem S1x512x128 .bf16) (harg24 : arg24.IsWhole) (arg25 : Memref sig .tc .vmem S1x512x128 .bf16) (harg25 : arg25.IsWhole) (arg26 : Memref sig .tc .vmem S1x512x128 .bf16) (harg26 : arg26.IsWhole) (arg27 : Memref sig .tc .vmem S1x512x128 .bf16) (harg27 : arg27.IsWhole) (arg28 : Memref sig .tc .vmem S1x512x128 .f32) (harg28 : arg28.IsWhole) (arg29 : Memref sig .tc .vmem S1x32x2048 .f32) (harg29 : arg29.IsWhole) (arg30 : Memref sig .tc .vmem S520x256 .f32) (harg30 : arg30.IsWhole) (arg31 : Memref sig .tc .vmem S520x256 .f32) (harg31 : arg31.IsWhole) (arg32 : Memref sig .tc .vmem S8x256 .f32) (harg32 : arg32.IsWhole) (arg33 : Memref sig .tc .vmem S8x128 .f32) (harg33 : arg33.IsWhole) (arg34 : Memref sig .tc .vmem S512x128 .f32) (harg34 : arg34.IsWhole) (hc0 : cond0_0 i)
    (x0 : Vec Ideal S1x512x1024 .f32) (x1 : Vec Ideal S1x1024 .f32) (x2 : Vec Ideal S1024x3072 .bf16) (x3 : Vec Ideal S4x256 .f32) (x4 : Vec Ideal S1x256 .f32) (x5 : Vec Ideal S256x512 .bf16) (x6 : Vec Ideal S1x512 .f32) (x7 : Vec Ideal S1x256 .f32) (x8 : Vec Ideal S3x256 .f32) (x9 : Vec Ideal S1x512 .f32) (x10 : Vec Ideal S1x128 .f32) (x11 : Vec Ideal S1x128 .f32) (x12 : Vec Ideal S1x128 .f32) (x13 : Vec Ideal S1x128 .f32) (x14 : Vec Ideal S1x128 .f32) (x15 : Vec Ideal S1x128 .f32) (x16 : Vec Ideal S1x128 .f32)
    (P : Params W x1 x2 x3 x4 x5 x6 x7 x8 x9) (hx : ∀ r k, x0 (ix3 0 r k) = X (0 + r) k) :
    (∀ r n, (out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16) (ix3 0 r n) = MixRow.out W X (0 + r) n)
    ∧ Tail (MixRow.part W X 0) (0 + 512) (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16)
    ∧ Tail (MixRow.short W X) (0 + 512) (sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16)
    ∧ (∀ n, (sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16) (ix2 0 n) = MixRow.hid (MixRow.fac W X n) (MixRow.inp W X n) (0 + 512)) := by
  have hz : ∀ (r : Fin 512) (j : Fin 1280), (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2))) (ix2 r j) = MixRow.zrow W (X (0 + r)) j := by
    intro r j
    rw [pay7_apply]
    unfold MixRow.zrow
    refine Finset.sum_congr rfl fun k _ => ?_
    congr 1
    · congr 1
      · funext k; exact (rd3 harg2 x0 _ _ (ix3 0 r k) (by intro a; fin_cases a; · rfl
                                                          · exact (Nat.zero_add _).symm
                                                          · exact (Nat.zero_add _).symm)).trans (hx r k)
      · funext k; exact (rd2 harg3 x1 _ _ (ix2 0 k) rfl (Nat.zero_add _).symm).trans (P.g k)
    · exact (rd2 harg4 x2 _ _ (ix2 k ⟨j, by omega⟩) (Nat.zero_add _).symm (Nat.zero_add _).symm).trans (P.w k j)
  have hw0 : ∀ (r : Fin 512) (n : Fin 256), k0_pay118 (k0_pay113 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))) (ix2 r n) = MixRow.part W X 0 n (0 + r) := by
    intro r n
    rw [pay118_apply, pay113_apply, hz]
    exact congrArg (MixRow.zrow W _) (Fin.ext (by show (n : ℕ) = 256 * 0 + n; omega))
  have hw1 : ∀ (r : Fin 512) (n : Fin 256), k0_pay156 (k0_pay116 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))) (k0_pay117 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))) (ix2 r n) = MixRow.short W X n (0 + r) := by
    intro r n
    rw [pay156_apply, pay116_apply, pay117_apply, hz, hz]
    rfl
  have R : Reads W X 0 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))
      (View.readAt (Elt Ideal) arg6.view (Rect.unit (s := S1x256) ![0, 0] S1x256.size inb_S1x256_S1x256_0_0).toLoadRect (harg6.unread x4))
      (View.readAt (Elt Ideal) arg5.view (Rect.unit (s := S4x256) ![3, 0] S1x256.size inb_S4x256_S1x256_3_0).toLoadRect (harg5.unread x3))
      (View.readAt (Elt Ideal) arg5.view (Rect.unit (s := S4x256) ![0, 0] S1x256.size inb_S4x256_S1x256_0_0).toLoadRect (harg5.unread x3))
      (View.readAt (Elt Ideal) arg5.view (Rect.unit (s := S4x256) ![1, 0] S1x256.size inb_S4x256_S1x256_1_0).toLoadRect (harg5.unread x3))
      (View.readAt (Elt Ideal) arg5.view (Rect.unit (s := S4x256) ![2, 0] S1x256.size inb_S4x256_S1x256_2_0).toLoadRect (harg5.unread x3))
      (View.readAt (Elt Ideal) arg9.view (Rect.unit (s := S1x256) ![0, 0] S1x256.size inb_S1x256_S1x256_0_0).toLoadRect (harg9.unread x7))
      (arg32.view.readCov [⟨Rect.unit ![0, 0] S8x256.size inb_S8x256_S8x256_0_0, (k0_pay4 (F := Ideal))⟩] (Rect.unit (s := S8x256) ![0, 0] S1x256.size inb_S8x256_S1x256_0_0).toLoadRect)
      (View.readAt (Elt Ideal) arg10.view (Rect.unit (s := S3x256) ![2, 0] S1x256.size inb_S3x256_S1x256_2_0).toLoadRect (harg10.unread x8))
      (View.readAt (Elt Ideal) arg10.view (Rect.unit (s := S3x256) ![0, 0] S1x256.size inb_S3x256_S1x256_0_0).toLoadRect (harg10.unread x8))
      (View.readAt (Elt Ideal) arg10.view (Rect.unit (s := S3x256) ![1, 0] S1x256.size inb_S3x256_S1x256_1_0).toLoadRect (harg10.unread x8))
      (View.readAt (Elt Ideal) arg11.view (Rect.unit (s := S1x512) ![0, 0] ![1, 256] inb_S1x512_S1x256_0_0).toLoadRect (harg11.unread x9))
      (View.readAt (Elt Ideal) arg11.view (Rect.unit (s := S1x512) ![0, 256] ![1, 256] inb_S1x512_S1x256_0_256).toLoadRect (harg11.unread x9))
      (arg30.view.readCov [⟨Rect.unit ![8, 0] S512x256.size inb_S520x256_S512x256_8_0, (k0_pay118 (k0_pay113 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))))⟩, ⟨Rect.unit ![0, 0] S8x256.size inb_S520x256_S8x256_0_0, (k0_pay2 (F := Ideal))⟩] (Rect.unit (s := S520x256) ![5, 0] S512x256.size inb_S520x256_S512x256_5_0).toLoadRect)
      (arg30.view.readCov [⟨Rect.unit ![8, 0] S512x256.size inb_S520x256_S512x256_8_0, (k0_pay118 (k0_pay113 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))))⟩, ⟨Rect.unit ![0, 0] S8x256.size inb_S520x256_S8x256_0_0, (k0_pay2 (F := Ideal))⟩] (Rect.unit (s := S520x256) ![6, 0] S512x256.size inb_S520x256_S512x256_6_0).toLoadRect)
      (arg30.view.readCov [⟨Rect.unit ![8, 0] S512x256.size inb_S520x256_S512x256_8_0, (k0_pay118 (k0_pay113 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))))⟩, ⟨Rect.unit ![0, 0] S8x256.size inb_S520x256_S8x256_0_0, (k0_pay2 (F := Ideal))⟩] (Rect.unit (s := S520x256) ![7, 0] S512x256.size inb_S520x256_S512x256_7_0).toLoadRect)
      (arg31.view.readCov [⟨Rect.unit ![8, 0] S512x256.size inb_S520x256_S512x256_8_0, (k0_pay156 (k0_pay116 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))) (k0_pay117 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))))⟩, ⟨Rect.unit ![0, 0] S8x256.size inb_S520x256_S8x256_0_0, (k0_pay3 (F := Ideal))⟩] (Rect.unit (s := S520x256) ![6, 0] S512x256.size inb_S520x256_S512x256_6_0).toLoadRect)
      (arg31.view.readCov [⟨Rect.unit ![8, 0] S512x256.size inb_S520x256_S512x256_8_0, (k0_pay156 (k0_pay116 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))) (k0_pay117 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))))⟩, ⟨Rect.unit ![0, 0] S8x256.size inb_S520x256_S8x256_0_0, (k0_pay3 (F := Ideal))⟩] (Rect.unit (s := S520x256) ![7, 0] S512x256.size inb_S520x256_S512x256_7_0).toLoadRect)
      (View.readAt (Elt Ideal) arg7.view (Rect.unit (s := S256x512) ![0, 0] S256x512.size inb_S256x512_S256x512_0_0).toLoadRect (harg7.unread x5))
      (View.readAt (Elt Ideal) arg8.view (Rect.unit (s := S1x512) ![0, 0] S1x512.size inb_S1x512_S1x512_0_0).toLoadRect (harg8.unread x6)) := by
    refine ⟨hz, ?_, ?_, ?_, ?_, ?_, ?_, ?_, ?_, ?_, ?_, ?_, ?_, ?_, ?_, ?_, ?_, ?_, ?_, ?_⟩
    · exact fun n => (rd2 harg6 x4 _ _ (ix2 0 n) rfl (Nat.zero_add _).symm).trans (P.cb n)
    · exact fun n => (rd2 harg5 x3 _ _ (ix2 3 n) rfl (Nat.zero_add _).symm).trans (P.cw 3 n)
    · exact fun n => (rd2 harg5 x3 _ _ (ix2 0 n) rfl (Nat.zero_add _).symm).trans (P.cw 0 n)
    · exact fun n => (rd2 harg5 x3 _ _ (ix2 1 n) rfl (Nat.zero_add _).symm).trans (P.cw 1 n)
    · exact fun n => (rd2 harg5 x3 _ _ (ix2 2 n) rfl (Nat.zero_add _).symm).trans (P.cw 2 n)
    · exact fun n => (rd2 harg9 x7 _ _ (ix2 0 n) rfl (Nat.zero_add _).symm).trans (P.lam n)
    · exact fun n => zero_row arg32.view n
    · exact fun n => (rd2 harg10 x8 _ _ (ix2 2 n) rfl (Nat.zero_add _).symm).trans (P.scw 2 n)
    · exact fun n => (rd2 harg10 x8 _ _ (ix2 0 n) rfl (Nat.zero_add _).symm).trans (P.scw 0 n)
    · exact fun n => (rd2 harg10 x8 _ _ (ix2 1 n) rfl (Nat.zero_add _).symm).trans (P.scw 1 n)
    · exact fun n => (rd2 harg11 x9 _ _ (ix2 0 ⟨n, by omega⟩) rfl (Nat.zero_add _).symm).trans ((congrArg (fun q => x9 (ix2 0 q)) (Fin.ext (by show (n : ℕ) = 256 * 0 + n; omega))).trans (P.on 0 n))
    · exact fun n => (rd2 harg11 x9 _ _ (ix2 0 ⟨256 + n, by omega⟩) rfl rfl).trans (P.on 1 n)
    · exact load_rows arg30.view _ _ _ (MixRow.part W X 0) 0 5 (by omega) _ hw0 (tail_zero arg30.view _ _ (MixRow.part W X 0) pay2_apply)
    · exact load_rows arg30.view _ _ _ (MixRow.part W X 0) 0 6 (by omega) _ hw0 (tail_zero arg30.view _ _ (MixRow.part W X 0) pay2_apply)
    · exact load_rows arg30.view _ _ _ (MixRow.part W X 0) 0 7 (by omega) _ hw0 (tail_zero arg30.view _ _ (MixRow.part W X 0) pay2_apply)
    · exact load_rows arg31.view _ _ _ (MixRow.short W X) 0 6 (by omega) _ hw1 (tail_zero arg31.view _ _ (MixRow.short W X) pay3_apply)
    · exact load_rows arg31.view _ _ _ (MixRow.short W X) 0 7 (by omega) _ hw1 (tail_zero arg31.view _ _ (MixRow.short W X) pay3_apply)
    · exact fun j k n => (rd2 harg7 x5 _ _ (ix2 k ⟨256 * j + n, by omega⟩) (Nat.zero_add _).symm (Nat.zero_add _).symm).trans (P.wg j k n)
    · exact fun j n => (rd2 harg8 x6 _ _ (ix2 0 ⟨256 * j + n, by omega⟩) rfl (Nat.zero_add _).symm).trans (P.bg j n)
  refine ⟨?_, ?_, ?_, ?_⟩
  · intro r n
    frame_open
    exact out_of R _ _ r n
  · frame_open
    exact tail_next _ _ _ _ (MixRow.part W X 0) _ (keep0 R)
  · frame_open
    exact tail_next _ _ _ _ (MixRow.short W X) _ (keep1 R)
  · intro n
    frame_open
    exact (View.read_writes_cons_rows_of_mem _ _ inb_S8x256_S8x256_0_0 _ _ (ix2 0 n) (ix2 0 n) rfl rfl rfl).trans (stLast_apply R 0 n)

/-- A point that is not the first of its sequence: from the rows kept at `T`, the output rows from `T` on and the rows kept at `T + 512`. -/
theorem point_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S4x256 .f32) (harg5 : arg5.IsWhole) (arg6 : Memref sig .tc .vmem S1x256 .f32) (harg6 : arg6.IsWhole) (arg7 : Memref sig .tc .vmem S256x512 .bf16) (harg7 : arg7.IsWhole) (arg8 : Memref sig .tc .vmem S1x512 .f32) (harg8 : arg8.IsWhole) (arg9 : Memref sig .tc .vmem S1x256 .f32) (harg9 : arg9.IsWhole) (arg10 : Memref sig .tc .vmem S3x256 .f32) (harg10 : arg10.IsWhole) (arg11 : Memref sig .tc .vmem S1x512 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x512x512 .bf16) (harg19 : arg19.IsWhole) (arg20 : Memref sig .tc .vmem S1x4x512x128 .bf16) (harg20 : arg20.IsWhole) (arg21 : Memref sig .tc .vmem S1x4x512x128 .bf16) (harg21 : arg21.IsWhole) (arg22 : Memref sig .tc .vmem S1x4x512x128 .bf16) (harg22 : arg22.IsWhole) (arg23 : Memref sig .tc .vmem S1x4x512x128 .bf16) (harg23 : arg23.IsWhole) (arg24 : Memref sig .tc .vmem S1x512x128 .bf16) (harg24 : arg24.IsWhole) (arg25 : Memref sig .tc .vmem S1x512x128 .bf16) (harg25 : arg25.IsWhole) (arg26 : Memref sig .tc .vmem S1x512x128 .bf16) (harg26 : arg26.IsWhole) (arg27 : Memref sig .tc .vmem S1x512x128 .bf16) (harg27 : arg27.IsWhole) (arg28 : Memref sig .tc .vmem S1x512x128 .f32) (harg28 : arg28.IsWhole) (arg29 : Memref sig .tc .vmem S1x32x2048 .f32) (harg29 : arg29.IsWhole) (arg30 : Memref sig .tc .vmem S520x256 .f32) (harg30 : arg30.IsWhole) (arg31 : Memref sig .tc .vmem S520x256 .f32) (harg31 : arg31.IsWhole) (arg32 : Memref sig .tc .vmem S8x256 .f32) (harg32 : arg32.IsWhole) (arg33 : Memref sig .tc .vmem S8x128 .f32) (harg33 : arg33.IsWhole) (arg34 : Memref sig .tc .vmem S512x128 .f32) (harg34 : arg34.IsWhole) (hc0 : ¬cond0_0 i)
    (x0 : Vec Ideal S1x512x1024 .f32) (x1 : Vec Ideal S1x1024 .f32) (x2 : Vec Ideal S1024x3072 .bf16) (x3 : Vec Ideal S4x256 .f32) (x4 : Vec Ideal S1x256 .f32) (x5 : Vec Ideal S256x512 .bf16) (x6 : Vec Ideal S1x512 .f32) (x7 : Vec Ideal S1x256 .f32) (x8 : Vec Ideal S3x256 .f32) (x9 : Vec Ideal S1x512 .f32) (x10 : Vec Ideal S1x128 .f32) (x11 : Vec Ideal S1x128 .f32) (x12 : Vec Ideal S1x128 .f32) (x13 : Vec Ideal S1x128 .f32) (x14 : Vec Ideal S1x128 .f32) (x15 : Vec Ideal S1x128 .f32) (x16 : Vec Ideal S1x128 .f32) (xs0 : Vec Ideal S520x256 .f32) (xs1 : Vec Ideal S520x256 .f32) (xs2 : Vec Ideal S8x256 .f32) (xs3 : Vec Ideal S8x128 .f32)
    (P : Params W x1 x2 x3 x4 x5 x6 x7 x8 x9) (hx : ∀ r k, x0 (ix3 0 r k) = X (T + r) k)
    (t0 : Tail (MixRow.part W X 0) T xs0) (t1 : Tail (MixRow.short W X) T xs1) (t2 : ∀ n, xs2 (ix2 0 n) = MixRow.hid (MixRow.fac W X n) (MixRow.inp W X n) T) :
    (∀ r n, (out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 xs0 xs1 xs2 xs3) (ix3 0 r n) = MixRow.out W X (T + r) n)
    ∧ Tail (MixRow.part W X 0) (T + 512) (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 xs0 xs1 xs2 xs3)
    ∧ Tail (MixRow.short W X) (T + 512) (sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 xs0 xs1 xs2 xs3)
    ∧ (∀ n, (sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 hc0 x0 x1 x2 x3 x4 x5 x6 x7 x8 x9 x10 x11 x12 x13 x14 x15 x16 xs0 xs1 xs2 xs3) (ix2 0 n) = MixRow.hid (MixRow.fac W X n) (MixRow.inp W X n) (T + 512)) := by
  have tB0 : Tail (MixRow.part W X 0) T (arg30.view.read (Elt Ideal) (arg30.view.writes (Elt Ideal) (harg30.unread xs0) [])) := by
    rw [View.writes_nil, harg30.read_unread]; exact t0
  have tB1 : Tail (MixRow.short W X) T (arg31.view.read (Elt Ideal) (arg31.view.writes (Elt Ideal) (harg31.unread xs1) [])) := by
    rw [View.writes_nil, harg31.read_unread]; exact t1
  have hz : ∀ (r : Fin 512) (j : Fin 1280), (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2))) (ix2 r j) = MixRow.zrow W (X (T + r)) j := by
    intro r j
    rw [pay7_apply]
    unfold MixRow.zrow
    refine Finset.sum_congr rfl fun k _ => ?_
    congr 1
    · congr 1
      · funext k; exact (rd3 harg2 x0 _ _ (ix3 0 r k) (by intro a; fin_cases a; · rfl
                                                          · exact (Nat.zero_add _).symm
                                                          · exact (Nat.zero_add _).symm)).trans (hx r k)
      · funext k; exact (rd2 harg3 x1 _ _ (ix2 0 k) rfl (Nat.zero_add _).symm).trans (P.g k)
    · exact (rd2 harg4 x2 _ _ (ix2 k ⟨j, by omega⟩) (Nat.zero_add _).symm (Nat.zero_add _).symm).trans (P.w k j)
  have hw0 : ∀ (r : Fin 512) (n : Fin 256), k0_pay118 (k0_pay113 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))) (ix2 r n) = MixRow.part W X 0 n (T + r) := by
    intro r n
    rw [pay118_apply, pay113_apply, hz]
    exact congrArg (MixRow.zrow W _) (Fin.ext (by show (n : ℕ) = 256 * 0 + n; omega))
  have hw1 : ∀ (r : Fin 512) (n : Fin 256), k0_pay156 (k0_pay116 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))) (k0_pay117 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))) (ix2 r n) = MixRow.short W X n (T + r) := by
    intro r n
    rw [pay156_apply, pay116_apply, pay117_apply, hz, hz]
    rfl
  have R : Reads W X T (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))
      (View.readAt (Elt Ideal) arg6.view (Rect.unit (s := S1x256) ![0, 0] S1x256.size inb_S1x256_S1x256_0_0).toLoadRect (harg6.unread x4))
      (View.readAt (Elt Ideal) arg5.view (Rect.unit (s := S4x256) ![3, 0] S1x256.size inb_S4x256_S1x256_3_0).toLoadRect (harg5.unread x3))
      (View.readAt (Elt Ideal) arg5.view (Rect.unit (s := S4x256) ![0, 0] S1x256.size inb_S4x256_S1x256_0_0).toLoadRect (harg5.unread x3))
      (View.readAt (Elt Ideal) arg5.view (Rect.unit (s := S4x256) ![1, 0] S1x256.size inb_S4x256_S1x256_1_0).toLoadRect (harg5.unread x3))
      (View.readAt (Elt Ideal) arg5.view (Rect.unit (s := S4x256) ![2, 0] S1x256.size inb_S4x256_S1x256_2_0).toLoadRect (harg5.unread x3))
      (View.readAt (Elt Ideal) arg9.view (Rect.unit (s := S1x256) ![0, 0] S1x256.size inb_S1x256_S1x256_0_0).toLoadRect (harg9.unread x7))
      (View.readAt (Elt Ideal) arg32.view (Rect.unit (s := S8x256) ![0, 0] S1x256.size inb_S8x256_S1x256_0_0).toLoadRect (harg32.unread xs2))
      (View.readAt (Elt Ideal) arg10.view (Rect.unit (s := S3x256) ![2, 0] S1x256.size inb_S3x256_S1x256_2_0).toLoadRect (harg10.unread x8))
      (View.readAt (Elt Ideal) arg10.view (Rect.unit (s := S3x256) ![0, 0] S1x256.size inb_S3x256_S1x256_0_0).toLoadRect (harg10.unread x8))
      (View.readAt (Elt Ideal) arg10.view (Rect.unit (s := S3x256) ![1, 0] S1x256.size inb_S3x256_S1x256_1_0).toLoadRect (harg10.unread x8))
      (View.readAt (Elt Ideal) arg11.view (Rect.unit (s := S1x512) ![0, 0] ![1, 256] inb_S1x512_S1x256_0_0).toLoadRect (harg11.unread x9))
      (View.readAt (Elt Ideal) arg11.view (Rect.unit (s := S1x512) ![0, 256] ![1, 256] inb_S1x512_S1x256_0_256).toLoadRect (harg11.unread x9))
      (View.readAt (Elt Ideal) arg30.view (Rect.unit (s := S520x256) ![5, 0] S512x256.size inb_S520x256_S512x256_5_0).toLoadRect (arg30.view.writes (Elt Ideal) (harg30.unread xs0) [⟨Rect.unit ![8, 0] S512x256.size inb_S520x256_S512x256_8_0, (k0_pay118 (k0_pay113 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))))⟩]))
      (View.readAt (Elt Ideal) arg30.view (Rect.unit (s := S520x256) ![6, 0] S512x256.size inb_S520x256_S512x256_6_0).toLoadRect (arg30.view.writes (Elt Ideal) (harg30.unread xs0) [⟨Rect.unit ![8, 0] S512x256.size inb_S520x256_S512x256_8_0, (k0_pay118 (k0_pay113 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))))⟩]))
      (View.readAt (Elt Ideal) arg30.view (Rect.unit (s := S520x256) ![7, 0] S512x256.size inb_S520x256_S512x256_7_0).toLoadRect (arg30.view.writes (Elt Ideal) (harg30.unread xs0) [⟨Rect.unit ![8, 0] S512x256.size inb_S520x256_S512x256_8_0, (k0_pay118 (k0_pay113 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))))⟩]))
      (View.readAt (Elt Ideal) arg31.view (Rect.unit (s := S520x256) ![6, 0] S512x256.size inb_S520x256_S512x256_6_0).toLoadRect (arg31.view.writes (Elt Ideal) (harg31.unread xs1) [⟨Rect.unit ![8, 0] S512x256.size inb_S520x256_S512x256_8_0, (k0_pay156 (k0_pay116 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))) (k0_pay117 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))))⟩]))
      (View.readAt (Elt Ideal) arg31.view (Rect.unit (s := S520x256) ![7, 0] S512x256.size inb_S520x256_S512x256_7_0).toLoadRect (arg31.view.writes (Elt Ideal) (harg31.unread xs1) [⟨Rect.unit ![8, 0] S512x256.size inb_S520x256_S512x256_8_0, (k0_pay156 (k0_pay116 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))) (k0_pay117 (k0_pay7 (View.readAt (Elt Ideal) arg2.view (Rect.unit (s := S1x512x1024) ![0, 0, 0] S1x512x1024.size inb_S1x512x1024_S1x512x1024_0_0_0).toLoadRect (harg2.unread x0)) (View.readAt (Elt Ideal) arg3.view (Rect.unit (s := S1x1024) ![0, 0] S1x1024.size inb_S1x1024_S1x1024_0_0).toLoadRect (harg3.unread x1)) (View.readAt (Elt Ideal) arg4.view (Rect.unit (s := S1024x3072) ![0, 0] S1024x1280.size inb_S1024x3072_S1024x1280_0_0).toLoadRect (harg4.unread x2)))))⟩]))
      (View.readAt (Elt Ideal) arg7.view (Rect.unit (s := S256x512) ![0, 0] S256x512.size inb_S256x512_S256x512_0_0).toLoadRect (harg7.unread x5))
      (View.readAt (Elt Ideal) arg8.view (Rect.unit (s := S1x512) ![0, 0] S1x512.size inb_S1x512_S1x512_0_0).toLoadRect (harg8.unread x6)) := by
    refine ⟨hz, ?_, ?_, ?_, ?_, ?_, ?_, ?_, ?_, ?_, ?_, ?_, ?_, ?_, ?_, ?_, ?_, ?_, ?_, ?_⟩
    · exact fun n => (rd2 harg6 x4 _ _ (ix2 0 n) rfl (Nat.zero_add _).symm).trans (P.cb n)
    · exact fun n => (rd2 harg5 x3 _ _ (ix2 3 n) rfl (Nat.zero_add _).symm).trans (P.cw 3 n)
    · exact fun n => (rd2 harg5 x3 _ _ (ix2 0 n) rfl (Nat.zero_add _).symm).trans (P.cw 0 n)
    · exact fun n => (rd2 harg5 x3 _ _ (ix2 1 n) rfl (Nat.zero_add _).symm).trans (P.cw 1 n)
    · exact fun n => (rd2 harg5 x3 _ _ (ix2 2 n) rfl (Nat.zero_add _).symm).trans (P.cw 2 n)
    · exact fun n => (rd2 harg9 x7 _ _ (ix2 0 n) rfl (Nat.zero_add _).symm).trans (P.lam n)
    · exact fun n => (rd2 harg32 xs2 _ _ (ix2 0 n) rfl (Nat.zero_add _).symm).trans (t2 n)
    · exact fun n => (rd2 harg10 x8 _ _ (ix2 2 n) rfl (Nat.zero_add _).symm).trans (P.scw 2 n)
    · exact fun n => (rd2 harg10 x8 _ _ (ix2 0 n) rfl (Nat.zero_add _).symm).trans (P.scw 0 n)
    · exact fun n => (rd2 harg10 x8 _ _ (ix2 1 n) rfl (Nat.zero_add _).symm).trans (P.scw 1 n)
    · exact fun n => (rd2 harg11 x9 _ _ (ix2 0 ⟨n, by omega⟩) rfl (Nat.zero_add _).symm).trans ((congrArg (fun q => x9 (ix2 0 q)) (Fin.ext (by show (n : ℕ) = 256 * 0 + n; omega))).trans (P.on 0 n))
    · exact fun n => (rd2 harg11 x9 _ _ (ix2 0 ⟨256 + n, by omega⟩) rfl rfl).trans (P.on 1 n)
    · exact load_rows arg30.view _ _ _ (MixRow.part W X 0) T 5 (by omega) _ hw0 (tB0 : Tail (MixRow.part W X 0) T _)
    · exact load_rows arg30.view _ _ _ (MixRow.part W X 0) T 6 (by omega) _ hw0 (tB0 : Tail (MixRow.part W X 0) T _)
    · exact load_rows arg30.view _ _ _ (MixRow.part W X 0) T 7 (by omega) _ hw0 (tB0 : Tail (MixRow.part W X 0) T _)
    · exact load_rows arg31.view _ _ _ (MixRow.short W X) T 6 (by omega) _ hw1 (tB1 : Tail (MixRow.short W X) T _)
    · exact load_rows arg31.view _ _ _ (MixRow.short W X) T 7 (by omega) _ hw1 (tB1 : Tail (MixRow.short W X) T _)
    · exact fun j k n => (rd2 harg7 x5 _ _ (ix2 k ⟨256 * j + n, by omega⟩) (Nat.zero_add _).symm (Nat.zero_add _).symm).trans (P.wg j k n)
    · exact fun j n => (rd2 harg8 x6 _ _ (ix2 0 ⟨256 * j + n, by omega⟩) rfl (Nat.zero_add _).symm).trans (P.bg j n)
  refine ⟨?_, ?_, ?_, ?_⟩
  · intro r n
    frame_open
    exact out_of R _ _ r n
  · frame_open
    exact tail_next _ _ _ _ (MixRow.part W X 0) _ (keep0 R)
  · frame_open
    exact tail_next _ _ _ _ (MixRow.short W X) _ (keep1 R)
  · intro n
    frame_open
    exact (View.read_writes_cons_rows_of_mem _ _ inb_S8x256_S8x256_0_0 _ _ (ix2 0 n) (ix2 0 n) rfl rfl rfl).trans (stLast_apply R 0 n)

end Cert.Kernel3Ideal.Mix
-- ==== Proof.MixArr.lean ====
/- The mixing kernel: what its first result array holds. -/
module

public import proofs.«01_k».proof.Proof.MixIn
public import proofs.«01_k».proof.Proof.MixPoint

@[expose] public section

set_option maxRecDepth 16384

noncomputable section

namespace Cert.Kernel3Ideal.Mix

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The weights the arguments hold. -/
def kw (c : Dev nD) : MixRow.Wts where
  g k := (m (c, Proc.devRef .tc main_arg1) : FVec Ideal S1024 .f32) (ix1 k)
  w k j := (m (c, Proc.devRef .tc main_arg2) : FVec Ideal S1024x2704 .f32) (ix2 k ⟨j, by omega⟩)
  cw j n := (m (c, Proc.devRef .tc main_arg3) : FVec Ideal S4x256 .f32) (ix2 j n)
  cb n := (m (c, Proc.devRef .tc main_arg4) : FVec Ideal S256 .f32) (ix1 n)
  wg j h i o := (m (c, Proc.devRef .tc main_arg5) : FVec Ideal S2x4x64x64 .f32) (ix4 j h i o)
  bg j n := (m (c, Proc.devRef .tc main_arg6) : FVec Ideal S2x256 .f32) (ix2 j n)
  lam n := (m (c, Proc.devRef .tc main_arg7) : FVec Ideal S256 .f32) (ix1 n)
  scw j n := (m (c, Proc.devRef .tc main_arg8) : FVec Ideal S3x256 .f32) (ix2 j n)
  on j n := (m (c, Proc.devRef .tc main_arg13) : FVec Ideal S4x256 .f32) (ix2 ⟨j, by omega⟩ n)

/-- The input's sequence `b`. -/
def kseq (c : Dev nD) (b : Fin 8) (t : ℕ) (k : Fin 1024) : EReal :=
  if h : t < 4096 then (m (c, Proc.devRef .tc main_arg0) : FVec Ideal S8x4096x1024 .f32) (ix3 b ⟨t, h⟩ k) else 0

/-- Every point's constants are the weights. -/
theorem params (c : Dev nD) (t : Fin cfg0.N) :
    Params (kw m c) (iblk m c 1 t) (iblk m c 2 t) (iblk m c 3 t) (iblk m c 4 t) (iblk m c 5 t) (iblk m c 6 t) (iblk m c 7 t) (iblk m c 8 t) (iblk m c 9 t) :=
  ⟨read1 m c t, read2 m c t, read3 m c t, read4 m c t, read5 m c t, read6 m c t, read7 m c t, read8 m c t, read9 m c t⟩

/-- Every point's input block is 512 rows of its sequence. -/
theorem rows (c : Dev nD) (t : Fin cfg0.N) (b : Fin 8) (hb : b.val = t.val / 8) (T : ℕ) (hT : T = 512 * (t.val % 8)) (r : Fin 512) (k : Fin 1024) :
    iblk m c 0 t (ix3 0 r k) = kseq m c b (T + r) k := by
  have h : T + (r : ℕ) < 4096 := by omega
  unfold kseq
  rw [dif_pos h]
  exact read0 m c t r k b ⟨T + r, h⟩ hb (by show T + (r : ℕ) = _; omega)

/-- What every point leaves: its output rows, and the rows and the state kept for the next. -/
theorem inv (c : Dev nD) (b : Fin 8) (i : ℕ) : ∀ (t : Fin cfg0.N), t.val / 8 = b.val → t.val % 8 = i → ∀ T : ℕ, T = 512 * i →
    (∀ r n, (outsAt0 m c t.val t.isLt).1 (ix3 0 r n) = MixRow.out (kw m c) (kseq m c b) (T + r) n)
    ∧ Tail (MixRow.part (kw m c) (kseq m c b) 0) (T + 512) (outsAt0 m c t.val t.isLt).2.2.2.2.2.2.2.2.2.2.2.1
    ∧ Tail (MixRow.short (kw m c) (kseq m c b)) (T + 512) (outsAt0 m c t.val t.isLt).2.2.2.2.2.2.2.2.2.2.2.2.1
    ∧ (∀ n, (outsAt0 m c t.val t.isLt).2.2.2.2.2.2.2.2.2.2.2.2.2.1 (ix2 0 n)
      = MixRow.hid (MixRow.fac (kw m c) (kseq m c b) n) (MixRow.inp (kw m c) (kseq m c b) n) (T + 512)) := by
  induction i with
  | zero =>
    intro t hb hi T hT
    obtain rfl : T = 0 := by omega
    rw [outsAt0_A m c t hi]
    dsimp only
    exact point_A (P := params m c t) (hx := rows m c t b hb.symm 0 (by omega)) ..
  | succ i ih =>
    intro t hb hi T hT
    have h0 : ¬ t.val % 8 = 0 := by omega
    obtain ⟨-, i0, i1, i2⟩ := ih ⟨t.val - 1, by omega⟩ (by show (t.val - 1) / 8 = _; omega) (by show (t.val - 1) % 8 = _; omega) (512 * i) rfl
    obtain rfl : T = 512 * i + 512 := by omega
    rw [outsAt0_B m c t h0]
    dsimp only
    exact point_B (P := params m c t) (hx := rows m c t b hb.symm _ (by omega)) (t0 := i0) (t1 := i1) (t2 := i2) ..

/-- The first result array. -/
def result (c : Dev nD) : Vec Ideal S8x4096x512 .bf16 := fun y => MixRow.out (kw m c) (kseq m c (y 0)) (y 1 : Fin 4096).val (y 2)

/-- The kernel's first result array. -/
theorem arr_eq (c : Dev nD) : (dats m 0 c).arrAt 17 cfg0.N = result m c := by
  refine (dats m 0 c).arrAt_eq_of_covers 17 _ (by decide +kernel) fun t hf y => ?_
  have e0 : ((((cfg0.win 17).blk t).view.emb y) 0).val = t.val / 8 := by
    rw [← (pt t).1]
    blk_simp [idx t]
  have e1 : ((((cfg0.win 17).blk t).view.emb y) 1).val = 512 * (t.val % 8) + (y 1).val := by
    rw [← (pt t).2]
    blk_simp [idx t]
    omega
  have e2 : ((((cfg0.win 17).blk t).view.emb y) 2).val = (y 2).val := by
    blk_simp [idx t]
  show _ = MixRow.out (kw m c) (kseq m c ((((cfg0.win 17).blk t).view.emb y) 0)) ((((cfg0.win 17).blk t).view.emb y) 1 : Fin 4096).val ((((cfg0.win 17).blk t).view.emb y) 2)
  generalize ((((cfg0.win 17).blk t).view.emb y) 0 : Fin 8) = b at e0 ⊢
  generalize ((((cfg0.win 17).blk t).view.emb y) 1 : Fin 4096) = q at e1 ⊢
  generalize ((((cfg0.win 17).blk t).view.emb y) 2 : Fin 512) = n at e2 ⊢
  blk_simp
  rw [after0_17]
  idx_vars y
  rw [e1]
  obtain rfl : y2 = n := Fin.ext e2.symm
  obtain rfl : y0 = 0 := Subsingleton.elim _ _
  exact (inv m c b (t.val % 8) t e0.symm rfl _ rfl).1 y1 y2

end Cert.Kernel3Ideal.Mix
-- ==== Proof.MixHost.lean ====
/- The vectors the mixing reference forms around its recurrence, read at an entry. -/
module

public import proofs.«01_k».proof.Proof.MixRow
public import proofs.«01_k».proof.Proof.Gen.Reference3Ideal.Run

@[expose] public section

set_option maxRecDepth 16384

noncomputable section

namespace Cert.Reference3Ideal.Mix

open Cert.Reference3Ideal Cert.Reference3Ideal.Gen Idealize.ShloMosaic Idealize.ShloMosaic.TcCoe Idealize.SL.Sem

/-- The projected rows. -/
def projF (x : FVec Ideal S8x4096x1024 .f32) (g : FVec Ideal S1024 .f32) (w : FVec Ideal S1024x2704 .f32) : FVec Ideal S8x4096x2704 .f32 :=
  Host.dotGeneral dot_S8x4096x1024_S1024x2704_S8x4096x2704_2_0_01_1_n_n none
    (mulf (mulf x (broadcastInDim S8x4096x1024 ![0, 1, 2] bcast_S8x4096x1_S8x4096x1024_0_1_2 (Host.rsqrt (addf (Host.divf
      (broadcastInDim S8x4096x1 ![0, 1] bcast_S8x4096_S8x4096x1_0_1 (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
      (broadcastInDim S8x4096x1024 ![0, 1, 2] bcast_S1x1x1024_S8x4096x1024_0_1_2 (broadcastInDim S1x1x1024 ![2] bcast_S1024_S1x1x1024_2 g))) w

/-- An entry of the projection of the normalised rows. -/
theorem projF_apply (x : FVec Ideal S8x4096x1024 .f32) (g : FVec Ideal S1024 .f32) (w : FVec Ideal S1024x2704 .f32) (b : Fin 8) (t : Fin 4096) (j : Fin 2704) :
    projF x g w (ix3 b t j) = ∑ k, MixRow.normed (fun k => x (ix3 b t k)) (fun k => g (ix1 k)) k * w (ix2 k j) := by
  unfold projF MixRow.normed
  pointwise

/-- The recurrence's convolution, of the rows with three zero rows before them. -/
def convF (p : FVec Ideal S8x4099x256 .f32) (cw : FVec Ideal S4x256 .f32) (cb : FVec Ideal S256 .f32) : FVec Ideal S8x4096x256 .f32 :=
  addf (addf (addf (addf (addf (broadcastInDim S8x4096x256 ![] bcast_S_S8x4096x256 (constant S_ .f32 0x00000000#32))
    (mulf (broadcastInDim S8x4096x256 ![0, 1, 2] bcast_S1x1x256_S8x4096x256_0_1_2 (broadcastInDim S1x1x256 ![2] bcast_S256_S1x1x256_2 (shapeCast S256 (extractStridedSlice S1x256 ![0, 0] cw slices_S4x256_S1x256_0_0) shapeCasts_S1x256_S256)))
      (extractStridedSlice S8x4096x256 ![0, 0, 0] p slices_S8x4099x256_S8x4096x256_0_0_0)))
    (mulf (broadcastInDim S8x4096x256 ![0, 1, 2] bcast_S1x1x256_S8x4096x256_0_1_2 (broadcastInDim S1x1x256 ![2] bcast_S256_S1x1x256_2 (shapeCast S256 (extractStridedSlice S1x256 ![1, 0] cw slices_S4x256_S1x256_1_0) shapeCasts_S1x256_S256)))
      (extractStridedSlice S8x4096x256 ![0, 1, 0] p slices_S8x4099x256_S8x4096x256_0_1_0)))
    (mulf (broadcastInDim S8x4096x256 ![0, 1, 2] bcast_S1x1x256_S8x4096x256_0_1_2 (broadcastInDim S1x1x256 ![2] bcast_S256_S1x1x256_2 (shapeCast S256 (extractStridedSlice S1x256 ![2, 0] cw slices_S4x256_S1x256_2_0) shapeCasts_S1x256_S256)))
      (extractStridedSlice S8x4096x256 ![0, 2, 0] p slices_S8x4099x256_S8x4096x256_0_2_0)))
    (mulf (broadcastInDim S8x4096x256 ![0, 1, 2] bcast_S1x1x256_S8x4096x256_0_1_2 (broadcastInDim S1x1x256 ![2] bcast_S256_S1x1x256_2 (shapeCast S256 (extractStridedSlice S1x256 ![3, 0] cw slices_S4x256_S1x256_3_0) shapeCasts_S1x256_S256)))
      (extractStridedSlice S8x4096x256 ![0, 3, 0] p slices_S8x4099x256_S8x4096x256_0_3_0)))
    (broadcastInDim S8x4096x256 ![0, 1, 2] bcast_S1x1x256_S8x4096x256_0_1_2 (broadcastInDim S1x1x256 ![2] bcast_S256_S1x1x256_2 cb))

/-- An entry of the four-tap convolution. -/
theorem convF_apply (p : FVec Ideal S8x4099x256 .f32) (cw : FVec Ideal S4x256 .f32) (cb : FVec Ideal S256 .f32) (b : Fin 8) (t : Fin 4096) (n : Fin 256) :
    convF p cw cb (ix3 b t n) = cb (ix1 n) + cw (ix2 3 n) * p (ix3 b ⟨3 + t, by omega⟩ n) + cw (ix2 0 n) * p (ix3 b ⟨t, by omega⟩ n)
      + cw (ix2 1 n) * p (ix3 b ⟨1 + t, by omega⟩ n) + cw (ix2 2 n) * p (ix3 b ⟨2 + t, by omega⟩ n) := by
  have e : convF p cw cb (ix3 b t n) = 0 + cw (ix2 0 n) * p (ix3 b ⟨t, by omega⟩ n) + cw (ix2 1 n) * p (ix3 b ⟨1 + t, by omega⟩ n)
      + cw (ix2 2 n) * p (ix3 b ⟨2 + t, by omega⟩ n) + cw (ix2 3 n) * p (ix3 b ⟨3 + t, by omega⟩ n) + cb (ix1 n) := by
    unfold convF
    pointwise
  rw [e, zero_add]
  ac_rfl

/-- Rows with three zero rows before them. -/
theorem pad3_apply (z : FVec Ideal S8x4096x256 .f32) (b : Fin 8) (t : Fin 4099) (n : Fin 256) :
    pad S8x4099x256 ![0, 3, 0] ![0, 0, 0] ![0, 0, 0] z (sitofp (F := Ideal) .f32 (constantI S_ 32 0#32)) pads_S8x4096x256_S8x4099x256_000_300_000 h_S_ (ix3 b t n)
      = if h : 3 ≤ (t : ℕ) then z (ix3 b ⟨t - 3, by omega⟩ n) else 0 := by
  pointwise
  have z0 : FloatOps.sitofp (F := Ideal) FTy.f32 (0#32) = (0 : EReal) := by
    show (((0#32 : BitVec 32).toInt : ℝ) : EReal) = 0
    simp
  by_cases h : 3 ≤ (t : ℕ)
  · rw [dif_pos h, dif_pos ⟨h, by omega⟩]
  · rw [dif_neg h, dif_neg fun q => h q.1]
    exact z0

/-- And with two. -/
theorem pad2_apply (z : FVec Ideal S8x4096x256 .f32) (b : Fin 8) (t : Fin 4098) (n : Fin 256) :
    pad S8x4098x256 ![0, 2, 0] ![0, 0, 0] ![0, 0, 0] z (sitofp (F := Ideal) .f32 (constantI S_ 32 0#32)) pads_S8x4096x256_S8x4098x256_000_200_000 h_S_ (ix3 b t n)
      = if h : 2 ≤ (t : ℕ) then z (ix3 b ⟨t - 2, by omega⟩ n) else 0 := by
  pointwise
  have z0 : FloatOps.sitofp (F := Ideal) FTy.f32 (0#32) = (0 : EReal) := by
    show (((0#32 : BitVec 32).toInt : ℝ) : EReal) = 0
    simp
  by_cases h : 2 ≤ (t : ℕ)
  · rw [dif_pos h, dif_pos ⟨h, by omega⟩]
  · rw [dif_neg h, dif_neg fun q => h q.1]
    exact z0

/-- The short convolution times its output gate. -/
def shortF (p : FVec Ideal S8x4098x256 .f32) (q : FVec Ideal S8x4096x256 .f32) (cw : FVec Ideal S3x256 .f32) : FVec Ideal S8x4096x256 .f32 :=
  mulf q
   (addf (addf (addf (broadcastInDim S8x4096x256 ![] bcast_S_S8x4096x256 (constant S_ .f32 0x00000000#32))
    (mulf (broadcastInDim S8x4096x256 ![0, 1, 2] bcast_S1x1x256_S8x4096x256_0_1_2 (broadcastInDim S1x1x256 ![2] bcast_S256_S1x1x256_2 (shapeCast S256 (extractStridedSlice S1x256 ![0, 0] cw slices_S3x256_S1x256_0_0) shapeCasts_S1x256_S256)))
      (extractStridedSlice S8x4096x256 ![0, 0, 0] p slices_S8x4098x256_S8x4096x256_0_0_0)))
    (mulf (broadcastInDim S8x4096x256 ![0, 1, 2] bcast_S1x1x256_S8x4096x256_0_1_2 (broadcastInDim S1x1x256 ![2] bcast_S256_S1x1x256_2 (shapeCast S256 (extractStridedSlice S1x256 ![1, 0] cw slices_S3x256_S1x256_1_0) shapeCasts_S1x256_S256)))
      (extractStridedSlice S8x4096x256 ![0, 1, 0] p slices_S8x4098x256_S8x4096x256_0_1_0)))
    (mulf (broadcastInDim S8x4096x256 ![0, 1, 2] bcast_S1x1x256_S8x4096x256_0_1_2 (broadcastInDim S1x1x256 ![2] bcast_S256_S1x1x256_2 (shapeCast S256 (extractStridedSlice S1x256 ![2, 0] cw slices_S3x256_S1x256_2_0) shapeCasts_S1x256_S256)))
      (extractStridedSlice S8x4096x256 ![0, 2, 0] p slices_S8x4098x256_S8x4096x256_0_2_0)))

/-- An entry of the short convolution’s group. -/
theorem shortF_apply (p : FVec Ideal S8x4098x256 .f32) (q : FVec Ideal S8x4096x256 .f32) (cw : FVec Ideal S3x256 .f32) (b : Fin 8) (t : Fin 4096) (n : Fin 256) :
    shortF p q cw (ix3 b t n) = q (ix3 b t n) * (cw (ix2 2 n) * p (ix3 b ⟨2 + t, by omega⟩ n) + cw (ix2 0 n) * p (ix3 b ⟨t, by omega⟩ n)
      + cw (ix2 1 n) * p (ix3 b ⟨1 + t, by omega⟩ n)) := by
  have e : shortF p q cw (ix3 b t n) = q (ix3 b t n) * (0 + cw (ix2 0 n) * p (ix3 b ⟨t, by omega⟩ n) + cw (ix2 1 n) * p (ix3 b ⟨1 + t, by omega⟩ n)
      + cw (ix2 2 n) * p (ix3 b ⟨2 + t, by omega⟩ n)) := by
    unfold shortF
    pointwise
  rw [e, zero_add]
  congr 1
  ac_rfl

/-- The product of the short convolution's input gate and input. -/
def prodF (z : FVec Ideal S8x4096x2704 .f32) : FVec Ideal S8x4096x256 .f32 :=
  mulf (extractStridedSlice S8x4096x256 ![0, 0, 768] z slices_S8x4096x2704_S8x4096x256_0_0_768) (extractStridedSlice S8x4096x256 ![0, 0, 1024] z slices_S8x4096x2704_S8x4096x256_0_0_1024)

/-- An entry of the short convolution’s input. -/
theorem prodF_apply (z : FVec Ideal S8x4096x2704 .f32) (b : Fin 8) (t : Fin 4096) (n : Fin 256) :
    prodF z (ix3 b t n) = z (ix3 b t ⟨768 + n, by omega⟩) * z (ix3 b t ⟨1024 + n, by omega⟩) := by
  unfold prodF
  pointwise

/-- Column group 0 of the projection. -/
theorem part0_apply (z : FVec Ideal S8x4096x2704 .f32) (b : Fin 8) (t : Fin 4096) (n : Fin 256) :
    extractStridedSlice S8x4096x256 ![0, 0, 0] z slices_S8x4096x2704_S8x4096x256_0_0_0 (ix3 b t n) = z (ix3 b t ⟨n, by omega⟩) := by
  pointwise

/-- Column group 2 of the projection. -/
theorem part2_apply (z : FVec Ideal S8x4096x2704 .f32) (b : Fin 8) (t : Fin 4096) (n : Fin 256) :
    extractStridedSlice S8x4096x256 ![0, 0, 512] z slices_S8x4096x2704_S8x4096x256_0_0_512 (ix3 b t n) = z (ix3 b t ⟨512 + n, by omega⟩) := by
  pointwise

/-- Column group 1 of the projection. -/
theorem part1_apply (z : FVec Ideal S8x4096x2704 .f32) (b : Fin 8) (t : Fin 4096) (n : Fin 256) :
    extractStridedSlice S8x4096x256 ![0, 0, 256] z slices_S8x4096x2704_S8x4096x256_0_0_256 (ix3 b t n) = z (ix3 b t ⟨256 + n, by omega⟩) := by
  pointwise

/-- The logistic of a product with the gate's blocks and its bias, before the logistic. -/
def preF (xc : FVec Ideal S8x4096x256 .f32) (w : FVec Ideal S4x64x64 .f32) (bg : FVec Ideal S256 .f32) : FVec Ideal S8x4096x256 .f32 :=
  addf (shapeCast S8x4096x256 (transpose S8x4096x4x64 [2, 3, 0, 1] (Host.dotGeneral dot_S4x64x64_S8x4096x4x64_S4x64x8x4096_1_3_2_01_0_2 none w
      (shapeCast S8x4096x4x64 xc shapeCasts_S8x4096x256_S8x4096x4x64)) transposes_S4x64x8x4096_S8x4096x4x64_2_3_0_1) shapeCasts_S8x4096x4x64_S8x4096x256)
    (broadcastInDim S8x4096x256 ![0, 1, 2] bcast_S1x1x256_S8x4096x256_0_1_2 (broadcastInDim S1x1x256 ![2] bcast_S256_S1x1x256_2 bg))

/-- An entry of a gate before the sigmoid. -/
theorem preF_apply (xc : FVec Ideal S8x4096x256 .f32) (w : FVec Ideal S4x64x64 .f32) (bg : FVec Ideal S256 .f32) (b : Fin 8) (t : Fin 4096) (n : Fin 256) :
    preF xc w bg (ix3 b t n) = ∑ i : Fin 64, xc (ix3 b t ⟨64 * (n / 64) + i, by omega⟩) * w (ix3 ⟨n / 64, by omega⟩ i ⟨n % 64, by omega⟩) + bg (ix1 n) := by
  have e : preF xc w bg (ix3 b t n) = ∑ i : Fin 64, w (ix3 ⟨n / 64, by omega⟩ i ⟨n % 64, by omega⟩) * xc (ix3 b t ⟨n / 64 * 64 + i, by omega⟩) + bg (ix1 n) := by
    unfold preF
    pointwise
  rw [e]
  congr 1
  refine Finset.sum_congr rfl fun i _ => ?_
  rw [mul_comm]
  congr 3
  exact Fin.ext (by show (n : ℕ) / 64 * 64 + i = 64 * (n / 64) + i; omega)

/-- The logistic, as one over one plus an exponential. -/
def sigF (v : FVec Ideal S8x4096x256 .f32) : FVec Ideal S8x4096x256 .f32 :=
  Host.divf (broadcastInDim S8x4096x256 ![] bcast_S_S8x4096x256 (constant S_ .f32 0x3F800000#32))
    (addf (broadcastInDim S8x4096x256 ![] bcast_S_S8x4096x256 (constant S_ .f32 0x3F800000#32)) (Host.exp (Host.negf v)))

/-- An entry of the sigmoid. -/
theorem sigF_apply (v : FVec Ideal S8x4096x256 .f32) (b : Fin 8) (t : Fin 4096) (n : Fin 256) : sigF v (ix3 b t n) = Ideal.logistic (v (ix3 b t n)) := by
  have one : Ideal.ofBits FTy.f32 1065353216#32 = 1 := by
    simp [Ideal.ofBits, Ideal.ieee, -EReal.coe_mul]
    norm_num
  have e : sigF v (ix3 b t n) = Ideal.div (Ideal.ofBits FTy.f32 1065353216#32) (Ideal.ofBits FTy.f32 1065353216#32 + Ideal.exp (-(v (ix3 b t n)))) := by
    unfold sigF
    pointwise
  rw [e, one]
  rfl

/-- The absolute value, of the negated number. -/
theorem neg_abs_eq (x : EReal) : (x.abs : EReal) = max (-x) (- -x) := by
  induction x with
  | bot => simp
  | top => simp
  | coe x =>
    rw [EReal.coe_abs, abs_eq_max_neg, neg_neg, max_comm]
    norm_cast

/-- The softplus of `-lam`, times minus eight. -/
def rateF (lam : FVec Ideal S256 .f32) : FVec Ideal S256 .f32 :=
  mulf (broadcastInDim S256 ![] bcast_S_S256 (constant S_ .f32 0xC1000000#32))
    (select (cmpf .une (subf (Host.negf lam) (broadcastInDim S256 ![] bcast_S_S256 (constant S_ .f32 0x00000000#32))) (subf (Host.negf lam) (broadcastInDim S256 ![] bcast_S_S256 (constant S_ .f32 0x00000000#32))))
      (addf (Host.negf lam) (broadcastInDim S256 ![] bcast_S_S256 (constant S_ .f32 0x00000000#32)))
      (addf (maximumf (Host.negf lam) (broadcastInDim S256 ![] bcast_S_S256 (constant S_ .f32 0x00000000#32)))
        (Host.log1p (Host.exp (Host.negf (Host.absf (subf (Host.negf lam) (broadcastInDim S256 ![] bcast_S_S256 (constant S_ .f32 0x00000000#32)))))))))

/-- The decay’s rate of a channel. -/
theorem rateF_apply (lam : FVec Ideal S256 .f32) (n : Fin 256) : rateF lam (ix1 n) = MixRow.rate (lam (ix1 n)) := by
  have q : FloatOps.absf (F := Ideal) (φ := .f32) (-lam (ix1 n)) = ((lam (ix1 n) : EReal).abs : EReal) := (neg_abs_eq _).symm
  unfold rateF MixRow.rate
  pointwise
  rw [if_neg (fun h => h rfl), q]

/-- The logarithm of the factor. -/
def laF (lam : FVec Ideal S256 .f32) (g : FVec Ideal S8x4096x256 .f32) : FVec Ideal S8x4096x256 .f32 :=
  mulf (broadcastInDim S8x4096x256 ![0, 1, 2] bcast_S1x1x256_S8x4096x256_0_1_2 (broadcastInDim S1x1x256 ![2] bcast_S256_S1x1x256_2 (rateF lam))) g

/-- An entry of the log of the decay. -/
theorem laF_apply (lam : FVec Ideal S256 .f32) (g : FVec Ideal S8x4096x256 .f32) (b : Fin 8) (t : Fin 4096) (n : Fin 256) :
    laF lam g (ix3 b t n) = MixRow.rate (lam (ix1 n)) * g (ix3 b t n) := by
  rw [← rateF_apply]
  unfold laF
  generalize rateF lam = r
  pointwise

/-- The factors, time first. -/
def facF (la : FVec Ideal S8x4096x256 .f32) : FVec Ideal S4096x8x256 .f32 :=
  transpose S4096x8x256 [1, 0, 2] (Host.exp la) transposes_S8x4096x256_S4096x8x256_1_0_2

/-- An entry of the recurrence’s factor. -/
theorem facF_apply (la : FVec Ideal S8x4096x256 .f32) (t : Fin 4096) (b : Fin 8) (n : Fin 256) : facF la (ix3 t b n) = Ideal.exp (la (ix3 b t n)) := by
  unfold facF
  pointwise

/-- The input terms, time first. -/
def inpF (la g xc : FVec Ideal S8x4096x256 .f32) : FVec Ideal S4096x8x256 .f32 :=
  transpose S4096x8x256 [1, 0, 2] (mulf (Host.sqrt (Host.negf (Host.expm1 (mulf (broadcastInDim S8x4096x256 ![] bcast_S_S8x4096x256 (constant S_ .f32 0x40000000#32)) la))))
    (mulf g xc)) transposes_S8x4096x256_S4096x8x256_1_0_2

/-- An entry of the recurrence’s input. -/
theorem inpF_apply (la g xc : FVec Ideal S8x4096x256 .f32) (t : Fin 4096) (b : Fin 8) (n : Fin 256) :
    inpF la g xc (ix3 t b n) = Ideal.sqrt (-Ideal.expm1 (Ideal.ofBits FTy.f32 1073741824#32 * la (ix3 b t n))) * (g (ix3 b t n) * xc (ix3 b t n)) := by
  unfold inpF
  pointwise
  rfl

/-- The recurrence's states times the activation of the output gate. -/
def yaF (H : FVec Ideal S4096x8x256 .f32) (p : FVec Ideal S8x4096x256 .f32) : FVec Ideal S8x4096x256 .f32 :=
  mulf (transpose S8x4096x256 [1, 0, 2] H transposes_S4096x8x256_S8x4096x256_1_0_2)
    (mulf p (mulf (broadcastInDim S8x4096x256 ![] bcast_S_S8x4096x256 (constant S_ .f32 0x3F000000#32))
      (addf (broadcastInDim S8x4096x256 ![] bcast_S_S8x4096x256 (constant S_ .f32 0x3F800000#32))
        (Host.tanh (mulf (broadcastInDim S8x4096x256 ![] bcast_S_S8x4096x256 (constant S_ .f32 0x3F4C422A#32))
          (addf p (mulf (broadcastInDim S8x4096x256 ![] bcast_S_S8x4096x256 (constant S_ .f32 0x3D372713#32)) (mulf (mulf p p) p))))))))

/-- An entry of the recurrent group. -/
theorem yaF_apply (H : FVec Ideal S4096x8x256 .f32) (p : FVec Ideal S8x4096x256 .f32) (b : Fin 8) (t : Fin 4096) (n : Fin 256) :
    yaF H p (ix3 b t n) = H (ix3 t b n) * MixRow.gelu (p (ix3 b t n)) := by
  unfold yaF MixRow.gelu
  pointwise

/-- A group's rows, normalised. -/
def normF (y : FVec Ideal S8x4096x256 .f32) (g : FVec Ideal S256 .f32) : FVec Ideal S8x4096x256 .f32 :=
  mulf (mulf y (broadcastInDim S8x4096x256 ![0, 1, 2] bcast_S8x4096x1_S8x4096x256_0_1_2 (Host.rsqrt (addf (Host.divf
      (broadcastInDim S8x4096x1 ![0, 1] bcast_S8x4096_S8x4096x1_0_1 (Host.reduceAdd (mulf y y) (constant S_ .f32 0x00000000#32) reducesTo_S8x4096x256_S8x4096_d2 h_S_))
      (broadcastInDim S8x4096x1 ![] bcast_S_S8x4096x1 (constant S_ .f32 0x43800000#32)))
      (broadcastInDim S8x4096x1 ![] bcast_S_S8x4096x1 (constant S_ .f32 0x358637BD#32))))))
      (broadcastInDim S8x4096x256 ![0, 1, 2] bcast_S1x1x256_S8x4096x256_0_1_2 (broadcastInDim S1x1x256 ![2] bcast_S256_S1x1x256_2 g))

/-- An entry of a group’s RMS norm. -/
theorem normF_apply (y : FVec Ideal S8x4096x256 .f32) (g : FVec Ideal S256 .f32) (b : Fin 8) (t : Fin 4096) (n : Fin 256) :
    normF y g (ix3 b t n) = MixRow.normed256 (fun n => y (ix3 b t n)) (fun n => g (ix1 n)) n := by
  unfold normF MixRow.normed256
  pointwise

/-- The two groups side by side, in the result's format. -/
def outF (a b : FVec Ideal S8x4096x256 .f32) : FVec Ideal S8x4096x512 .bf16 :=
  truncf .bf16 (concatenate S8x4096x512 2 [⟨S8x4096x256, a⟩, ⟨S8x4096x256, b⟩] concatenates_S8x4096x256_S8x4096x256_S8x4096x512_d2) bitsLt_bf16_f32

/-- An entry of the two groups side by side. -/
theorem outF_apply (a c : FVec Ideal S8x4096x256 .f32) (b : Fin 8) (t : Fin 4096) (n : Fin 512) :
    outF a c (ix3 b t n) = if h : (n : ℕ) < 256 then a (ix3 b t ⟨n, h⟩) else c (ix3 b t ⟨n - 256, by omega⟩) := by
  unfold outF
  pointwise

/-- A gate's blocks. -/
theorem blk0_apply (w : FVec Ideal S2x4x64x64 .f32) (h : Fin 4) (i o : Fin 64) :
    shapeCast S4x64x64 (extractStridedSlice S1x4x64x64 ![0, 0, 0, 0] w slices_S2x4x64x64_S1x4x64x64_0_0_0_0) shapeCasts_S1x4x64x64_S4x64x64 (ix3 h i o) = w (ix4 0 h i o) := by
  pointwise

/-- The second gate’s weights. -/
theorem blk1_apply (w : FVec Ideal S2x4x64x64 .f32) (h : Fin 4) (i o : Fin 64) :
    shapeCast S4x64x64 (extractStridedSlice S1x4x64x64 ![1, 0, 0, 0] w slices_S2x4x64x64_S1x4x64x64_1_0_0_0) shapeCasts_S1x4x64x64_S4x64x64 (ix3 h i o) = w (ix4 1 h i o) := by
  pointwise

/-- A gate's bias. -/
theorem bias0_apply (w : FVec Ideal S2x256 .f32) (n : Fin 256) :
    shapeCast S256 (extractStridedSlice S1x256 ![0, 0] w slices_S2x256_S1x256_0_0) shapeCasts_S1x256_S256 (ix1 n) = w (ix2 0 n) := by
  pointwise

/-- The second gate’s bias. -/
theorem bias1_apply (w : FVec Ideal S2x256 .f32) (n : Fin 256) :
    shapeCast S256 (extractStridedSlice S1x256 ![1, 0] w slices_S2x256_S1x256_1_0) shapeCasts_S1x256_S256 (ix1 n) = w (ix2 1 n) := by
  pointwise

/-- A group's gain. -/
theorem gain0_apply (w : FVec Ideal S4x256 .f32) (n : Fin 256) :
    shapeCast S256 (extractStridedSlice S1x256 ![0, 0] w slices_S4x256_S1x256_0_0) shapeCasts_S1x256_S256 (ix1 n) = w (ix2 0 n) := by
  pointwise

/-- The second group’s gain. -/
theorem gain1_apply (w : FVec Ideal S4x256 .f32) (n : Fin 256) :
    shapeCast S256 (extractStridedSlice S1x256 ![1, 0] w slices_S4x256_S1x256_1_0) shapeCasts_S1x256_S256 (ix1 n) = w (ix2 1 n) := by
  pointwise

end Cert.Reference3Ideal.Mix
-- ==== Proof.MixLoop.lean ====
/- The mixing reference's loop: the recurrence's states, one time step after another. -/
module

public import proofs.«01_k».proof.Proof.MixHost
public import Idealize.ShloMosaic.Lib.StableHlo.RunRead
public import Idealize.ShloMosaic.Lib.DynamicIndex

@[expose] public section

set_option maxRecDepth 16384

noncomputable section

namespace Cert.Reference3Ideal.Mix

open Cert.Reference3Ideal Cert.Reference3Ideal.Gen Cert.Reference3Ideal.Value Idealize.ShloMosaic Idealize.ShloMosaic.TcCoe Idealize.SL.Sem
open Idealize.ShloMosaic.StableHlo

/-- The loop's counter, read signed. -/
theorem iv_toInt (k : ℕ) (hk : k < 4096) : (Scf.iv 0#32 1#32 k).toInt = (k : Int) := by
  have e : Scf.iv 0#32 1#32 k = BitVec.ofNat 32 k := by simp [Scf.iv]
  rw [e, toInt_ofNat_of_lt (by omega)]

/-- The three starts of the loop's slices: the counter, and twice zero. -/
def starts (v : IVec S_ 32) : Fin 3 → Int := fun q =>
  ((![v, constantI S_ 32 0#32, constantI S_ 32 0#32] : Fin 3 → (⟨S_, .i32⟩ : BufTy).Contents (Elt Ideal)) q (Shape.Idx.first h_S_)).toInt

/-- Where the loop’s turn `k` reads and writes. -/
theorem starts_eq (k : ℕ) (hk : k < 4096) (q : Fin 3) : starts (fun _ => Scf.iv 0#32 1#32 k) q = ((![k, 0, 0] : Fin 3 → ℕ) q : Int) := by
  fin_cases q
  · exact iv_toInt k hk
  · rfl
  · rfl

/-- A turn’s slice lies within the array. -/
theorem fits (k : ℕ) (hk : k < 4096) : S4096x8x256.Slices ![k, 0, 0] S1x8x256 := by
  refine ⟨rfl, fun q => ?_⟩
  fin_cases q
  · show k + 1 ≤ 4096
    omega
  · show 0 + 8 ≤ 8
    omega
  · show 0 + 256 ≤ 256
    omega

/-- The slice at the counter is the array's row there. -/
theorem slice_apply (a : FVec Ideal S4096x8x256 .f32) (k : ℕ) (hk : k < 4096) (i : Fin 8) (n : Fin 256) :
    shapeCast S8x256 (Host.dynamicSlice S1x8x256 a (starts fun _ => Scf.iv 0#32 1#32 k) sliceFits_S4096x8x256_S1x8x256) shapeCasts_S1x8x256_S8x256 (ix2 i n)
      = a (ix3 ⟨k, hk⟩ i n) := by
  rw [Host.dynamicSlice_eq_extractStridedSlice S1x8x256 a _ ![k, 0, 0] _ (fits k hk) (starts_eq k hk)]
  have : k + 0 = k := rfl
  pointwise

/-- The update at the counter changes the array's row there, and no other. -/
theorem update_apply (a : FVec Ideal S4096x8x256 .f32) (h : FVec Ideal S8x256 .f32) (k : ℕ) (hk : k < 4096) (t : Fin 4096) (i : Fin 8) (n : Fin 256) :
    Host.dynamicUpdateSlice a (broadcastInDim S1x8x256 ![1, 2] bcast_S8x256_S1x8x256_1_2 h) (starts fun _ => Scf.iv 0#32 1#32 k) updateFits_S4096x8x256_S1x8x256 (ix3 t i n)
      = if (t : ℕ) = k then h (ix2 i n) else a (ix3 t i n) := by
  rw [Host.dynamicUpdateSlice_eq_updateSlice a _ _ _ ![k, 0, 0] (fun q => by
    rw [starts_eq k hk]
    fin_cases q
    · show (min (max ((k : ℕ) : Int) 0) ((4096 - 1 : ℕ) : Int)).toNat = k
      omega
    · rfl
    · rfl) (fits k hk)]
  pointwise
  by_cases c : (t : ℕ) = k
  · rw [if_pos c, dif_pos ⟨by omega, by omega⟩]
  · rw [if_neg c, dif_neg (by omega)]

/-- One step of the recurrence, of the arrays at the counter. -/
theorem step_apply (a s : FVec Ideal S4096x8x256 .f32) (h : FVec Ideal S8x256 .f32) (k : ℕ) (hk : k < 4096) (i : Fin 8) (n : Fin 256) :
    addf (mulf (shapeCast S8x256 (Host.dynamicSlice S1x8x256 a (starts fun _ => Scf.iv 0#32 1#32 k) sliceFits_S4096x8x256_S1x8x256) shapeCasts_S1x8x256_S8x256) h)
      (shapeCast S8x256 (Host.dynamicSlice S1x8x256 s (starts fun _ => Scf.iv 0#32 1#32 k) sliceFits_S4096x8x256_S1x8x256) shapeCasts_S1x8x256_S8x256) (ix2 i n)
      = a (ix3 ⟨k, hk⟩ i n) * h (ix2 i n) + s (ix3 ⟨k, hk⟩ i n) := by
  have e1 := slice_apply a k hk i n
  have e2 := slice_apply s k hk i n
  rw [← e1, ← e2]
  rfl

/-- The loop's buffers after `k` trips: the two arrays as before, the counter, the states, and the rows of states so far. -/
theorem loop_inv (E : Valuation τ sig (Elt Ideal)) (a s : FVec Ideal S4096x8x256 .f32) (A B : Fin 8 → Fin 256 → ℕ → EReal)
    (ea : E (Proc.devRef .tc main_v101_0) = a) (es : E (Proc.devRef .tc main_v101_1) = s)
    (ha : ∀ t i n, a (ix3 t i n) = A i n t) (hs : ∀ t i n, s (ix3 t i n) = B i n t)
    (h2 : E (Proc.devRef .tc main_v101_2) = fun _ => (0#32 : BitVec 32))
    (h : FVec Ideal S8x256 .f32) (e3 : E (Proc.devRef .tc main_v101_3) = h) (h3 : ∀ i n, h (ix2 i n) = 0) :
    ∀ k : ℕ, k ≤ 4096 → STEP^[k] E (Proc.devRef .tc main_v101_0) = a ∧ STEP^[k] E (Proc.devRef .tc main_v101_1) = s
      ∧ STEP^[k] E (Proc.devRef .tc main_v101_2) = (fun _ => Scf.iv 0#32 1#32 k)
      ∧ (∃ h : FVec Ideal S8x256 .f32, STEP^[k] E (Proc.devRef .tc main_v101_3) = h ∧ ∀ i n, h (ix2 i n) = MixRow.hid (A i n) (B i n) k)
      ∧ ∃ H : FVec Ideal S4096x8x256 .f32, STEP^[k] E (Proc.devRef .tc main_v101_4) = H
        ∧ ∀ (t : Fin 4096) i n, (t : ℕ) < k → H (ix3 t i n) = MixRow.hid (A i n) (B i n) (t + 1) := by
  intro k
  induction k with
  | zero => exact fun _ => ⟨ea, es, by rw [Scf.iv_zero]; exact h2, ⟨h, e3, h3⟩, _, rfl, fun t i n q => absurd q (by omega)⟩
  | succ k ih =>
    intro hk
    obtain ⟨i0, i1, i2, ⟨g, i3, i3'⟩, H, i4, i4'⟩ := ih (by omega)
    rw [Function.iterate_succ_apply']
    generalize STEP^[k] E = X at i0 i1 i2 i3 i4
    have r : res_main_while0b_v180 X = addf (mulf (shapeCast S8x256 (Host.dynamicSlice S1x8x256 a (starts fun _ => Scf.iv 0#32 1#32 k) sliceFits_S4096x8x256_S1x8x256) shapeCasts_S1x8x256_S8x256) g)
      (shapeCast S8x256 (Host.dynamicSlice S1x8x256 s (starts fun _ => Scf.iv 0#32 1#32 k) sliceFits_S4096x8x256_S1x8x256) shapeCasts_S1x8x256_S8x256) := by
      unfold res_main_while0b_v180
      rw [i0, i1, i2, i3]
      rfl
    have r' : ∀ i n, (res_main_while0b_v180 X : FVec Ideal S8x256 .f32) (ix2 i n) = MixRow.hid (A i n) (B i n) (k + 1) := fun i n => by
      rw [r, step_apply a s g k (by omega), ha, hs, i3']
      rfl
    refine ⟨(STEP_main_v101_0 X).trans i0, (STEP_main_v101_1 X).trans i1, ?_, ⟨_, STEP_main_v101_3 X, r'⟩, _, STEP_main_v101_4 X, fun t i n q => ?_⟩
    · rw [STEP_main_v101_2, Scf.iv_succ]
      unfold step_main_v101_2
      rw [i2]
      rfl
    · have e : (step_main_v101_4 X : FVec Ideal S4096x8x256 .f32) = Host.dynamicUpdateSlice H (broadcastInDim S1x8x256 ![1, 2] bcast_S8x256_S1x8x256_1_2 (res_main_while0b_v180 X)) (starts fun _ => Scf.iv 0#32 1#32 k) updateFits_S4096x8x256_S1x8x256 := by
        unfold step_main_v101_4
        rw [i2, i4]
        rfl
      rw [e, update_apply H _ k (by omega) t i n]
      by_cases c : (t : ℕ) = k
      · rw [if_pos c, c]
        exact r' i n
      · rw [if_neg c]
        exact i4' t i n (by omega)

end Cert.Reference3Ideal.Mix
-- ==== Proof.MixRef.lean ====
/- What the mixing reference computes. -/
module

public import proofs.«01_k».proof.Proof.MixLoop

@[expose] public section

set_option maxRecDepth 16384

noncomputable section

namespace Cert.Reference3Ideal.Mix

open Cert.Reference3Ideal Cert.Reference3Ideal.Gen Cert.Reference3Ideal.Value Idealize.ShloMosaic Idealize.ShloMosaic.TcCoe Idealize.SL.Sem
open Idealize.ShloMosaic.StableHlo

/-! The stretches of host operations, from any contents. -/

/-- The projection. -/
theorem s0_v13 (V : Valuation τ sig (Elt Ideal)) : after hostOps0 V (Proc.devRef .tc main_v13) = projF (V (Proc.devRef .tc main_arg0)) (V (Proc.devRef .tc main_arg1)) (V (Proc.devRef .tc main_arg2)) := by
  after_reads_simp
  rfl

/-- Its first column group. -/
theorem s0_v14 (V : Valuation τ sig (Elt Ideal)) : after hostOps0 V (Proc.devRef .tc main_v14) = extractStridedSlice S8x4096x256 ![0, 0, 0]
    (projF (V (Proc.devRef .tc main_arg0)) (V (Proc.devRef .tc main_arg1)) (V (Proc.devRef .tc main_arg2))) slices_S8x4096x2704_S8x4096x256_0_0_0 := by
  after_reads_simp
  rfl

/-- Its second column group. -/
theorem s0_v15 (V : Valuation τ sig (Elt Ideal)) : after hostOps0 V (Proc.devRef .tc main_v15) = extractStridedSlice S8x4096x256 ![0, 0, 256]
    (projF (V (Proc.devRef .tc main_arg0)) (V (Proc.devRef .tc main_arg1)) (V (Proc.devRef .tc main_arg2))) slices_S8x4096x2704_S8x4096x256_0_0_256 := by
  after_reads_simp
  rfl

/-- The word of zero. -/
theorem s0_c (V : Valuation τ sig (Elt Ideal)) : after hostOps0 V (Proc.devRef .tc main_c) = constantI S_ 32 0#32 := by
  after_reads_simp

/-- The padded first group. -/
theorem s1_v16 (V : Valuation τ sig (Elt Ideal)) (z : FVec Ideal S8x4096x256 .f32) (ez : V (Proc.devRef .tc main_v14) = z)
    (ec : V (Proc.devRef .tc main_c) = constantI S_ 32 0#32) : after hostOps0_1 V (Proc.devRef .tc main_v16)
      = pad S8x4099x256 ![0, 3, 0] ![0, 0, 0] ![0, 0, 0] z (sitofp (F := Ideal) .f32 (constantI S_ 32 0#32)) pads_S8x4096x256_S8x4099x256_000_300_000 h_S_ := by
  subst ez
  rw [← ec]
  after_reads_simp
  rfl

/-- The convolution's rows. -/
theorem s2_v48 (V : Valuation τ sig (Elt Ideal)) : after hostOps0_2 V (Proc.devRef .tc main_v48)
    = convF (V (Proc.devRef .tc main_v16)) (V (Proc.devRef .tc main_arg3)) (V (Proc.devRef .tc main_arg4)) := by
  after_reads_simp
  rfl

/-- The first gate. -/
theorem s2_v65 (V : Valuation τ sig (Elt Ideal)) : after hostOps0_2 V (Proc.devRef .tc main_v65)
    = sigF (preF (convF (V (Proc.devRef .tc main_v16)) (V (Proc.devRef .tc main_arg3)) (V (Proc.devRef .tc main_arg4)))
      (shapeCast S4x64x64 (extractStridedSlice S1x4x64x64 ![0, 0, 0, 0] (V (Proc.devRef .tc main_arg5)) slices_S2x4x64x64_S1x4x64x64_0_0_0_0) shapeCasts_S1x4x64x64_S4x64x64)
      (shapeCast S256 (extractStridedSlice S1x256 ![0, 0] (V (Proc.devRef .tc main_arg6)) slices_S2x256_S1x256_0_0) shapeCasts_S1x256_S256)) := by
  after_reads_simp
  rfl

/-- The second gate. -/
theorem s2_v81 (V : Valuation τ sig (Elt Ideal)) : after hostOps0_2 V (Proc.devRef .tc main_v81)
    = sigF (preF (convF (V (Proc.devRef .tc main_v16)) (V (Proc.devRef .tc main_arg3)) (V (Proc.devRef .tc main_arg4)))
      (shapeCast S4x64x64 (extractStridedSlice S1x4x64x64 ![1, 0, 0, 0] (V (Proc.devRef .tc main_arg5)) slices_S2x4x64x64_S1x4x64x64_1_0_0_0) shapeCasts_S1x4x64x64_S4x64x64)
      (shapeCast S256 (extractStridedSlice S1x256 ![1, 0] (V (Proc.devRef .tc main_arg6)) slices_S2x256_S1x256_1_0) shapeCasts_S1x256_S256)) := by
  after_reads_simp
  rfl

/-- The decay’s parameter, negated. -/
theorem s2_v82 (V : Valuation τ sig (Elt Ideal)) : after hostOps0_2 V (Proc.devRef .tc main_v82) = Host.negf (F := Ideal) (s := S256) (φ := .f32) (V (Proc.devRef .tc main_arg7)) := by
  after_reads_simp

/-- The softplus, and the constant it is multiplied by in the next stretch. -/
theorem s34_v98 (V : Valuation τ sig (Elt Ideal)) (lam : FVec Ideal S256 .f32) (e : V (Proc.devRef .tc main_v82) = Host.negf lam) :
    after hostOps0_4 (after hostOps0_3 V) (Proc.devRef .tc main_v101_0) = facF (laF lam (V (Proc.devRef .tc main_v65))) := by
  have q : ∀ lam : FVec Ideal S256 .f32, V (Proc.devRef .tc main_v82) = Host.negf lam →
    after hostOps0_4 (after hostOps0_3 V) (Proc.devRef .tc main_v101_0) = facF (laF lam (V (Proc.devRef .tc main_v65))) := by
    intro lam e
    unfold facF laF rateF
    rw [← e]
    after_reads_simp
    rfl
  exact q lam e

/-- The recurrence’s inputs. -/
theorem s34_v99 (V : Valuation τ sig (Elt Ideal)) (lam : FVec Ideal S256 .f32) (e : V (Proc.devRef .tc main_v82) = Host.negf lam) :
    after hostOps0_4 (after hostOps0_3 V) (Proc.devRef .tc main_v101_1)
      = inpF (laF lam (V (Proc.devRef .tc main_v65))) (V (Proc.devRef .tc main_v81)) (V (Proc.devRef .tc main_v48)) := by
  unfold inpF laF rateF
  rw [← e]
  after_reads_simp
  rfl

/-- The loop starts at turn 0. -/
theorem s4_ctr (V : Valuation τ sig (Elt Ideal)) : after hostOps0_4 V (Proc.devRef .tc main_v101_2) = fun _ => (0#32 : BitVec 32) := by
  after_reads_simp
  rfl

/-- The loop starts from the zero state. -/
theorem s4_h (V : Valuation τ sig (Elt Ideal)) : after hostOps0_4 V (Proc.devRef .tc main_v101_3) = broadcastInDim S8x256 ![] bcast_S_S8x256 (constant (F := Ideal) S_ .f32 0x00000000#32) := by
  after_reads_simp
  rfl

/-- The recurrent group, from the states. -/
theorem s5_v116 (V : Valuation τ sig (Elt Ideal)) : after hostOps0_5 V (Proc.devRef .tc main_v116) = yaF (V (Proc.devRef .tc main_v101_4)) (V (Proc.devRef .tc main_v15)) := by
  after_reads_simp
  rfl

/-- The third column group. -/
theorem s5_v117 (V : Valuation τ sig (Elt Ideal)) : after hostOps0_5 V (Proc.devRef .tc main_v117)
    = extractStridedSlice S8x4096x256 ![0, 0, 512] (V (Proc.devRef .tc main_v13)) slices_S8x4096x2704_S8x4096x256_0_0_512 := by
  after_reads_simp

/-- The padded input of the short convolution. -/
theorem s56_v121 (V : Valuation τ sig (Elt Ideal)) : after hostOps0_6 (after hostOps0_5 V) (Proc.devRef .tc main_v121)
    = pad S8x4098x256 ![0, 2, 0] ![0, 0, 0] ![0, 0, 0] (prodF (V (Proc.devRef .tc main_v13))) (sitofp (F := Ideal) .f32 (constantI S_ 32 0#32)) pads_S8x4096x256_S8x4098x256_000_200_000 h_S_ := by
  after_reads_simp
  rfl

/-- The recurrent group is kept. -/
theorem s56_v116 (V : Valuation τ sig (Elt Ideal)) : after hostOps0_6 V (Proc.devRef .tc main_v116) = V (Proc.devRef .tc main_v116) := by
  after_reads_simp

/-- The third column group is kept. -/
theorem s56_v117 (V : Valuation τ sig (Elt Ideal)) : after hostOps0_6 V (Proc.devRef .tc main_v117) = V (Proc.devRef .tc main_v117) := by
  after_reads_simp

/-- The short convolution’s weights are kept. -/
theorem s56_arg8 (V : Valuation τ sig (Elt Ideal)) : after hostOps0_6 (after hostOps0_5 V) (Proc.devRef .tc main_arg8) = V (Proc.devRef .tc main_arg8) := by
  after_reads_simp

/-- The gains are kept. -/
theorem s56_arg13 (V : Valuation τ sig (Elt Ideal)) : after hostOps0_6 (after hostOps0_5 V) (Proc.devRef .tc main_arg13) = V (Proc.devRef .tc main_arg13) := by
  after_reads_simp

/-- The result, from the two groups. -/
theorem s7_v176 (V : Valuation τ sig (Elt Ideal)) : after hostOps0_7 V (Proc.devRef .tc main_v176)
    = outF (normF (V (Proc.devRef .tc main_v116)) (shapeCast S256 (extractStridedSlice S1x256 ![0, 0] (V (Proc.devRef .tc main_arg13)) slices_S4x256_S1x256_0_0) shapeCasts_S1x256_S256))
      (normF (shortF (V (Proc.devRef .tc main_v121)) (V (Proc.devRef .tc main_v117)) (V (Proc.devRef .tc main_arg8)))
        (shapeCast S256 (extractStridedSlice S1x256 ![1, 0] (V (Proc.devRef .tc main_arg13)) slices_S4x256_S1x256_1_0) shapeCasts_S1x256_S256)) := by
  after_reads_simp
  rfl

end Cert.Reference3Ideal.Mix
-- ==== Proof.MixRefRow.lean ====
/- The mixing reference's result, at an entry. -/
module

public import proofs.«01_k».proof.Proof.MixRef

@[expose] public section

set_option maxRecDepth 16384

noncomputable section

namespace Cert.Reference3Ideal.Mix

open Cert.Reference3Ideal Cert.Reference3Ideal.Gen Cert.Reference3Ideal.Value Idealize.ShloMosaic Idealize.ShloMosaic.TcCoe Idealize.SL.Sem
open Idealize.ShloMosaic.StableHlo

/-- The weights, of the reference's arguments. -/
def wts (g : FVec Ideal S1024 .f32) (w : FVec Ideal S1024x2704 .f32) (cw : FVec Ideal S4x256 .f32) (cb : FVec Ideal S256 .f32)
    (wg : FVec Ideal S2x4x64x64 .f32) (bg : FVec Ideal S2x256 .f32) (lam : FVec Ideal S256 .f32) (scw : FVec Ideal S3x256 .f32) (on : FVec Ideal S4x256 .f32) :
    MixRow.Wts where
  g k := g (ix1 k)
  w k j := w (ix2 k ⟨j, by omega⟩)
  cw j n := cw (ix2 j n)
  cb n := cb (ix1 n)
  wg j h i o := wg (ix4 j h i o)
  bg j n := bg (ix2 j n)
  lam n := lam (ix1 n)
  scw j n := scw (ix2 j n)
  on j n := on (ix2 ⟨j, by omega⟩ n)

/-- The sequence of batch `b`. -/
def seqOf (x : FVec Ideal S8x4096x1024 .f32) (b : Fin 8) (t : ℕ) (k : Fin 1024) : EReal := if h : t < 4096 then x (ix3 b ⟨t, h⟩ k) else 0

/-- What the reference computes of its arguments before the loop and after it, read by times. -/
structure Parts (W : MixRow.Wts) (X : Fin 8 → ℕ → Fin 1024 → EReal) (z : FVec Ideal S8x4096x2704 .f32) : Prop where
  row : ∀ (b : Fin 8) (t : Fin 4096) (j : Fin 1280), z (ix3 b t ⟨j, by omega⟩) = MixRow.zrow W (X b t) j

/-- Column group 0 of the projection. -/
theorem Parts.p0 {W : MixRow.Wts} {X : Fin 8 → ℕ → Fin 1024 → EReal} {z : FVec Ideal S8x4096x2704 .f32} (P : Parts W X z) (b : Fin 8) (t : Fin 4096) (n : Fin 256) :
    z (ix3 b t ⟨n, by omega⟩) = MixRow.part W (X b) 0 n t :=
  (P.row b t ⟨n, by omega⟩).trans (congrArg (MixRow.zrow W (X b t)) (Fin.ext (by show (n : ℕ) = 256 * 0 + n; omega)))

/-- Column group 1 of the projection. -/
theorem Parts.p1 {W : MixRow.Wts} {X : Fin 8 → ℕ → Fin 1024 → EReal} {z : FVec Ideal S8x4096x2704 .f32} (P : Parts W X z) (b : Fin 8) (t : Fin 4096) (n : Fin 256) :
    z (ix3 b t ⟨256 + n, by omega⟩) = MixRow.part W (X b) 1 n t :=
  (P.row b t ⟨256 + n, by omega⟩).trans (congrArg (MixRow.zrow W (X b t)) (Fin.ext (by show 256 + (n : ℕ) = 256 * 1 + n; omega)))

/-- Column group 2 of the projection. -/
theorem Parts.p2 {W : MixRow.Wts} {X : Fin 8 → ℕ → Fin 1024 → EReal} {z : FVec Ideal S8x4096x2704 .f32} (P : Parts W X z) (b : Fin 8) (t : Fin 4096) (n : Fin 256) :
    z (ix3 b t ⟨512 + n, by omega⟩) = MixRow.part W (X b) 2 n t :=
  (P.row b t ⟨512 + n, by omega⟩).trans (congrArg (MixRow.zrow W (X b t)) (Fin.ext (by show 512 + (n : ℕ) = 256 * 2 + n; omega)))

/-- Column group 3 of the projection. -/
theorem Parts.p3 {W : MixRow.Wts} {X : Fin 8 → ℕ → Fin 1024 → EReal} {z : FVec Ideal S8x4096x2704 .f32} (P : Parts W X z) (b : Fin 8) (t : Fin 4096) (n : Fin 256) :
    z (ix3 b t ⟨768 + n, by omega⟩) = MixRow.part W (X b) 3 n t :=
  (P.row b t ⟨768 + n, by omega⟩).trans (congrArg (MixRow.zrow W (X b t)) (Fin.ext (by show 768 + (n : ℕ) = 256 * 3 + n; omega)))

/-- Column group 4 of the projection. -/
theorem Parts.p4 {W : MixRow.Wts} {X : Fin 8 → ℕ → Fin 1024 → EReal} {z : FVec Ideal S8x4096x2704 .f32} (P : Parts W X z) (b : Fin 8) (t : Fin 4096) (n : Fin 256) :
    z (ix3 b t ⟨1024 + n, by omega⟩) = MixRow.part W (X b) 4 n t :=
  (P.row b t ⟨1024 + n, by omega⟩).trans (congrArg (MixRow.zrow W (X b t)) (Fin.ext (by show 1024 + (n : ℕ) = 256 * 4 + n; omega)))

/-- Rows with three zero rows before them, read `d` rows before row `t`. -/
theorem pad3_tap (s : ℕ → EReal) (z : FVec Ideal S8x4096x256 .f32) (b : Fin 8) (n : Fin 256) (hz : ∀ t : Fin 4096, z (ix3 b t n) = s t)
    (t : Fin 4096) (d : ℕ) (u : Fin 4099) (hu : (u : ℕ) + d = 3 + t) :
    pad S8x4099x256 ![0, 3, 0] ![0, 0, 0] ![0, 0, 0] z (sitofp (F := Ideal) .f32 (constantI S_ 32 0#32)) pads_S8x4096x256_S8x4099x256_000_300_000 h_S_ (ix3 b u n)
      = MixRow.tap s t d := by
  rw [pad3_apply]
  unfold MixRow.tap
  by_cases h : 3 ≤ (u : ℕ)
  · rw [dif_pos h, if_pos (by omega), hz]
    exact congrArg s (by show (u : ℕ) - 3 = t - d; omega)
  · rw [dif_neg h, if_neg (by omega)]

/-- Rows with two zero rows before them, read `d` rows before row `t`. -/
theorem pad2_tap (s : ℕ → EReal) (z : FVec Ideal S8x4096x256 .f32) (b : Fin 8) (n : Fin 256) (hz : ∀ t : Fin 4096, z (ix3 b t n) = s t)
    (t : Fin 4096) (d : ℕ) (u : Fin 4098) (hu : (u : ℕ) + d = 2 + t) :
    pad S8x4098x256 ![0, 2, 0] ![0, 0, 0] ![0, 0, 0] z (sitofp (F := Ideal) .f32 (constantI S_ 32 0#32)) pads_S8x4096x256_S8x4098x256_000_200_000 h_S_ (ix3 b u n)
      = MixRow.tap s t d := by
  rw [pad2_apply]
  unfold MixRow.tap
  by_cases h : 2 ≤ (u : ℕ)
  · rw [dif_pos h, if_pos (by omega), hz]
    exact congrArg s (by show (u : ℕ) - 2 = t - d; omega)
  · rw [dif_neg h, if_neg (by omega)]

/-- The tap at distance zero is the sequence itself. -/
theorem tap_zero (s : ℕ → EReal) (t : ℕ) : MixRow.tap s t 0 = s t := if_pos (Nat.zero_le t)

/-- The rows after the recurrence's convolution. -/
theorem xc_row {W : MixRow.Wts} {X : Fin 8 → ℕ → Fin 1024 → EReal} {z : FVec Ideal S8x4096x2704 .f32} (P : Parts W X z) (cw : FVec Ideal S4x256 .f32) (cb : FVec Ideal S256 .f32)
    (hw : ∀ j n, cw (ix2 j n) = W.cw j n) (hb : ∀ n, cb (ix1 n) = W.cb n) (b : Fin 8) (t : Fin 4096) (n : Fin 256) :
    convF (pad S8x4099x256 ![0, 3, 0] ![0, 0, 0] ![0, 0, 0] (extractStridedSlice S8x4096x256 ![0, 0, 0] z slices_S8x4096x2704_S8x4096x256_0_0_0)
      (sitofp (F := Ideal) .f32 (constantI S_ 32 0#32)) pads_S8x4096x256_S8x4099x256_000_300_000 h_S_) cw cb (ix3 b t n) = MixRow.xc W (X b) t n := by
  have hz : ∀ t : Fin 4096, extractStridedSlice S8x4096x256 ![0, 0, 0] z slices_S8x4096x2704_S8x4096x256_0_0_0 (ix3 b t n) = MixRow.part W (X b) 0 n t :=
    fun t => (part0_apply z b t n).trans (P.p0 b t n)
  rw [convF_apply, hw, hw, hw, hw, hb, pad3_tap _ _ b n hz t 0 _ (by show 3 + (t : ℕ) + 0 = 3 + t; omega),
    pad3_tap _ _ b n hz t 3 _ (by show (t : ℕ) + 3 = 3 + t; omega), pad3_tap _ _ b n hz t 2 _ (by show 1 + (t : ℕ) + 2 = 3 + t; omega),
    pad3_tap _ _ b n hz t 1 _ (by show 2 + (t : ℕ) + 1 = 3 + t; omega), tap_zero]
  rfl

/-- A gate of those rows. -/
theorem gate_row (W : MixRow.Wts) (j : Fin 2) (v : FVec Ideal S8x4096x256 .f32) (w : FVec Ideal S4x64x64 .f32) (bg : FVec Ideal S256 .f32) (b : Fin 8) (t : Fin 4096)
    (r : Fin 256 → EReal) (hv : ∀ n, v (ix3 b t n) = r n) (hw : ∀ h i o, w (ix3 h i o) = W.wg j h i o) (hb : ∀ n, bg (ix1 n) = W.bg j n) (n : Fin 256) :
    sigF (preF v w bg) (ix3 b t n) = MixRow.gate W j r n := by
  rw [sigF_apply, preF_apply, hb]
  unfold MixRow.gate
  congr 2
  exact Finset.sum_congr rfl fun i _ => by rw [hv, hw]

/-- The short convolution's rows. -/
theorem yb_row {W : MixRow.Wts} {X : Fin 8 → ℕ → Fin 1024 → EReal} {z : FVec Ideal S8x4096x2704 .f32} (P : Parts W X z) (cw : FVec Ideal S3x256 .f32)
    (hw : ∀ j n, cw (ix2 j n) = W.scw j n) (b : Fin 8) (t : Fin 4096) (n : Fin 256) :
    shortF (pad S8x4098x256 ![0, 2, 0] ![0, 0, 0] ![0, 0, 0] (prodF z)
      (sitofp (F := Ideal) .f32 (constantI S_ 32 0#32)) pads_S8x4096x256_S8x4098x256_000_200_000 h_S_)
      (extractStridedSlice S8x4096x256 ![0, 0, 512] z slices_S8x4096x2704_S8x4096x256_0_0_512) cw (ix3 b t n) = MixRow.yb W (X b) t n := by
  have hz : ∀ t : Fin 4096, prodF z (ix3 b t n) = MixRow.short W (X b) n t := fun t => by
    rw [prodF_apply, P.p3, P.p4]
    rfl
  rw [shortF_apply, hw, hw, hw, part2_apply, P.p2, pad2_tap _ _ b n hz t 0 _ (by show 2 + (t : ℕ) + 0 = 2 + t; omega),
    pad2_tap _ _ b n hz t 2 _ (by show (t : ℕ) + 2 = 2 + t; omega), pad2_tap _ _ b n hz t 1 _ (by show 1 + (t : ℕ) + 1 = 2 + t; omega), tap_zero]
  rfl

/-- The result, of the two groups' rows. -/
theorem out_row {W : MixRow.Wts} {X : Fin 8 → ℕ → Fin 1024 → EReal} (ya yb : FVec Ideal S8x4096x256 .f32) (g0 g1 : FVec Ideal S256 .f32) (b : Fin 8) (t : Fin 4096)
    (ha : ∀ n, ya (ix3 b t n) = MixRow.ya W (X b) t n) (hb : ∀ n, yb (ix3 b t n) = MixRow.yb W (X b) t n)
    (h0 : ∀ n, g0 (ix1 n) = W.on 0 n) (h1 : ∀ n, g1 (ix1 n) = W.on 1 n) (n : Fin 512) :
    outF (normF ya g0) (normF yb g1) (ix3 b t n) = MixRow.out W (X b) t n := by
  rw [outF_apply]
  unfold MixRow.out
  split
  · rw [normF_apply, funext ha, funext h0]
  · rw [normF_apply, funext hb, funext h1]

section

variable (m : (ℓ : Loc nD τ sig) → Buf (Elt Ideal) ℓ) (c : Dev nD)

/-- The contents before the loop, stretch by stretch. -/
def U0 : Valuation τ sig (Elt Ideal) := after hostOps0 (launchContents m c)
/-- The contents after the second stretch. -/
def U1 : Valuation τ sig (Elt Ideal) := after hostOps0_1 (U0 m c)
/-- The contents after the third stretch. -/
def U2 : Valuation τ sig (Elt Ideal) := after hostOps0_2 (U1 m c)

/-- The contents when the loop begins. -/
theorem entry_eq : entryContents preI m c = after hostOps0_4 (after hostOps0_3 (U2 m c)) := rfl

/-- An argument keeps its contents through the first two stretches. -/
theorem u0_keep (r : Ref sig .tc) (h0 : r ∉ hostOps0_W) : U0 m c (Proc.devRef .tc r) = m (c, Proc.devRef .tc r) :=
  after_of_writes_sub hostOps0 _ hostOps0_writes h0

/-- What the second stretch does not write stays. -/
theorem u1_keep (r : Ref sig .tc) (h1 : r ∉ hostOps0_1_W) : U1 m c (Proc.devRef .tc r) = U0 m c (Proc.devRef .tc r) :=
  after_of_writes_sub hostOps0_1 _ hostOps0_1_writes h1

/-- What no stretch before the loop writes after the first stays. -/
theorem entry_keep (r : Ref sig .tc) (h1 : r ∉ hostOps0_1_W) (h2 : r ∉ hostOps0_2_W) (h3 : r ∉ hostOps0_3_W) (h4 : r ∉ hostOps0_4_W) :
    entryContents preI m c (Proc.devRef .tc r) = U0 m c (Proc.devRef .tc r) := by
  rw [entry_eq]
  exact (after_of_writes_sub hostOps0_4 _ hostOps0_4_writes h4).trans ((after_of_writes_sub hostOps0_3 _ hostOps0_3_writes h3).trans
    ((after_of_writes_sub hostOps0_2 _ hostOps0_2_writes h2).trans (u1_keep m c r h1)))

/-- A buffer the loop does not write keeps its contents through it. -/
theorem loop_keep (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) (k : ℕ) : atK m k c (Proc.devRef .tc r) = entryContents preI m c (Proc.devRef .tc r) := by
  induction k with
  | zero => rfl
  | succ k ih =>
    rw [show atK m (k + 1) c = afterL bodyI (after condOps (atK m k c)) from rfl, ← ih]
    simp only [afterL_cons, afterL_nil]
    exact (after_of_writes_sub while0Ops0_4 _ while0Ops0_4_writes h4).trans ((after_of_writes_sub while0Ops0_3 _ while0Ops0_3_writes h3).trans
      ((after_of_writes_sub while0Ops0_2 _ while0Ops0_2_writes h2).trans ((after_of_writes_sub while0Ops0_1 _ while0Ops0_1_writes h1).trans
      ((after_of_writes_sub while0Ops0 _ while0Ops0_writes h0).trans (after_of_writes_sub condOps _ condOps_writes hc)))))

/-- The contents after the loop. -/
def U5 : Valuation τ sig (Elt Ideal) := after condOps (atK m 4096 c)

/-- What the loop does not write either stays. -/
theorem u5_keep (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) (g1 : r ∉ hostOps0_1_W) (g2 : r ∉ hostOps0_2_W) (g3 : r ∉ hostOps0_3_W) (g4 : r ∉ hostOps0_4_W) :
    U5 m c (Proc.devRef .tc r) = U0 m c (Proc.devRef .tc r) :=
  (after_of_writes_sub condOps _ condOps_writes hc).trans ((loop_keep m c r hc h0 h1 h2 h3 h4 4096).trans (entry_keep m c r g1 g2 g3 g4))

end

/-- The zero state. -/
theorem zeros_apply (i : Fin 8) (n : Fin 256) : broadcastInDim S8x256 ![] bcast_S_S8x256 (constant (F := Ideal) S_ .f32 0x00000000#32) (ix2 i n) = 0 := by
  pointwise

/-- The reference's result, on every batch and at every time: the two groups' normalised row. -/
theorem ref_entry (m : (ℓ : Loc nD τ sig) → Buf (Elt Ideal) ℓ) (c : Dev nD)
    (x : FVec Ideal S8x4096x1024 .f32) (g : FVec Ideal S1024 .f32) (w : FVec Ideal S1024x2704 .f32) (cw : FVec Ideal S4x256 .f32) (cb : FVec Ideal S256 .f32)
    (wg : FVec Ideal S2x4x64x64 .f32) (bg : FVec Ideal S2x256 .f32) (lam : FVec Ideal S256 .f32) (scw : FVec Ideal S3x256 .f32) (on : FVec Ideal S4x256 .f32)
    (e0 : m (c, Proc.devRef .tc main_arg0) = x) (e1 : m (c, Proc.devRef .tc main_arg1) = g) (e2 : m (c, Proc.devRef .tc main_arg2) = w)
    (e3 : m (c, Proc.devRef .tc main_arg3) = cw) (e4 : m (c, Proc.devRef .tc main_arg4) = cb) (e5 : m (c, Proc.devRef .tc main_arg5) = wg)
    (e6 : m (c, Proc.devRef .tc main_arg6) = bg) (e7 : m (c, Proc.devRef .tc main_arg7) = lam) (e8 : m (c, Proc.devRef .tc main_arg8) = scw)
    (e13 : m (c, Proc.devRef .tc main_arg13) = on) (b : Fin 8) (t : Fin 4096) (n : Fin 512) :
    (finalContents condOps preI bodyI postI 4096 m c (Proc.devRef .tc main_v176) : FVec Ideal S8x4096x512 .bf16) (ix3 b t n)
      = MixRow.out (wts g w cw cb wg bg lam scw on) (seqOf x b) t n := by
  have P : Parts (wts g w cw cb wg bg lam scw on) (seqOf x) (projF x g w) := ⟨fun b t j => by
    rw [projF_apply]
    unfold MixRow.zrow
    refine Finset.sum_congr rfl fun k _ => ?_
    have q : seqOf x b t = fun k => x (ix3 b t k) := funext fun k => dif_pos t.2
    rw [q]
    rfl⟩
  generalize hW : wts g w cw cb wg bg lam scw on = W at P ⊢
  have z13 : U0 m c (Proc.devRef .tc main_v13) = projF x g w := by
    rw [← e0, ← e1, ← e2]
    exact s0_v13 (launchContents m c)
  have z14 : U0 m c (Proc.devRef .tc main_v14) = extractStridedSlice S8x4096x256 ![0, 0, 0] (projF x g w) slices_S8x4096x2704_S8x4096x256_0_0_0 := by
    rw [← e0, ← e1, ← e2]
    exact s0_v14 (launchContents m c)
  have z15 : U0 m c (Proc.devRef .tc main_v15) = extractStridedSlice S8x4096x256 ![0, 0, 256] (projF x g w) slices_S8x4096x2704_S8x4096x256_0_0_256 := by
    rw [← e0, ← e1, ← e2]
    exact s0_v15 (launchContents m c)
  have z16 := s1_v16 (U0 m c) _ z14 (s0_c (launchContents m c))
  have a3 : U1 m c (Proc.devRef .tc main_arg3) = cw := (u1_keep m c _ (by decide)).trans ((u0_keep m c _ (by decide)).trans e3)
  have a4 : U1 m c (Proc.devRef .tc main_arg4) = cb := (u1_keep m c _ (by decide)).trans ((u0_keep m c _ (by decide)).trans e4)
  have a5 : U1 m c (Proc.devRef .tc main_arg5) = wg := (u1_keep m c _ (by decide)).trans ((u0_keep m c _ (by decide)).trans e5)
  have a6 : U1 m c (Proc.devRef .tc main_arg6) = bg := (u1_keep m c _ (by decide)).trans ((u0_keep m c _ (by decide)).trans e6)
  have a7 : U1 m c (Proc.devRef .tc main_arg7) = lam := (u1_keep m c _ (by decide)).trans ((u0_keep m c _ (by decide)).trans e7)
  have t48 := s2_v48 (U1 m c)
  have t65 := s2_v65 (U1 m c)
  have t81 := s2_v81 (U1 m c)
  have t82 := s2_v82 (U1 m c)
  rw [show U1 m c (Proc.devRef .tc main_v16) = _ from z16, a3, a4] at t48
  rw [show U1 m c (Proc.devRef .tc main_v16) = _ from z16, a3, a4, a5, a6] at t65 t81
  rw [a7] at t82
  have hx := xc_row P cw cb (fun j n => by rw [← hW]; rfl) (fun n => by rw [← hW]; rfl)
  generalize convF _ cw cb = xc at t48 t65 t81 hx
  have h0 := fun b t => gate_row W 0 xc _ _ b t _ (hx b t) (fun h i o => (blk0_apply wg h i o).trans (by rw [← hW]; rfl)) (fun n => (bias0_apply bg n).trans (by rw [← hW]; rfl))
  have h1 := fun b t => gate_row W 1 xc _ _ b t _ (hx b t) (fun h i o => (blk1_apply wg h i o).trans (by rw [← hW]; rfl)) (fun n => (bias1_apply bg n).trans (by rw [← hW]; rfl))
  have E0 := s34_v98 (U2 m c) lam t82
  have E1 := s34_v99 (U2 m c) lam t82
  rw [show U2 m c (Proc.devRef .tc main_v65) = _ from t65] at E0 E1
  rw [show U2 m c (Proc.devRef .tc main_v81) = _ from t81, show U2 m c (Proc.devRef .tc main_v48) = _ from t48] at E1
  generalize sigF _ = g0 at t65 h0 E0 E1
  generalize sigF _ = g1 at t81 h1 E1
  have hla : ∀ (t : Fin 4096) (b : Fin 8) (n : Fin 256), laF lam g0 (ix3 b t n) = MixRow.logA W (seqOf x b) n t := fun t b n => by
    rw [laF_apply, h0, ← hW]
    rfl
  have hfac : ∀ (t : Fin 4096) (b : Fin 8) (n : Fin 256), facF (laF lam g0) (ix3 t b n) = MixRow.fac W (seqOf x b) n t := fun t b n => by
    rw [facF_apply, hla]
    rfl
  have hinp : ∀ (t : Fin 4096) (b : Fin 8) (n : Fin 256), inpF (laF lam g0) g1 xc (ix3 t b n) = MixRow.inp W (seqOf x b) n t := fun t b n => by
    rw [inpF_apply, hla, h1, hx]
    rfl
  obtain ⟨-, -, -, -, H, eH, hH⟩ := loop_inv (entryContents preI m c) _ _ (fun b n => MixRow.fac W (seqOf x b) n) (fun b n => MixRow.inp W (seqOf x b) n)
    E0 E1 hfac hinp (s4_ctr _) _ (s4_h _) zeros_apply 4096 le_rfl
  have l4 : U5 m c (Proc.devRef .tc main_v101_4) = H :=
    (after_of_writes_sub condOps _ condOps_writes (by decide)).trans ((atK_agree m c 4096 main_v101_4 (by decide)).trans eH)
  have l13 : U5 m c (Proc.devRef .tc main_v13) = projF x g w :=
    (u5_keep m c _ (by decide) (by decide) (by decide) (by decide) (by decide) (by decide) (by decide) (by decide) (by decide) (by decide)).trans z13
  have l15 := (u5_keep m c main_v15 (by decide) (by decide) (by decide) (by decide) (by decide) (by decide) (by decide) (by decide) (by decide) (by decide)).trans z15
  have l8 : U5 m c (Proc.devRef .tc main_arg8) = scw :=
    (u5_keep m c _ (by decide) (by decide) (by decide) (by decide) (by decide) (by decide) (by decide) (by decide) (by decide) (by decide)).trans
      ((u0_keep m c _ (by decide)).trans e8)
  have l13' : U5 m c (Proc.devRef .tc main_arg13) = on :=
    (u5_keep m c _ (by decide) (by decide) (by decide) (by decide) (by decide) (by decide) (by decide) (by decide) (by decide) (by decide)).trans
      ((u0_keep m c _ (by decide)).trans e13)
  have w116 := (s56_v116 (after hostOps0_5 (U5 m c))).trans (s5_v116 (U5 m c))
  have w117 := (s56_v117 (after hostOps0_5 (U5 m c))).trans (s5_v117 (U5 m c))
  have w121 := s56_v121 (U5 m c)
  have w8 := (s56_arg8 (U5 m c)).trans l8
  have w13 := (s56_arg13 (U5 m c)).trans l13'
  rw [l4, l15] at w116
  rw [l13] at w117 w121
  have last := s7_v176 (after hostOps0_6 (after hostOps0_5 (U5 m c)))
  rw [w116, w117, w121, w8, w13] at last
  rw [show finalContents condOps preI bodyI postI 4096 m c (Proc.devRef .tc main_v176) = _ from last]
  refine out_row _ _ _ _ b t (fun n => ?_) (fun n => yb_row P scw (fun j n => by rw [← hW]; rfl) b t n)
    (fun n => (gain0_apply on n).trans (by rw [← hW]; rfl)) (fun n => (gain1_apply on n).trans (by rw [← hW]; rfl)) n
  rw [yaF_apply, hH t b n t.2, part1_apply, P.p1]
  rfl

end Cert.Reference3Ideal.Mix
-- ==== Proof.MixTie.lean ====
/- The mixing kernel's first result array is its reference's result; what the reference's run leaves. -/
module

public import proofs.«01_k».proof.Proof.MixArr
public import proofs.«01_k».proof.Proof.MixRefRow

@[expose] public section

set_option maxRecDepth 16384

noncomputable section

namespace Cert.Reference3Ideal.Mix

open Cert.Reference3Ideal Cert.Reference3Ideal.Gen Cert.Reference3Ideal.Value Idealize.ShloMosaic Idealize.ShloMosaic.TcCoe Idealize.SL.Sem
open Idealize.ShloMosaic.StableHlo

/-- The operations after the loop write no argument. -/
theorem post_args (V : Valuation τ sig (Elt Ideal)) :
    after hostOps0_7 (after hostOps0_6 (after hostOps0_5 V)) (Proc.devRef .tc main_arg0) = V (Proc.devRef .tc main_arg0)
    ∧ after hostOps0_7 (after hostOps0_6 (after hostOps0_5 V)) (Proc.devRef .tc main_arg1) = V (Proc.devRef .tc main_arg1)
    ∧ after hostOps0_7 (after hostOps0_6 (after hostOps0_5 V)) (Proc.devRef .tc main_arg2) = V (Proc.devRef .tc main_arg2)
    ∧ after hostOps0_7 (after hostOps0_6 (after hostOps0_5 V)) (Proc.devRef .tc main_arg3) = V (Proc.devRef .tc main_arg3)
    ∧ after hostOps0_7 (after hostOps0_6 (after hostOps0_5 V)) (Proc.devRef .tc main_arg4) = V (Proc.devRef .tc main_arg4)
    ∧ after hostOps0_7 (after hostOps0_6 (after hostOps0_5 V)) (Proc.devRef .tc main_arg5) = V (Proc.devRef .tc main_arg5)
    ∧ after hostOps0_7 (after hostOps0_6 (after hostOps0_5 V)) (Proc.devRef .tc main_arg6) = V (Proc.devRef .tc main_arg6)
    ∧ after hostOps0_7 (after hostOps0_6 (after hostOps0_5 V)) (Proc.devRef .tc main_arg7) = V (Proc.devRef .tc main_arg7)
    ∧ after hostOps0_7 (after hostOps0_6 (after hostOps0_5 V)) (Proc.devRef .tc main_arg8) = V (Proc.devRef .tc main_arg8)
    ∧ after hostOps0_7 (after hostOps0_6 (after hostOps0_5 V)) (Proc.devRef .tc main_arg9) = V (Proc.devRef .tc main_arg9)
    ∧ after hostOps0_7 (after hostOps0_6 (after hostOps0_5 V)) (Proc.devRef .tc main_arg10) = V (Proc.devRef .tc main_arg10)
    ∧ after hostOps0_7 (after hostOps0_6 (after hostOps0_5 V)) (Proc.devRef .tc main_arg11) = V (Proc.devRef .tc main_arg11)
    ∧ after hostOps0_7 (after hostOps0_6 (after hostOps0_5 V)) (Proc.devRef .tc main_arg12) = V (Proc.devRef .tc main_arg12)
    ∧ after hostOps0_7 (after hostOps0_6 (after hostOps0_5 V)) (Proc.devRef .tc main_arg13) = V (Proc.devRef .tc main_arg13) := by
  refine ⟨?_, ?_, ?_, ?_, ?_, ?_, ?_, ?_, ?_, ?_, ?_, ?_, ?_, ?_⟩ <;> after_reads_simp

/-- An argument keeps its contents up to the end of the loop. -/
theorem loop_arg (m : (ℓ : Loc nD τ sig) → Buf (Elt Ideal) ℓ) (c : Dev nD) (r : Ref sig .tc) (h : r ∉ hostOps0_W) (hc : r ∉ condOps_W) (h0 : r ∉ while0Ops0_W) (h1 : r ∉ while0Ops0_1_W)
    (h2 : r ∉ while0Ops0_2_W) (h3 : r ∉ while0Ops0_3_W) (h4 : r ∉ while0Ops0_4_W) (g1 : r ∉ hostOps0_1_W) (g2 : r ∉ hostOps0_2_W) (g3 : r ∉ hostOps0_3_W) (g4 : r ∉ hostOps0_4_W) :
    U5 m c (Proc.devRef .tc r) = m (c, Proc.devRef .tc r) :=
  (u5_keep m c r hc h0 h1 h2 h3 h4 g1 g2 g3 g4).trans (u0_keep m c r h)

/-- The reference's arguments end as they began. -/
theorem final_args (m : (ℓ : Loc nD τ sig) → Buf (Elt Ideal) ℓ) (c : Dev nD) :
    finalContents condOps preI bodyI postI 4096 m c (Proc.devRef .tc main_arg0) = m (c, Proc.devRef .tc main_arg0)
    ∧ finalContents condOps preI bodyI postI 4096 m c (Proc.devRef .tc main_arg1) = m (c, Proc.devRef .tc main_arg1)
    ∧ finalContents condOps preI bodyI postI 4096 m c (Proc.devRef .tc main_arg2) = m (c, Proc.devRef .tc main_arg2)
    ∧ finalContents condOps preI bodyI postI 4096 m c (Proc.devRef .tc main_arg3) = m (c, Proc.devRef .tc main_arg3)
    ∧ finalContents condOps preI bodyI postI 4096 m c (Proc.devRef .tc main_arg4) = m (c, Proc.devRef .tc main_arg4)
    ∧ finalContents condOps preI bodyI postI 4096 m c (Proc.devRef .tc main_arg5) = m (c, Proc.devRef .tc main_arg5)
    ∧ finalContents condOps preI bodyI postI 4096 m c (Proc.devRef .tc main_arg6) = m (c, Proc.devRef .tc main_arg6)
    ∧ finalContents condOps preI bodyI postI 4096 m c (Proc.devRef .tc main_arg7) = m (c, Proc.devRef .tc main_arg7)
    ∧ finalContents condOps preI bodyI postI 4096 m c (Proc.devRef .tc main_arg8) = m (c, Proc.devRef .tc main_arg8)
    ∧ finalContents condOps preI bodyI postI 4096 m c (Proc.devRef .tc main_arg9) = m (c, Proc.devRef .tc main_arg9)
    ∧ finalContents condOps preI bodyI postI 4096 m c (Proc.devRef .tc main_arg10) = m (c, Proc.devRef .tc main_arg10)
    ∧ finalContents condOps preI bodyI postI 4096 m c (Proc.devRef .tc main_arg11) = m (c, Proc.devRef .tc main_arg11)
    ∧ finalContents condOps preI bodyI postI 4096 m c (Proc.devRef .tc main_arg12) = m (c, Proc.devRef .tc main_arg12)
    ∧ finalContents condOps preI bodyI postI 4096 m c (Proc.devRef .tc main_arg13) = m (c, Proc.devRef .tc main_arg13) := by
  obtain ⟨p0, p1, p2, p3, p4, p5, p6, p7, p8, p9, p10, p11, p12, p13⟩ := post_args (U5 m c)
  exact ⟨p0.trans (loop_arg m c _ (by decide) (by decide) (by decide) (by decide) (by decide) (by decide) (by decide) (by decide) (by decide) (by decide) (by decide)),
    p1.trans (loop_arg m c _ (by decide) (by decide) (by decide) (by decide) (by decide) (by decide) (by decide) (by decide) (by decide) (by decide) (by decide)),
    p2.trans (loop_arg m c _ (by decide) (by decide) (by decide) (by decide) (by decide) (by decide) (by decide) (by decide) (by decide) (by decide) (by decide)),
    p3.trans (loop_arg m c _ (by decide) (by decide) (by decide) (by decide) (by decide) (by decide) (by decide) (by decide) (by decide) (by decide) (by decide)),
    p4.trans (loop_arg m c _ (by decide) (by decide) (by decide) (by decide) (by decide) (by decide) (by decide) (by decide) (by decide) (by decide) (by decide)),
    p5.trans (loop_arg m c _ (by decide) (by decide) (by decide) (by decide) (by decide) (by decide) (by decide) (by decide) (by decide) (by decide) (by decide)),
    p6.trans (loop_arg m c _ (by decide) (by decide) (by decide) (by decide) (by decide) (by decide) (by decide) (by decide) (by decide) (by decide) (by decide)),
    p7.trans (loop_arg m c _ (by decide) (by decide) (by decide) (by decide) (by decide) (by decide) (by decide) (by decide) (by decide) (by decide) (by decide)),
    p8.trans (loop_arg m c _ (by decide) (by decide) (by decide) (by decide) (by decide) (by decide) (by decide) (by decide) (by decide) (by decide) (by decide)),
    p9.trans (loop_arg m c _ (by decide) (by decide) (by decide) (by decide) (by decide) (by decide) (by decide) (by decide) (by decide) (by decide) (by decide)),
    p10.trans (loop_arg m c _ (by decide) (by decide) (by decide) (by decide) (by decide) (by decide) (by decide) (by decide) (by decide) (by decide) (by decide)),
    p11.trans (loop_arg m c _ (by decide) (by decide) (by decide) (by decide) (by decide) (by decide) (by decide) (by decide) (by decide) (by decide) (by decide)),
    p12.trans (loop_arg m c _ (by decide) (by decide) (by decide) (by decide) (by decide) (by decide) (by decide) (by decide) (by decide) (by decide) (by decide)),
    p13.trans (loop_arg m c _ (by decide) (by decide) (by decide) (by decide) (by decide) (by decide) (by decide) (by decide) (by decide) (by decide) (by decide))⟩

/-- The reference's run: its result, and its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v176) = finalContents condOps preI bodyI postI 4096 m c (Proc.devRef .tc main_v176)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    obtain ⟨a0, a1, a2, a3, a4, a5, a6, a7, a8, a9, a10, a11, a12, a13⟩ := final_args m c
    exact ⟨h c _ rfl, (h c _ rfl).trans a0, (h c _ rfl).trans a1, (h c _ rfl).trans a2, (h c _ rfl).trans a3, (h c _ rfl).trans a4, (h c _ rfl).trans a5, (h c _ rfl).trans a6, (h c _ rfl).trans a7, (h c _ rfl).trans a8, (h c _ rfl).trans a9, (h c _ rfl).trans a10, (h c _ rfl).trans a11, (h c _ rfl).trans a12, (h c _ rfl).trans a13⟩) (run_fold m ρ)

end Cert.Reference3Ideal.Mix

namespace Cert.Kernel3Ideal.Mix

open Cert.Kernel3Ideal Cert.Kernel3Ideal.Gen Idealize.ShloMosaic Idealize.ShloMosaic.TcCoe Idealize.SL.Sem
open Idealize.ShloMosaic.StableHlo (finalContents)

/-- From memories that agree on the arguments, the reference's result is the first array the kernel's run leaves. -/
theorem tie (m : (ℓ : Loc nD τ sig) → Buf (Elt Ideal) ℓ)
    (m' : (ℓ : Loc Cert.Reference3Ideal.nD Cert.Reference3Ideal.τ Cert.Reference3Ideal.sig) → Buf (Elt Ideal) ℓ) (c : Dev nD)
    (h0 : m' ((c.tc : Thread Cert.Reference3Ideal.nD Cert.Reference3Ideal.τ).loc Cert.Reference3Ideal.main_arg0) = m ((c.tc : Thread nD τ).loc main_arg0))
    (h1 : m' ((c.tc : Thread Cert.Reference3Ideal.nD Cert.Reference3Ideal.τ).loc Cert.Reference3Ideal.main_arg1) = m ((c.tc : Thread nD τ).loc main_arg1))
    (h2 : m' ((c.tc : Thread Cert.Reference3Ideal.nD Cert.Reference3Ideal.τ).loc Cert.Reference3Ideal.main_arg2) = m ((c.tc : Thread nD τ).loc main_arg2))
    (h3 : m' ((c.tc : Thread Cert.Reference3Ideal.nD Cert.Reference3Ideal.τ).loc Cert.Reference3Ideal.main_arg3) = m ((c.tc : Thread nD τ).loc main_arg3))
    (h4 : m' ((c.tc : Thread Cert.Reference3Ideal.nD Cert.Reference3Ideal.τ).loc Cert.Reference3Ideal.main_arg4) = m ((c.tc : Thread nD τ).loc main_arg4))
    (h5 : m' ((c.tc : Thread Cert.Reference3Ideal.nD Cert.Reference3Ideal.τ).loc Cert.Reference3Ideal.main_arg5) = m ((c.tc : Thread nD τ).loc main_arg5))
    (h6 : m' ((c.tc : Thread Cert.Reference3Ideal.nD Cert.Reference3Ideal.τ).loc Cert.Reference3Ideal.main_arg6) = m ((c.tc : Thread nD τ).loc main_arg6))
    (h7 : m' ((c.tc : Thread Cert.Reference3Ideal.nD Cert.Reference3Ideal.τ).loc Cert.Reference3Ideal.main_arg7) = m ((c.tc : Thread nD τ).loc main_arg7))
    (h8 : m' ((c.tc : Thread Cert.Reference3Ideal.nD Cert.Reference3Ideal.τ).loc Cert.Reference3Ideal.main_arg8) = m ((c.tc : Thread nD τ).loc main_arg8))
    (h13 : m' ((c.tc : Thread Cert.Reference3Ideal.nD Cert.Reference3Ideal.τ).loc Cert.Reference3Ideal.main_arg13) = m ((c.tc : Thread nD τ).loc main_arg13)) :
    finalContents Cert.Reference3Ideal.Value.condOps Cert.Reference3Ideal.Value.preI Cert.Reference3Ideal.Value.bodyI Cert.Reference3Ideal.Value.postI 4096 m' c
      (Proc.devRef .tc Cert.Reference3Ideal.main_v176) = (dats m 0 c).arrAt 17 cfg0.N := by
  rw [arr_eq]
  funext y
  obtain ⟨b, t, n, rfl⟩ : ∃ (b : Fin 8) (t : Fin 4096) (n : Fin 512), y = ix3 b t n := ⟨y 0, y 1, y 2, by idx_vars y⟩
  exact Cert.Reference3Ideal.Mix.ref_entry m' c _ _ _ _ _ _ _ _ _ _ h0 h1 h2 h3 h4 h5 h6 h7 h8 h13 b t n

end Cert.Kernel3Ideal.Mix
-- ==== Proof.lean ====
/- The claims about the forgetting attention (`Kernel`), the output projection with the feed-forward (`Kernel2`) and the
   input projection with the gated recurrence and the short convolution (`Kernel3`), put together from the modules of
   Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite_qkc
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.FfnTie
public import proofs.«01_k».proof.Proof.FoxTie
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.MixTie
public import Idealize.ShloMosaic.Adequacy
public import Idealize.ShloMosaic.Init

@[expose] public section

noncomputable section

namespace Cert.Proof

open Idealize.ShloMosaic Idealize.SL.Sem Cert.Kernel

/-- The attention's reference runs and leaves its arguments as they were. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩) (Cert.ReferenceIdeal.Value.run m g)

/-- The feed-forward's reference runs and leaves its arguments as they were. -/
theorem frame_reference2 : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩) (Cert.Reference2Ideal.Value.run m g)

/-- The attention equals its reference at every entry, for finite queries, keys and gates. -/
theorem algebraic_fox : Cert.algebraic_KernelIdeal_ReferenceIdeal_pre_finite_qkc (hKernelIdeal := Cert.KernelIdeal.Gen.facts) (hReferenceIdeal := Cert.ReferenceIdeal.Gen.facts) (hPre_finite_qkc := Cert.Pre_finite_qkc.Gen.facts) := fun m g m' g' hf hagree =>
  ⟨fun c => (Cert.KernelIdeal.Gen.dats m 0 c).arrAt 4 Cert.KernelIdeal.cfg0.N,
    Cert.KernelIdeal.Value.run_blocks m g,
    (θ_run Cert.ReferenceIdeal.defs _ _).mono (fun r h c => by
      obtain ⟨h0, h1, h2, h3, h4⟩ := hagree c
      exact ⟨(h c).1.trans (@Cert.KernelIdeal.Fox.tie m m' c Cert.Pre_finite_qkc.Gen.facts hf h0 h1 h2 h3 h4), (h c).2⟩) (Cert.ReferenceIdeal.Value.run m' g')⟩

/-- The feed-forward equals its reference at every entry. -/
theorem algebraic_ffn : Cert.algebraic_Kernel2Ideal_Reference2Ideal (hKernel2Ideal := Cert.Kernel2Ideal.Gen.facts) (hReference2Ideal := Cert.Reference2Ideal.Gen.facts) := fun m g m' g' _ hagree =>
  ⟨fun c => (Cert.Kernel2Ideal.Gen.dats m 0 c).arrAt 8 Cert.Kernel2Ideal.cfg0.N,
    Cert.Kernel2Ideal.Value.run_blocks m g,
    (θ_run Cert.Reference2Ideal.defs _ _).mono (fun r h c => by
      obtain ⟨h0, h1, h2, h3, h4, h5, h6, h7⟩ := hagree c
      exact ⟨(h c).1.trans (Cert.Kernel2Ideal.Ffn.tie m m' c h0 h1 h2 h3 h4 h5 h6 h7), (h c).2⟩) (Cert.Reference2Ideal.Value.run m' g')⟩

/-- The mixing's reference runs and leaves its arguments as they were. -/
theorem frame_reference3 : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩) (Cert.Reference3Ideal.Mix.run m g)

/-- The mixing's first result equals its reference at every entry. -/
theorem algebraic_mix : Cert.algebraic_Kernel3Ideal_Reference3Ideal (hKernel3Ideal := Cert.Kernel3Ideal.Gen.facts) (hReference3Ideal := Cert.Reference3Ideal.Gen.facts) := fun m g m' g' _ hagree =>
  ⟨fun c => (Cert.Kernel3Ideal.Gen.dats m 0 c).arrAt 17 Cert.Kernel3Ideal.cfg0.N,
    (θ_run Cert.Kernel3Ideal.defs _ _).mono (fun r h c => by
      obtain ⟨h0, -, -, -, -, -, -, -, -, -, -, ha⟩ := h c
      exact ⟨h0, ha⟩) (Cert.Kernel3Ideal.Value.run_blocks m g),
    (θ_run Cert.Reference3Ideal.defs _ _).mono (fun r h c => by
      obtain ⟨h0, h1, h2, h3, h4, h5, h6, h7, h8, -, -, -, -, h13⟩ := hagree c
      exact ⟨(h c).1.trans (Cert.Kernel3Ideal.Mix.tie m m' c h0 h1 h2 h3 h4 h5 h6 h7 h8 h13), (h c).2⟩) (Cert.Reference3Ideal.Mix.run m' g')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite_qkc.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  fun m g _ => Cert.Kernel2.Gen.frame m g,
  fun m g _ => Cert.Kernel2Ideal.Gen.frame m g,
  frame_reference2,
  fun m g _ => Cert.Kernel3.Gen.frame m g,
  fun m g _ => Cert.Kernel3Ideal.Gen.frame m g,
  frame_reference3,
  ⟨IdealRules.named_const.statement Cert.KernelIdeal.κ "mask" .f32 _ _ rfl, IdealRules.named_const.statement Cert.KernelIdeal.κ "log2e" .f32 _ _ rfl⟩,
  algebraic_fox,
  trivial,
  algebraic_ffn,
  trivial,
  algebraic_mix⟩

end Cert.Proof

end
